-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_down [hPre_finite_down : Cert.Pre_finite_down.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_down.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_down [hPre_finite_down : Cert.Pre_finite_down.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_down.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Kernel23Ideal_finite_lb [hPre_finite_lb : Cert.Pre_finite_lb.Facts] (m : (ℓ : Loc Cert.Kernel23Ideal.nD Cert.Kernel23Ideal.τ Cert.Kernel23Ideal.sig) → Buf (Elt Ideal) ℓ) : Prop :=
  ∀ c : Dev Cert.Kernel23Ideal.nD,
    (Cert.Pre_finite_lb.fn (F := Ideal) (m ((c.tc : Thread Cert.Kernel23Ideal.nD Cert.Kernel23Ideal.τ).loc Cert.Kernel23Ideal.main_arg0)) (m ((c.tc : Thread Cert.Kernel23Ideal.nD Cert.Kernel23Ideal.τ).loc Cert.Kernel23Ideal.main_arg1))) = (fun _ => 1#1)

def Pre_Reference23Ideal (m : (ℓ : Loc Cert.Reference23Ideal.nD Cert.Reference23Ideal.τ Cert.Reference23Ideal.sig) → Buf (Elt Ideal) ℓ) : Prop :=
  True

def Pre_Reference23Ideal_finite_lb [hPre_finite_lb : Cert.Pre_finite_lb.Facts] (m : (ℓ : Loc Cert.Reference23Ideal.nD Cert.Reference23Ideal.τ Cert.Reference23Ideal.sig) → Buf (Elt Ideal) ℓ) : Prop :=
  ∀ c : Dev Cert.Reference23Ideal.nD,
    (Cert.Pre_finite_lb.fn (F := Ideal) (m ((c.tc : Thread Cert.Reference23Ideal.nD Cert.Reference23Ideal.τ).loc Cert.Reference23Ideal.main_arg0)) (m ((c.tc : Thread Cert.Reference23Ideal.nD Cert.Reference23Ideal.τ).loc Cert.Reference23Ideal.main_arg1))) = (fun _ => 1#1)

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_down [hKernel2Ideal : Cert.Kernel2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_down m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_down [hReference2Ideal : Cert.Reference2Ideal.Facts] [hPre_finite_down : Cert.Pre_finite_down.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_down m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Kernel23Ideal_pre_finite_lb [hKernel23Ideal : Cert.Kernel23Ideal.Facts] [hPre_finite_lb : Cert.Pre_finite_lb.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal_finite_lb m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Reference23Ideal_pre_finite_lb [hReference23Ideal : Cert.Reference23Ideal.Facts] [hPre_finite_lb : Cert.Pre_finite_lb.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal_finite_lb m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal_pre_finite_down [hKernel2Ideal : Cert.Kernel2Ideal.Facts] [hReference2Ideal : Cert.Reference2Ideal.Facts] [hPre_finite_down : Cert.Pre_finite_down.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_down m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v8_0)) (v1 : (c : Dev Cert.Kernel3Ideal.nD) → Buf (Elt Ideal) ((c.tc : Thread Cert.Kernel3Ideal.nD Cert.Kernel3Ideal.τ).loc Cert.Kernel3Ideal.main_v8_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8_0) = v0 c
          ∧ r.2.mem ((c.tc : Thread Cert.Kernel3Ideal.nD Cert.Kernel3Ideal.τ).loc Cert.Kernel3Ideal.main_v8_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v35) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_v38) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v33) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v16) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v4_0)) (v1 : (c : Dev Cert.Kernel10Ideal.nD) → Buf (Elt Ideal) ((c.tc : Thread Cert.Kernel10Ideal.nD Cert.Kernel10Ideal.τ).loc Cert.Kernel10Ideal.main_v4_1)) (v2 : (c : Dev Cert.Kernel10Ideal.nD) → Buf (Elt Ideal) ((c.tc : Thread Cert.Kernel10Ideal.nD Cert.Kernel10Ideal.τ).loc Cert.Kernel10Ideal.main_v4_2)) (v3 : (c : Dev Cert.Kernel10Ideal.nD) → Buf (Elt Ideal) ((c.tc : Thread Cert.Kernel10Ideal.nD Cert.Kernel10Ideal.τ).loc Cert.Kernel10Ideal.main_v4_3)) (v4 : (c : Dev Cert.Kernel10Ideal.nD) → Buf (Elt Ideal) ((c.tc : Thread Cert.Kernel10Ideal.nD Cert.Kernel10Ideal.τ).loc Cert.Kernel10Ideal.main_v4_4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4_0) = v0 c
          ∧ r.2.mem ((c.tc : Thread Cert.Kernel10Ideal.nD Cert.Kernel10Ideal.τ).loc Cert.Kernel10Ideal.main_v4_1) = v1 c
          ∧ r.2.mem ((c.tc : Thread Cert.Kernel10Ideal.nD Cert.Kernel10Ideal.τ).loc Cert.Kernel10Ideal.main_v4_2) = v2 c
          ∧ r.2.mem ((c.tc : Thread Cert.Kernel10Ideal.nD Cert.Kernel10Ideal.τ).loc Cert.Kernel10Ideal.main_v4_3) = v3 c
          ∧ r.2.mem ((c.tc : Thread Cert.Kernel10Ideal.nD Cert.Kernel10Ideal.τ).loc Cert.Kernel10Ideal.main_v4_4) = v4 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v23) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v25) = v2 c
          ∧ r.2.mem ((c.tc : Thread Cert.Reference10Ideal.nD Cert.Reference10Ideal.τ).loc Cert.Reference10Ideal.main_v39) = v3 c
          ∧ r.2.mem ((c.tc : Thread Cert.Reference10Ideal.nD Cert.Reference10Ideal.τ).loc Cert.Reference10Ideal.main_v22) = v4 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v5) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  IdealRules.named_const.Statement Cert.Kernel14Ideal.κ "m_scale" .f32 0x3FC48605#32 ((8388608 / 5463681 : ℝ) : EReal)
  ∧ IdealRules.named_const.Statement Cert.Kernel14Ideal.κ "v_scale" .f32 0x42C8E6D3#32 ((268435456 / 2672307 : ℝ) : EReal)

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v23) = v0 c
          ∧ r.2.mem ((c.tc : Thread Cert.Reference14Ideal.nD Cert.Reference14Ideal.τ).loc Cert.Reference14Ideal.main_v4) = v1 c
          ∧ r.2.mem ((c.tc : Thread Cert.Reference14Ideal.nD Cert.Reference14Ideal.τ).loc Cert.Reference14Ideal.main_v10) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  IdealRules.named_const.Statement Cert.Kernel15Ideal.κ "m_scale" .f32 0x3FC48605#32 ((8388608 / 5463681 : ℝ) : EReal)
  ∧ IdealRules.named_const.Statement Cert.Kernel15Ideal.κ "v_scale" .f32 0x42C8E6D3#32 ((268435456 / 2672307 : ℝ) : EReal)

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v4) = v1 c
          ∧ r.2.mem ((c.tc : Thread Cert.Reference15Ideal.nD Cert.Reference15Ideal.τ).loc Cert.Reference15Ideal.main_v10) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  IdealRules.named_const.Statement Cert.Kernel16Ideal.κ "m_scale" .f32 0x3FC48605#32 ((8388608 / 5463681 : ℝ) : EReal)
  ∧ IdealRules.named_const.Statement Cert.Kernel16Ideal.κ "v_scale" .f32 0x42C8E6D3#32 ((268435456 / 2672307 : ℝ) : EReal)

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v4) = v1 c
          ∧ r.2.mem ((c.tc : Thread Cert.Reference16Ideal.nD Cert.Reference16Ideal.τ).loc Cert.Reference16Ideal.main_v10) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  IdealRules.named_const.Statement Cert.Kernel17Ideal.κ "m_scale" .f32 0x3FC48605#32 ((8388608 / 5463681 : ℝ) : EReal)
  ∧ IdealRules.named_const.Statement Cert.Kernel17Ideal.κ "v_scale" .f32 0x42C8E6D3#32 ((268435456 / 2672307 : ℝ) : EReal)

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v23) = v0 c
          ∧ r.2.mem ((c.tc : Thread Cert.Reference17Ideal.nD Cert.Reference17Ideal.τ).loc Cert.Reference17Ideal.main_v4) = v1 c
          ∧ r.2.mem ((c.tc : Thread Cert.Reference17Ideal.nD Cert.Reference17Ideal.τ).loc Cert.Reference17Ideal.main_v10) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  IdealRules.named_const.Statement Cert.Kernel18Ideal.κ "m_scale" .f32 0x3FC48605#32 ((8388608 / 5463681 : ℝ) : EReal)
  ∧ IdealRules.named_const.Statement Cert.Kernel18Ideal.κ "v_scale" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v23) = v0 c
          ∧ r.2.mem ((c.tc : Thread Cert.Reference18Ideal.nD Cert.Reference18Ideal.τ).loc Cert.Reference18Ideal.main_v4) = v1 c
          ∧ r.2.mem ((c.tc : Thread Cert.Reference18Ideal.nD Cert.Reference18Ideal.τ).loc Cert.Reference18Ideal.main_v10) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "m_scale" .f32 0x3FC48605#32 ((8388608 / 5463681 : ℝ) : EReal)
  ∧ IdealRules.named_const.Statement Cert.Kernel19Ideal.κ "v_scale" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "m_scale" .f32 0x3FC48605#32 ((8388608 / 5463681 : ℝ) : EReal)
  ∧ IdealRules.named_const.Statement Cert.Kernel20Ideal.κ "v_scale" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v23) = v0 c
          ∧ r.2.mem ((c.tc : Thread Cert.Reference20Ideal.nD Cert.Reference20Ideal.τ).loc Cert.Reference20Ideal.main_v4) = v1 c
          ∧ r.2.mem ((c.tc : Thread Cert.Reference20Ideal.nD Cert.Reference20Ideal.τ).loc Cert.Reference20Ideal.main_v10) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v1) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v1) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0))

def preserves_Kernel23_Kernel23Ideal : Prop :=
  True

def algebraic_Kernel23Ideal_Reference23Ideal_pre_finite_lb [hKernel23Ideal : Cert.Kernel23Ideal.Facts] [hReference23Ideal : Cert.Reference23Ideal.Facts] [hPre_finite_lb : Cert.Pre_finite_lb.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal_finite_lb m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v50) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1_0)) (v1 : (c : Dev Cert.Kernel25Ideal.nD) → Buf (Elt Ideal) ((c.tc : Thread Cert.Kernel25Ideal.nD Cert.Kernel25Ideal.τ).loc Cert.Kernel25Ideal.main_v1_1)) (v2 : (c : Dev Cert.Kernel25Ideal.nD) → Buf (Elt Ideal) ((c.tc : Thread Cert.Kernel25Ideal.nD Cert.Kernel25Ideal.τ).loc Cert.Kernel25Ideal.main_v1_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1_0) = v0 c
          ∧ r.2.mem ((c.tc : Thread Cert.Kernel25Ideal.nD Cert.Kernel25Ideal.τ).loc Cert.Kernel25Ideal.main_v1_1) = v1 c
          ∧ r.2.mem ((c.tc : Thread Cert.Kernel25Ideal.nD Cert.Kernel25Ideal.τ).loc Cert.Kernel25Ideal.main_v1_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v50) = v0 c
          ∧ r.2.mem ((c.tc : Thread Cert.Reference25Ideal.nD Cert.Reference25Ideal.τ).loc Cert.Reference25Ideal.main_v51) = v1 c
          ∧ r.2.mem ((c.tc : Thread Cert.Reference25Ideal.nD Cert.Reference25Ideal.τ).loc Cert.Reference25Ideal.main_v52) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v6) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v9) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v9) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v8) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hPre_finite_down : Cert.Pre_finite_down.Facts) (hPre_finite_lb : Cert.Pre_finite_lb.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite_down (hKernel2Ideal := hKernel2Ideal) (hPre_finite_down := hPre_finite_down)
    ∧ quiescent_Reference2Ideal (hReference2Ideal := hReference2Ideal)
    ∧ quiescent_Reference2Ideal_pre_finite_down (hReference2Ideal := hReference2Ideal) (hPre_finite_down := hPre_finite_down)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Kernel23Ideal_pre_finite_lb (hKernel23Ideal := hKernel23Ideal) (hPre_finite_lb := hPre_finite_lb)
    ∧ quiescent_Reference23Ideal (hReference23Ideal := hReference23Ideal)
    ∧ quiescent_Reference23Ideal_pre_finite_lb (hReference23Ideal := hReference23Ideal) (hPre_finite_lb := hPre_finite_lb)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite_down (hKernel2Ideal := hKernel2Ideal) (hReference2Ideal := hReference2Ideal) (hPre_finite_down := hPre_finite_down)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal_pre_finite_lb (hKernel23Ideal := hKernel23Ideal) (hReference23Ideal := hReference23Ideal) (hPre_finite_lb := hPre_finite_lb)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
-- ==== Pre_finite_down.lean ====
abbrev S16384x1024 : Shape := ⟨2, ![16384, 1024]⟩
abbrev S1024x2816 : Shape := ⟨2, ![1024, 2816]⟩
abbrev S2816x1024 : Shape := ⟨2, ![2816, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S16384x1024 .f32) (main_arg1 : FVec F S16384x1024 .f32) (main_arg2 : FVec F S1024x2816 .f32) (main_arg3 : FVec F S1024x2816 .f32) (main_arg4 : FVec F S2816x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg4
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== Pre_finite_lb.lean ====
abbrev S4x1024 : Shape := ⟨2, ![4, 1024]⟩
abbrev S_ : Shape := ⟨0, ![]⟩

class Facts : Prop where
  bcast_S_S4x1024 : S_.BroadcastsInDim S4x1024 (![] : Fin 0 → Fin S4x1024.rank)
  reducesTo_S4x1024_S_d0_1 : S4x1024.ReducesTo [0, 1] S_
  h_S_ : 0 < S_.numel

variable [Facts]

def fn {F : FTy → Type} [FloatOps F] (main_arg0 : FVec F S4x1024 .f32) (main_arg1 : FVec F S4x1024 .f32) : IVec S_ 1 :=
  let main_v0 : FVec F S4x1024 .f32 := Host.absf main_arg1
  let main_cst : FVec F S_ .f32 := constant S_ .f32 0x7F800000#32
  let main_v1 : FVec F S4x1024 .f32 := broadcastInDim S4x1024 ![] bcast_S_S4x1024 main_cst
  let main_v2 : IVec S4x1024 1 := cmpf .olt main_v0 main_v1
  let main_c : IVec S_ 1 := constantI S_ 1 1#1
  let main_v3 : IVec S_ 1 := (fun x v => Host.reduce IntOp.andi x v reducesTo_S4x1024_S_d0_1 h_S_) main_v2 main_c
  main_v3
-- ==== Kernel.lean ====
abbrev S16384x4096 : Shape := ⟨2, ![16384, 4096]⟩
abbrev S16384x1024 : Shape := ⟨2, ![16384, 1024]⟩
abbrev S16384x256 : Shape := ⟨2, ![16384, 256]⟩
abbrev S16384x2048 : Shape := ⟨2, ![16384, 2048]⟩
abbrev S1024x7680 : Shape := ⟨2, ![1024, 7680]⟩
abbrev S1024 : Shape := ⟨1, ![1024]⟩
abbrev S7680x1024 : Shape := ⟨2, ![7680, 1024]⟩
abbrev S1x1024 : Shape := ⟨2, ![1, 1024]⟩
abbrev S256x4096 : Shape := ⟨2, ![256, 4096]⟩
abbrev S256x1024 : Shape := ⟨2, ![256, 1024]⟩
abbrev S256x256 : Shape := ⟨2, ![256, 256]⟩
abbrev S256x2048 : Shape := ⟨2, ![256, 2048]⟩
abbrev S4096x1024 : Shape := ⟨2, ![4096, 1024]⟩
abbrev S1024x1024 : Shape := ⟨2, ![1024, 1024]⟩
abbrev S2048x1024 : Shape := ⟨2, ![2048, 1024]⟩
abbrev S256 : Shape := ⟨1, ![256]⟩
abbrev S256x1 : Shape := ⟨2, ![256, 1]⟩

abbrev nBuf : Space → Nat
  | .hbm => 14
  | .vmem => 19
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x256, .bf16⟩
  | .hbm, ⟨3, _⟩ => ⟨S16384x256, .bf16⟩
  | .hbm, ⟨4, _⟩ => ⟨S16384x2048, .bf16⟩
  | .hbm, ⟨5, _⟩ => ⟨S1024x7680, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S7680x1024, .f32⟩
  | .hbm, ⟨10, _⟩ => ⟨S7680x1024, .bf16⟩
  | .hbm, ⟨11, _⟩ => ⟨S1x1024, .f32⟩
  | .hbm, ⟨12, _⟩ => ⟨S16384x1024, .f32⟩
  | .hbm, ⟨13, _⟩ => ⟨S1x1024, .f32⟩
  | .local _ .vmem, ⟨0, _⟩ => ⟨S256x4096, .bf16⟩
  | .local _ .vmem, ⟨1, _⟩ => ⟨S256x4096, .bf16⟩
  | .local _ .vmem, ⟨2, _⟩ => ⟨S256x1024, .bf16⟩
  | .local _ .vmem, ⟨3, _⟩ => ⟨S256x1024, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x2048, .bf16⟩
  | .local _ .vmem, ⟨9, _⟩ => ⟨S256x2048, .bf16⟩
  | .local _ .vmem, ⟨10, _⟩ => ⟨S7680x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S7680x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S16384x4096 : Shape := ⟨2, ![16384, 4096]⟩
abbrev S16384x1024 : Shape := ⟨2, ![16384, 1024]⟩
abbrev S16384x256 : Shape := ⟨2, ![16384, 256]⟩
abbrev S16384x2048 : Shape := ⟨2, ![16384, 2048]⟩
abbrev S1024x7680 : Shape := ⟨2, ![1024, 7680]⟩
abbrev S1024 : Shape := ⟨1, ![1024]⟩
abbrev S16384x7680 : Shape := ⟨2, ![16384, 7680]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S16384x256, .bf16⟩
  | .hbm, ⟨3, _⟩ => ⟨S16384x256, .bf16⟩
  | .hbm, ⟨4, _⟩ => ⟨S16384x2048, .bf16⟩
  | .hbm, ⟨5, _⟩ => ⟨S1024x7680, .f32⟩
  | .hbm, ⟨6, _⟩ => ⟨S16384x1024, .f32⟩
  | .hbm, ⟨7, _⟩ => ⟨S1024, .f32⟩
  | .hbm, ⟨8, _⟩ => ⟨S16384x1024, .f32⟩
  | .hbm, ⟨9, _⟩ => ⟨S16384x7680, .bf16⟩
  | .hbm, ⟨10, _⟩ => ⟨S16384x7680, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x7680, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1, .f32⟩
  | .hbm, ⟨49, _⟩ => ⟨S_, .f32⟩
  | .hbm, ⟨50, _⟩ => ⟨S16384x1, .f32⟩
  | .hbm, ⟨51, _⟩ => ⟨S16384x1, .f32⟩
  | .hbm, ⟨52, _⟩ => ⟨S_, .f32⟩
  | .hbm, ⟨53, _⟩ => ⟨S16384, .f32⟩
  | .hbm, ⟨54, _⟩ => ⟨S16384x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩

abbrev nD : Nat := 1
abbrev τ : Topo := Topo.v7x

variable {F : FTy → Type} [FloatOps F]
-- ==== Kernel2.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S16384x1408 : Shape := ⟨2, ![16384, 1408]⟩
abbrev S16384x5632 : Shape := ⟨2, ![16384, 5632]⟩
abbrev S512x1024 : Shape := ⟨2, ![512, 1024]⟩
abbrev S1408x1024 : Shape := ⟨2, ![1408, 1024]⟩
abbrev S512x2816 : Shape := ⟨2, ![512, 2816]⟩
abbrev S512x1408 : Shape := ⟨2, ![512, 1408]⟩

abbrev nBuf : Space → Nat
  | .hbm => 16
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x2816, .f32⟩
  | .hbm, ⟨6, _⟩ => ⟨S16384x2816, .bf16⟩
  | .hbm, ⟨7, _⟩ => ⟨S16384x2816, .f32⟩
  | .hbm, ⟨8, _⟩ => ⟨S16384x2816, .bf16⟩
  | .hbm, ⟨9, _⟩ => ⟨S16384x1408, .bf16⟩
  | .hbm, ⟨10, _⟩ => ⟨S16384x1408, .bf16⟩
  | .hbm, ⟨11, _⟩ => ⟨S16384x1408, .bf16⟩
  | .hbm, ⟨12, _⟩ => ⟨S16384x1408, .bf16⟩
  | .hbm, ⟨13, _⟩ => ⟨S16384x5632, .bf16⟩
  | .hbm, ⟨14, _⟩ => ⟨S2816x1024, .bf16⟩
  | .hbm, ⟨15, _⟩ => ⟨S16384x5632, .bf16⟩
  | .local _ .vmem, ⟨0, _⟩ => ⟨S512x1024, .f32⟩
  | .local _ .vmem, ⟨1, _⟩ => ⟨S512x1024, .f32⟩
  | .local _ .vmem, ⟨2, _⟩ => ⟨S1408x1024, .bf16⟩
  | .local _ .vmem, ⟨3, _⟩ => ⟨S1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x1024 : Shape := ⟨2, ![16384, 1024]⟩
abbrev S1024x2816 : Shape := ⟨2, ![1024, 2816]⟩
abbrev S2816x1024 : Shape := ⟨2, ![2816, 1024]⟩
abbrev S16384x2816 : Shape := ⟨2, ![16384, 2816]⟩
abbrev S_ : Shape := ⟨0, ![]⟩
abbrev S16384x1408 : Shape := ⟨2, ![16384, 1408]⟩
abbrev S16384x5632 : Shape := ⟨2, ![16384, 5632]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x2816, .f32⟩
  | .hbm, ⟨6, _⟩ => ⟨S16384x2816, .f32⟩
  | .hbm, ⟨7, _⟩ => ⟨S16384x2816, .f32⟩
  | .hbm, ⟨8, _⟩ => ⟨S16384x2816, .f32⟩
  | .hbm, ⟨9, _⟩ => ⟨S_, .f32⟩
  | .hbm, ⟨10, _⟩ => ⟨S16384x2816, .f32⟩
  | .hbm, ⟨11, _⟩ => ⟨S16384x2816, .f32⟩
  | .hbm, ⟨12, _⟩ => ⟨S_, .f32⟩
  | .hbm, ⟨13, _⟩ => ⟨S16384x2816, .f32⟩
  | .hbm, ⟨14, _⟩ => ⟨S16384x2816, .f32⟩
  | .hbm, ⟨15, _⟩ => ⟨S_, .f32⟩
  | .hbm, ⟨16, _⟩ => ⟨S16384x2816, .f32⟩
  | .hbm, ⟨17, _⟩ => ⟨S16384x2816, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S16384x1408, .f32⟩
  | .hbm, ⟨30, _⟩ => ⟨S16384x1408, .f32⟩
  | .hbm, ⟨31, _⟩ => ⟨S16384x1408, .f32⟩
  | .hbm, ⟨32, _⟩ => ⟨S16384x1408, .f32⟩
  | .hbm, ⟨33, _⟩ => ⟨S16384x5632, .f32⟩
  | .hbm, ⟨34, _⟩ => ⟨S16384x5632, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩

abbrev nD : Nat := 1
abbrev τ : Topo := Topo.v7x

variable {F : FTy → Type} [FloatOps F]
-- ==== Kernel3.lean ====
abbrev S16384x5632 : Shape := ⟨2, ![16384, 5632]⟩
abbrev S1024x2816 : Shape := ⟨2, ![1024, 2816]⟩
abbrev S16384x1024 : Shape := ⟨2, ![16384, 1024]⟩
abbrev S1024 : Shape := ⟨1, ![1024]⟩
abbrev S1024x1408 : Shape := ⟨2, ![1024, 1408]⟩
abbrev S1024x5632 : Shape := ⟨2, ![1024, 5632]⟩
abbrev S5632x1024 : Shape := ⟨2, ![5632, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 11
  | .smem => 0
  | _ => 0

abbrev bufTy : (tb : Table) → Fin (tcTables nBuf tb) → BufTy
  | .hbm, ⟨0, _⟩ => ⟨S16384x5632, .bf16⟩
  | .hbm, ⟨1, _⟩ => ⟨S1024x2816, .f32⟩
  | .hbm, ⟨2, _⟩ => ⟨S1024x2816, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S1024x1408, .f32⟩
  | .hbm, ⟨7, _⟩ => ⟨S1024x1408, .f32⟩
  | .hbm, ⟨8, _⟩ => ⟨S1024x1408, .f32⟩
  | .hbm, ⟨9, _⟩ => ⟨S1024x1408, .f32⟩
  | .hbm, ⟨10, _⟩ => ⟨S1024x5632, .f32⟩
  | .hbm, ⟨11, _⟩ => ⟨S5632x1024, .f32⟩
  | .hbm, ⟨12, _⟩ => ⟨S5632x1024, .bf16⟩
  | .hbm, ⟨13, _⟩ => ⟨S1x1024, .f32⟩
  | .hbm, ⟨14, _⟩ => ⟨S16384x1024, .f32⟩
  | .hbm, ⟨15, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S16384x5632 : Shape := ⟨2, ![16384, 5632]⟩
abbrev S1024x2816 : Shape := ⟨2, ![1024, 2816]⟩
abbrev S16384x1024 : Shape := ⟨2, ![16384, 1024]⟩
abbrev S1024 : Shape := ⟨1, ![1024]⟩
abbrev S16384x1408 : Shape := ⟨2, ![16384, 1408]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S1024x2816, .f32⟩
  | .hbm, ⟨2, _⟩ => ⟨S1024x2816, .f32⟩
  | .hbm, ⟨3, _⟩ => ⟨S16384x1024, .f32⟩
  | .hbm, ⟨4, _⟩ => ⟨S1024, .f32⟩
  | .hbm, ⟨5, _⟩ => ⟨S16384x1024, .f32⟩
  | .hbm, ⟨6, _⟩ => ⟨S16384x5632, .f32⟩
  | .hbm, ⟨7, _⟩ => ⟨S16384x1408, .f32⟩
  | .hbm, ⟨8, _⟩ => ⟨S16384x1408, .f32⟩
  | .hbm, ⟨9, _⟩ => ⟨S16384x2816, .f32⟩
  | .hbm, ⟨10, _⟩ => ⟨S16384x1408, .f32⟩
  | .hbm, ⟨11, _⟩ => ⟨S16384x1408, .f32⟩
  | .hbm, ⟨12, _⟩ => ⟨S16384x2816, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1024, .f32⟩
  | .hbm, ⟨29, _⟩ => ⟨S16384x1024, .f32⟩
  | .hbm, ⟨30, _⟩ => ⟨S1x1024, .f32⟩
  | .hbm, ⟨31, _⟩ => ⟨S16384x1024, .f32⟩
  | .hbm, ⟨32, _⟩ => ⟨S16384x1024, .f32⟩
  | .hbm, ⟨33, _⟩ => ⟨S16384x2816, .f32⟩
  | .hbm, ⟨34, _⟩ => ⟨S16384x2816, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S16384x1024, .f32⟩
  | .hbm, ⟨43, _⟩ => ⟨S16384x1024, .f32⟩
  | .hbm, ⟨44, _⟩ => ⟨S_, .f32⟩
  | .hbm, ⟨45, _⟩ => ⟨S1024, .f32⟩
  | .hbm, ⟨46, _⟩ => ⟨S16384x1024, .f32⟩
  | .hbm, ⟨47, _⟩ => ⟨S_, .f32⟩
  | .hbm, ⟨48, _⟩ => ⟨S16384, .f32⟩
  | .hbm, ⟨49, _⟩ => ⟨S16384x1, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384, .f32⟩
  | .hbm, ⟨59, _⟩ => ⟨S16384x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S1x1024, .f32⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_cst_5 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_6 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel4.lean ====
abbrev S16384x1024 : Shape := ⟨2, ![16384, 1024]⟩
abbrev S16384x7680 : Shape := ⟨2, ![16384, 7680]⟩
abbrev S1024x1024 : Shape := ⟨2, ![1024, 1024]⟩
abbrev S16384x2048 : Shape := ⟨2, ![16384, 2048]⟩
abbrev S512x1024 : Shape := ⟨2, ![512, 1024]⟩
abbrev S512x512 : Shape := ⟨2, ![512, 512]⟩
abbrev S512x2048 : Shape := ⟨2, ![512, 2048]⟩

abbrev nBuf : Space → Nat
  | .hbm => 19
  | .vmem => 27
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x7680, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x1024, .bf16⟩
  | .hbm, ⟨9, _⟩ => ⟨S16384x1024, .f32⟩
  | .hbm, ⟨10, _⟩ => ⟨S16384x1024, .bf16⟩
  | .hbm, ⟨11, _⟩ => ⟨S1024x1024, .bf16⟩
  | .hbm, ⟨12, _⟩ => ⟨S1024x1024, .bf16⟩
  | .hbm, ⟨13, _⟩ => ⟨S1024x1024, .bf16⟩
  | .hbm, ⟨14, _⟩ => ⟨S16384x1024, .bf16⟩
  | .hbm, ⟨15, _⟩ => ⟨S16384x1024, .bf16⟩
  | .hbm, ⟨16, _⟩ => ⟨S16384x2048, .bf16⟩
  | .hbm, ⟨17, _⟩ => ⟨S16384x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x2048, .bf16⟩
  | .local _ .vmem, ⟨22, _⟩ => ⟨S512x2048, .bf16⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_5 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_6 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S16384x1024 : Shape := ⟨2, ![16384, 1024]⟩
abbrev S16384x7680 : Shape := ⟨2, ![16384, 7680]⟩
abbrev S1024x1024 : Shape := ⟨2, ![1024, 1024]⟩
abbrev S_ : Shape := ⟨0, ![]⟩
abbrev S16384x2048 : Shape := ⟨2, ![16384, 2048]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x7680, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S16384x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S_, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .bf16⟩
  | .hbm, ⟨49, _⟩ => ⟨S16384x1024, .bf16⟩
  | .hbm, ⟨50, _⟩ => ⟨S16384x2048, .f32⟩
  | .hbm, ⟨51, _⟩ => ⟨S16384x2048, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel5.lean ====
abbrev S16384x2816 : Shape := ⟨2, ![16384, 2816]⟩
abbrev S2816x1024 : Shape := ⟨2, ![2816, 1024]⟩
abbrev S16384x1024 : Shape := ⟨2, ![16384, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S16384x2816 : Shape := ⟨2, ![16384, 2816]⟩
abbrev S2816x1024 : Shape := ⟨2, ![2816, 1024]⟩
abbrev S16384x1024 : Shape := ⟨2, ![16384, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S16384x5632 : Shape := ⟨2, ![16384, 5632]⟩
abbrev S16384x1024 : Shape := ⟨2, ![16384, 1024]⟩
abbrev S1024x2816 : Shape := ⟨2, ![1024, 2816]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S16384x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S16384x5632 : Shape := ⟨2, ![16384, 5632]⟩
abbrev S16384x1024 : Shape := ⟨2, ![16384, 1024]⟩
abbrev S1024x2816 : Shape := ⟨2, ![1024, 2816]⟩
abbrev S16384x2816 : Shape := ⟨2, ![16384, 2816]⟩
abbrev S16384x1408 : Shape := ⟨2, ![16384, 1408]⟩
abbrev S2816x1024 : Shape := ⟨2, ![2816, 1024]⟩
abbrev S1024x1408 : Shape := ⟨2, ![1024, 1408]⟩
abbrev S1024x5632 : Shape := ⟨2, ![1024, 5632]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16384x5632, .bf16⟩
  | .hbm, ⟨1, _⟩ => ⟨S16384x1024, .bf16⟩
  | .hbm, ⟨2, _⟩ => ⟨S1024x2816, .f32⟩
  | .hbm, ⟨3, _⟩ => ⟨S1024x2816, .f32⟩
  | .hbm, ⟨4, _⟩ => ⟨S16384x1024, .f32⟩
  | .hbm, ⟨5, _⟩ => ⟨S16384x2816, .f32⟩
  | .hbm, ⟨6, _⟩ => ⟨S16384x2816, .f32⟩
  | .hbm, ⟨7, _⟩ => ⟨S16384x5632, .f32⟩
  | .hbm, ⟨8, _⟩ => ⟨S16384x1408, .f32⟩
  | .hbm, ⟨9, _⟩ => ⟨S16384x1408, .f32⟩
  | .hbm, ⟨10, _⟩ => ⟨S16384x2816, .f32⟩
  | .hbm, ⟨11, _⟩ => ⟨S16384x1408, .f32⟩
  | .hbm, ⟨12, _⟩ => ⟨S16384x1408, .f32⟩
  | .hbm, ⟨13, _⟩ => ⟨S16384x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S1024x2816, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S1024x1408, .f32⟩
  | .hbm, ⟨22, _⟩ => ⟨S1024x5632, .f32⟩
  | .hbm, ⟨23, _⟩ => ⟨S5632x1024, .f32⟩
  | .hbm, ⟨24, _⟩ => ⟨S5632x1024, .bf16⟩
  | _, _ => ⟨S16384x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== Kernel7.lean ====
abbrev S16384x1024 : Shape := ⟨2, ![16384, 1024]⟩
abbrev S1024x7680 : Shape := ⟨2, ![1024, 7680]⟩
abbrev S7680x1024 : Shape := ⟨2, ![7680, 1024]⟩
abbrev S16384x7680 : Shape := ⟨2, ![16384, 7680]⟩
abbrev S1024x1024 : Shape := ⟨2, ![1024, 1024]⟩
abbrev S1280x1024 : Shape := ⟨2, ![1280, 1024]⟩
abbrev S1024x1280 : Shape := ⟨2, ![1024, 1280]⟩

abbrev nBuf : Space → Nat
  | .hbm => 5
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S1024x7680, .f32⟩
  | .hbm, ⟨2, _⟩ => ⟨S7680x1024, .f32⟩
  | .hbm, ⟨3, _⟩ => ⟨S7680x1024, .bf16⟩
  | .hbm, ⟨4, _⟩ => ⟨S16384x7680, .f32⟩
  | .local _ .vmem, ⟨0, _⟩ => ⟨S1024x1024, .bf16⟩
  | .local _ .vmem, ⟨1, _⟩ => ⟨S1024x1024, .bf16⟩
  | .local _ .vmem, ⟨2, _⟩ => ⟨S1280x1024, .bf16⟩
  | .local _ .vmem, ⟨3, _⟩ => ⟨S1280x1024, .bf16⟩
  | .local _ .vmem, ⟨4, _⟩ => ⟨S1024x1280, .f32⟩
  | .local _ .vmem, ⟨5, _⟩ => ⟨S1024x1280, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![6, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16384x1024 : Shape := ⟨2, ![16384, 1024]⟩
abbrev S1024x7680 : Shape := ⟨2, ![1024, 7680]⟩
abbrev S16384x7680 : Shape := ⟨2, ![16384, 7680]⟩

abbrev nBuf : Space → Nat
  | .hbm => 4
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x7680, .f32⟩
  | .hbm, ⟨2, _⟩ => ⟨S16384x1024, .f32⟩
  | .hbm, ⟨3, _⟩ => ⟨S16384x7680, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S16384x1024 : Shape := ⟨2, ![16384, 1024]⟩
abbrev S1024x2816 : Shape := ⟨2, ![1024, 2816]⟩
abbrev S1024x1408 : Shape := ⟨2, ![1024, 1408]⟩
abbrev S1024x5632 : Shape := ⟨2, ![1024, 5632]⟩
abbrev S5632x1024 : Shape := ⟨2, ![5632, 1024]⟩
abbrev S16384x5632 : Shape := ⟨2, ![16384, 5632]⟩
abbrev S16384x2816 : Shape := ⟨2, ![16384, 2816]⟩
abbrev S512x1024 : Shape := ⟨2, ![512, 1024]⟩
abbrev S2816x1024 : Shape := ⟨2, ![2816, 1024]⟩
abbrev S512x2816 : Shape := ⟨2, ![512, 2816]⟩
abbrev S512x1408 : Shape := ⟨2, ![512, 1408]⟩

abbrev nBuf : Space → Nat
  | .hbm => 12
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S1024x1408, .f32⟩
  | .hbm, ⟨4, _⟩ => ⟨S1024x1408, .f32⟩
  | .hbm, ⟨5, _⟩ => ⟨S1024x1408, .f32⟩
  | .hbm, ⟨6, _⟩ => ⟨S1024x1408, .f32⟩
  | .hbm, ⟨7, _⟩ => ⟨S1024x5632, .f32⟩
  | .hbm, ⟨8, _⟩ => ⟨S5632x1024, .f32⟩
  | .hbm, ⟨9, _⟩ => ⟨S5632x1024, .bf16⟩
  | .hbm, ⟨10, _⟩ => ⟨S16384x5632, .bf16⟩
  | .hbm, ⟨11, _⟩ => ⟨S16384x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7_0 : Ref sig .tc := ⟨.hbm, 10, rfl⟩
abbrev main_v7_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S16384x1024 : Shape := ⟨2, ![16384, 1024]⟩
abbrev S1024x2816 : Shape := ⟨2, ![1024, 2816]⟩
abbrev S16384x2816 : Shape := ⟨2, ![16384, 2816]⟩
abbrev S16384x1408 : Shape := ⟨2, ![16384, 1408]⟩
abbrev S16384x5632 : Shape := ⟨2, ![16384, 5632]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x2816, .f32⟩
  | .hbm, ⟨2, _⟩ => ⟨S1024x2816, .f32⟩
  | .hbm, ⟨3, _⟩ => ⟨S16384x1024, .f32⟩
  | .hbm, ⟨4, _⟩ => ⟨S16384x2816, .f32⟩
  | .hbm, ⟨5, _⟩ => ⟨S16384x2816, .f32⟩
  | .hbm, ⟨6, _⟩ => ⟨S16384x1408, .f32⟩
  | .hbm, ⟨7, _⟩ => ⟨S16384x1408, .f32⟩
  | .hbm, ⟨8, _⟩ => ⟨S16384x1408, .f32⟩
  | .hbm, ⟨9, _⟩ => ⟨S16384x1408, .f32⟩
  | .hbm, ⟨10, _⟩ => ⟨S16384x5632, .f32⟩
  | .hbm, ⟨11, _⟩ => ⟨S16384x5632, .bf16⟩
  | .hbm, ⟨12, _⟩ => ⟨S16384x2816, .f32⟩
  | .hbm, ⟨13, _⟩ => ⟨S16384x2816, .f32⟩
  | .hbm, ⟨14, _⟩ => ⟨S_, .f32⟩
  | .hbm, ⟨15, _⟩ => ⟨S16384x2816, .f32⟩
  | .hbm, ⟨16, _⟩ => ⟨S16384x2816, .f32⟩
  | .hbm, ⟨17, _⟩ => ⟨S_, .f32⟩
  | .hbm, ⟨18, _⟩ => ⟨S16384x2816, .f32⟩
  | .hbm, ⟨19, _⟩ => ⟨S16384x2816, .f32⟩
  | .hbm, ⟨20, _⟩ => ⟨S16384x2816, .f32⟩
  | .hbm, ⟨21, _⟩ => ⟨S16384x2816, .f32⟩
  | .hbm, ⟨22, _⟩ => ⟨S16384x2816, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel9.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 11
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S2816x1024, .bf16⟩
  | .hbm, ⟨5, _⟩ => ⟨S1x1024, .f32⟩
  | .hbm, ⟨6, _⟩ => ⟨S16384x1024, .f32⟩
  | .hbm, ⟨7, _⟩ => ⟨S16384x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference9Ideal.lean ====
abbrev S16384x2816 : Shape := ⟨2, ![16384, 2816]⟩
abbrev S2816x1024 : Shape := ⟨2, ![2816, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S1024, .f32⟩
  | .hbm, ⟨4, _⟩ => ⟨S16384x2816, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .bf16⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S16384x1024 : Shape := ⟨2, ![16384, 1024]⟩
abbrev S16384x7680 : Shape := ⟨2, ![16384, 7680]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 28
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7680, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S1x1024, .f32⟩
  | .hbm, ⟨12, _⟩ => ⟨S16384x1024, .bf16⟩
  | .hbm, ⟨13, _⟩ => ⟨S16384x1024, .bf16⟩
  | .hbm, ⟨14, _⟩ => ⟨S16384x1024, .bf16⟩
  | .hbm, ⟨15, _⟩ => ⟨S16384x1024, .bf16⟩
  | .hbm, ⟨16, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference10Ideal.lean ====
abbrev S16384x1024 : Shape := ⟨2, ![16384, 1024]⟩
abbrev S16384x7680 : Shape := ⟨2, ![16384, 7680]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x7680, .f32⟩
  | .hbm, ⟨3, _⟩ => ⟨S16384x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S16384x1024, .bf16⟩
  | .hbm, ⟨36, _⟩ => ⟨S16384x1024, .bf16⟩
  | .hbm, ⟨37, _⟩ => ⟨S16384x1024, .bf16⟩
  | .hbm, ⟨38, _⟩ => ⟨S16384x1024, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x1024, .f32⟩
  | .hbm, ⟨50, _⟩ => ⟨S16384x1024, .f32⟩
  | .hbm, ⟨51, _⟩ => ⟨S1x1024, .f32⟩
  | .hbm, ⟨52, _⟩ => ⟨S16384x1024, .f32⟩
  | .hbm, ⟨53, _⟩ => ⟨S16384x1024, .f32⟩
  | .hbm, ⟨54, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩

abbrev nD : Nat := 1
abbrev τ : Topo := Topo.v7x

variable {F : FTy → Type} [FloatOps F]
-- ==== Kernel11.lean ====
abbrev S16384x1024 : Shape := ⟨2, ![16384, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v10 : BitVec 1 := Scalar.cmpi .eq arg1 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference11Ideal.lean ====
abbrev S16384x1024 : Shape := ⟨2, ![16384, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S16384x1024, .f32⟩
  | .hbm, ⟨4, _⟩ => ⟨S16384x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S16384x1024 : Shape := ⟨2, ![16384, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference12Ideal.lean ====
abbrev S16384x1024 : Shape := ⟨2, ![16384, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel13.lean ====
abbrev S16384x1024 : Shape := ⟨2, ![16384, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S1024x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference13Ideal.lean ====
abbrev S16384x1024 : Shape := ⟨2, ![16384, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .bf16⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel14Ideal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference14Ideal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel15.lean ====
abbrev S4096x960 : Shape := ⟨2, ![4096, 960]⟩
abbrev S512x960 : Shape := ⟨2, ![512, 960]⟩

abbrev nBuf : Space → Nat
  | .hbm => 7
  | .vmem => 14
  | .smem => 0
  | _ => 0

abbrev bufTy : (tb : Table) → Fin (tcTables nBuf tb) → BufTy
  | .hbm, ⟨0, _⟩ => ⟨S4096x960, .f32⟩
  | .hbm, ⟨1, _⟩ => ⟨S4096x960, .f32⟩
  | .hbm, ⟨2, _⟩ => ⟨S4096x960, .f32⟩
  | .hbm, ⟨3, _⟩ => ⟨S4096x960, .f32⟩
  | .hbm, ⟨4, _⟩ => ⟨S4096x960, .f32⟩
  | .hbm, ⟨5, _⟩ => ⟨S4096x960, .f32⟩
  | .hbm, ⟨6, _⟩ => ⟨S4096x960, .f32⟩
  | .local _ .vmem, ⟨0, _⟩ => ⟨S512x960, .f32⟩
  | .local _ .vmem, ⟨1, _⟩ => ⟨S512x960, .f32⟩
  | .local _ .vmem, ⟨2, _⟩ => ⟨S512x960, .f32⟩
  | .local _ .vmem, ⟨3, _⟩ => ⟨S512x960, .f32⟩
  | .local _ .vmem, ⟨4, _⟩ => ⟨S512x960, .f32⟩
  | .local _ .vmem, ⟨5, _⟩ => ⟨S512x960, .f32⟩
  | .local _ .vmem, ⟨6, _⟩ => ⟨S512x960, .f32⟩
  | .local _ .vmem, ⟨7, _⟩ => ⟨S512x960, .f32⟩
  | .local _ .vmem, ⟨8, _⟩ => ⟨S512x960, .f32⟩
  | .local _ .vmem, ⟨9, _⟩ => ⟨S512x960, .f32⟩
  | .local _ .vmem, ⟨10, _⟩ => ⟨S512x960, .f32⟩
  | .local _ .vmem, ⟨11, _⟩ => ⟨S512x960, .f32⟩
  | .local _ .vmem, ⟨12, _⟩ => ⟨S512x960, .f32⟩
  | .local _ .vmem, ⟨13, _⟩ => ⟨S512x960, .f32⟩
  | _, _ => ⟨S4096x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel15Ideal.lean ====
abbrev S4096x960 : Shape := ⟨2, ![4096, 960]⟩
abbrev S512x960 : Shape := ⟨2, ![512, 960]⟩

abbrev nBuf : Space → Nat
  | .hbm => 7
  | .vmem => 14
  | .smem => 0
  | _ => 0

abbrev bufTy : (tb : Table) → Fin (tcTables nBuf tb) → BufTy
  | .hbm, ⟨0, _⟩ => ⟨S4096x960, .f32⟩
  | .hbm, ⟨1, _⟩ => ⟨S4096x960, .f32⟩
  | .hbm, ⟨2, _⟩ => ⟨S4096x960, .f32⟩
  | .hbm, ⟨3, _⟩ => ⟨S4096x960, .f32⟩
  | .hbm, ⟨4, _⟩ => ⟨S4096x960, .f32⟩
  | .hbm, ⟨5, _⟩ => ⟨S4096x960, .f32⟩
  | .hbm, ⟨6, _⟩ => ⟨S4096x960, .f32⟩
  | .local _ .vmem, ⟨0, _⟩ => ⟨S512x960, .f32⟩
  | .local _ .vmem, ⟨1, _⟩ => ⟨S512x960, .f32⟩
  | .local _ .vmem, ⟨2, _⟩ => ⟨S512x960, .f32⟩
  | .local _ .vmem, ⟨3, _⟩ => ⟨S512x960, .f32⟩
  | .local _ .vmem, ⟨4, _⟩ => ⟨S512x960, .f32⟩
  | .local _ .vmem, ⟨5, _⟩ => ⟨S512x960, .f32⟩
  | .local _ .vmem, ⟨6, _⟩ => ⟨S512x960, .f32⟩
  | .local _ .vmem, ⟨7, _⟩ => ⟨S512x960, .f32⟩
  | .local _ .vmem, ⟨8, _⟩ => ⟨S512x960, .f32⟩
  | .local _ .vmem, ⟨9, _⟩ => ⟨S512x960, .f32⟩
  | .local _ .vmem, ⟨10, _⟩ => ⟨S512x960, .f32⟩
  | .local _ .vmem, ⟨11, _⟩ => ⟨S512x960, .f32⟩
  | .local _ .vmem, ⟨12, _⟩ => ⟨S512x960, .f32⟩
  | .local _ .vmem, ⟨13, _⟩ => ⟨S512x960, .f32⟩
  | _, _ => ⟨S4096x960, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x960 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x960 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x960 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x960 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x960 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x960 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x960 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference15Ideal.lean ====
abbrev S4096x960 : Shape := ⟨2, ![4096, 960]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x960, .f32⟩
  | .hbm, ⟨1, _⟩ => ⟨S4096x960, .f32⟩
  | .hbm, ⟨2, _⟩ => ⟨S4096x960, .f32⟩
  | .hbm, ⟨3, _⟩ => ⟨S4096x960, .f32⟩
  | .hbm, ⟨4, _⟩ => ⟨S_, .f32⟩
  | .hbm, ⟨5, _⟩ => ⟨S4096x960, .f32⟩
  | .hbm, ⟨6, _⟩ => ⟨S4096x960, .f32⟩
  | .hbm, ⟨7, _⟩ => ⟨S_, .f32⟩
  | .hbm, ⟨8, _⟩ => ⟨S4096x960, .f32⟩
  | .hbm, ⟨9, _⟩ => ⟨S4096x960, .f32⟩
  | .hbm, ⟨10, _⟩ => ⟨S4096x960, .f32⟩
  | .hbm, ⟨11, _⟩ => ⟨S_, .f32⟩
  | .hbm, ⟨12, _⟩ => ⟨S4096x960, .f32⟩
  | .hbm, ⟨13, _⟩ => ⟨S4096x960, .f32⟩
  | .hbm, ⟨14, _⟩ => ⟨S4096x960, .f32⟩
  | .hbm, ⟨15, _⟩ => ⟨S_, .f32⟩
  | .hbm, ⟨16, _⟩ => ⟨S4096x960, .f32⟩
  | .hbm, ⟨17, _⟩ => ⟨S4096x960, .f32⟩
  | .hbm, ⟨18, _⟩ => ⟨S4096x960, .f32⟩
  | .hbm, ⟨19, _⟩ => ⟨S_, .f32⟩
  | .hbm, ⟨20, _⟩ => ⟨S4096x960, .f32⟩
  | .hbm, ⟨21, _⟩ => ⟨S4096x960, .f32⟩
  | .hbm, ⟨22, _⟩ => ⟨S_, .f32⟩
  | .hbm, ⟨23, _⟩ => ⟨S4096x960, .f32⟩
  | .hbm, ⟨24, _⟩ => ⟨S4096x960, .f32⟩
  | .hbm, ⟨25, _⟩ => ⟨S4096x960, .f32⟩
  | .hbm, ⟨26, _⟩ => ⟨S_, .f32⟩
  | .hbm, ⟨27, _⟩ => ⟨S4096x960, .f32⟩
  | .hbm, ⟨28, _⟩ => ⟨S4096x960, .f32⟩
  | .hbm, ⟨29, _⟩ => ⟨S4096x960, .f32⟩
  | .hbm, ⟨30, _⟩ => ⟨S_, .f32⟩
  | .hbm, ⟨31, _⟩ => ⟨S4096x960, .f32⟩
  | .hbm, ⟨32, _⟩ => ⟨S4096x960, .f32⟩
  | .hbm, ⟨33, _⟩ => ⟨S4096x960, .f32⟩
  | .hbm, ⟨34, _⟩ => ⟨S_, .f32⟩
  | .hbm, ⟨35, _⟩ => ⟨S4096x960, .f32⟩
  | .hbm, ⟨36, _⟩ => ⟨S4096x960, .f32⟩
  | _, _ => ⟨S4096x960, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel16Ideal.lean ====
abbrev S4x16 : Shape := ⟨2, ![4, 16]⟩

abbrev nBuf : Space → Nat
  | .hbm => 7
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S4x16, .f32⟩
  | .hbm, ⟨5, _⟩ => ⟨S4x16, .f32⟩
  | .hbm, ⟨6, _⟩ => ⟨S4x16, .f32⟩
  | .local _ .vmem, ⟨0, _⟩ => ⟨S4x16, .f32⟩
  | .local _ .vmem, ⟨1, _⟩ => ⟨S4x16, .f32⟩
  | .local _ .vmem, ⟨2, _⟩ => ⟨S4x16, .f32⟩
  | .local _ .vmem, ⟨3, _⟩ => ⟨S4x16, .f32⟩
  | .local _ .vmem, ⟨4, _⟩ => ⟨S4x16, .f32⟩
  | .local _ .vmem, ⟨5, _⟩ => ⟨S4x16, .f32⟩
  | .local _ .vmem, ⟨6, _⟩ => ⟨S4x16, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference16Ideal.lean ====
abbrev S4x16 : Shape := ⟨2, ![4, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel17Ideal.lean ====
abbrev S512x1024 : Shape := ⟨2, ![512, 1024]⟩

abbrev nBuf : Space → Nat
  | .hbm => 7
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference17Ideal.lean ====
abbrev S512x1024 : Shape := ⟨2, ![512, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S512x1024, .f32⟩
  | .hbm, ⟨11, _⟩ => ⟨S_, .f32⟩
  | .hbm, ⟨12, _⟩ => ⟨S512x1024, .f32⟩
  | .hbm, ⟨13, _⟩ => ⟨S512x1024, .f32⟩
  | .hbm, ⟨14, _⟩ => ⟨S512x1024, .f32⟩
  | .hbm, ⟨15, _⟩ => ⟨S_, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S_, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S512x1024, .f32⟩
  | .hbm, ⟨26, _⟩ => ⟨S_, .f32⟩
  | .hbm, ⟨27, _⟩ => ⟨S512x1024, .f32⟩
  | .hbm, ⟨28, _⟩ => ⟨S512x1024, .f32⟩
  | .hbm, ⟨29, _⟩ => ⟨S512x1024, .f32⟩
  | .hbm, ⟨30, _⟩ => ⟨S_, .f32⟩
  | .hbm, ⟨31, _⟩ => ⟨S512x1024, .f32⟩
  | .hbm, ⟨32, _⟩ => ⟨S512x1024, .f32⟩
  | .hbm, ⟨33, _⟩ => ⟨S512x1024, .f32⟩
  | .hbm, ⟨34, _⟩ => ⟨S_, .f32⟩
  | .hbm, ⟨35, _⟩ => ⟨S512x1024, .f32⟩
  | .hbm, ⟨36, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S4096x352 : Shape := ⟨2, ![4096, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel18Ideal.lean ====
abbrev S4096x352 : Shape := ⟨2, ![4096, 352]⟩
abbrev S512x352 : Shape := ⟨2, ![512, 352]⟩

abbrev nBuf : Space → Nat
  | .hbm => 7
  | .vmem => 14
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S4096x352, .f32⟩
  | .hbm, ⟨5, _⟩ => ⟨S4096x352, .f32⟩
  | .hbm, ⟨6, _⟩ => ⟨S4096x352, .f32⟩
  | .local _ .vmem, ⟨0, _⟩ => ⟨S512x352, .f32⟩
  | .local _ .vmem, ⟨1, _⟩ => ⟨S512x352, .f32⟩
  | .local _ .vmem, ⟨2, _⟩ => ⟨S512x352, .f32⟩
  | .local _ .vmem, ⟨3, _⟩ => ⟨S512x352, .f32⟩
  | .local _ .vmem, ⟨4, _⟩ => ⟨S512x352, .f32⟩
  | .local _ .vmem, ⟨5, _⟩ => ⟨S512x352, .f32⟩
  | .local _ .vmem, ⟨6, _⟩ => ⟨S512x352, .f32⟩
  | .local _ .vmem, ⟨7, _⟩ => ⟨S512x352, .f32⟩
  | .local _ .vmem, ⟨8, _⟩ => ⟨S512x352, .f32⟩
  | .local _ .vmem, ⟨9, _⟩ => ⟨S512x352, .f32⟩
  | .local _ .vmem, ⟨10, _⟩ => ⟨S512x352, .f32⟩
  | .local _ .vmem, ⟨11, _⟩ => ⟨S512x352, .f32⟩
  | .local _ .vmem, ⟨12, _⟩ => ⟨S512x352, .f32⟩
  | .local _ .vmem, ⟨13, _⟩ => ⟨S512x352, .f32⟩
  | _, _ => ⟨S4096x352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x352 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x352 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x352 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x352 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x352 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x352 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference18Ideal.lean ====
abbrev S4096x352 : Shape := ⟨2, ![4096, 352]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x352, .f32⟩
  | .hbm, ⟨1, _⟩ => ⟨S4096x352, .f32⟩
  | .hbm, ⟨2, _⟩ => ⟨S4096x352, .f32⟩
  | .hbm, ⟨3, _⟩ => ⟨S4096x352, .f32⟩
  | .hbm, ⟨4, _⟩ => ⟨S_, .f32⟩
  | .hbm, ⟨5, _⟩ => ⟨S4096x352, .f32⟩
  | .hbm, ⟨6, _⟩ => ⟨S4096x352, .f32⟩
  | .hbm, ⟨7, _⟩ => ⟨S_, .f32⟩
  | .hbm, ⟨8, _⟩ => ⟨S4096x352, .f32⟩
  | .hbm, ⟨9, _⟩ => ⟨S4096x352, .f32⟩
  | .hbm, ⟨10, _⟩ => ⟨S4096x352, .f32⟩
  | .hbm, ⟨11, _⟩ => ⟨S_, .f32⟩
  | .hbm, ⟨12, _⟩ => ⟨S4096x352, .f32⟩
  | .hbm, ⟨13, _⟩ => ⟨S4096x352, .f32⟩
  | .hbm, ⟨14, _⟩ => ⟨S4096x352, .f32⟩
  | .hbm, ⟨15, _⟩ => ⟨S_, .f32⟩
  | .hbm, ⟨16, _⟩ => ⟨S4096x352, .f32⟩
  | .hbm, ⟨17, _⟩ => ⟨S4096x352, .f32⟩
  | .hbm, ⟨18, _⟩ => ⟨S4096x352, .f32⟩
  | .hbm, ⟨19, _⟩ => ⟨S_, .f32⟩
  | .hbm, ⟨20, _⟩ => ⟨S4096x352, .f32⟩
  | .hbm, ⟨21, _⟩ => ⟨S4096x352, .f32⟩
  | .hbm, ⟨22, _⟩ => ⟨S_, .f32⟩
  | .hbm, ⟨23, _⟩ => ⟨S4096x352, .f32⟩
  | .hbm, ⟨24, _⟩ => ⟨S4096x352, .f32⟩
  | .hbm, ⟨25, _⟩ => ⟨S4096x352, .f32⟩
  | .hbm, ⟨26, _⟩ => ⟨S_, .f32⟩
  | .hbm, ⟨27, _⟩ => ⟨S4096x352, .f32⟩
  | .hbm, ⟨28, _⟩ => ⟨S4096x352, .f32⟩
  | .hbm, ⟨29, _⟩ => ⟨S4096x352, .f32⟩
  | .hbm, ⟨30, _⟩ => ⟨S_, .f32⟩
  | .hbm, ⟨31, _⟩ => ⟨S4096x352, .f32⟩
  | .hbm, ⟨32, _⟩ => ⟨S4096x352, .f32⟩
  | .hbm, ⟨33, _⟩ => ⟨S4096x352, .f32⟩
  | .hbm, ⟨34, _⟩ => ⟨S_, .f32⟩
  | .hbm, ⟨35, _⟩ => ⟨S4096x352, .f32⟩
  | .hbm, ⟨36, _⟩ => ⟨S4096x352, .f32⟩
  | _, _ => ⟨S4096x352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel19Ideal.lean ====
abbrev S1408x1024 : Shape := ⟨2, ![1408, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S1408x1024, .f32⟩
  | .hbm, ⟨5, _⟩ => ⟨S1408x1024, .f32⟩
  | .hbm, ⟨6, _⟩ => ⟨S1408x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "m_scale" => some ((8388608 / 5463681 : ℝ) : EReal)
  | "v_scale" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S1408x1024 : Shape := ⟨2, ![1408, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S_, .f32⟩
  | .hbm, ⟨5, _⟩ => ⟨S1408x1024, .f32⟩
  | .hbm, ⟨6, _⟩ => ⟨S1408x1024, .f32⟩
  | .hbm, ⟨7, _⟩ => ⟨S_, .f32⟩
  | .hbm, ⟨8, _⟩ => ⟨S1408x1024, .f32⟩
  | .hbm, ⟨9, _⟩ => ⟨S1408x1024, .f32⟩
  | .hbm, ⟨10, _⟩ => ⟨S1408x1024, .f32⟩
  | .hbm, ⟨11, _⟩ => ⟨S_, .f32⟩
  | .hbm, ⟨12, _⟩ => ⟨S1408x1024, .f32⟩
  | .hbm, ⟨13, _⟩ => ⟨S1408x1024, .f32⟩
  | .hbm, ⟨14, _⟩ => ⟨S1408x1024, .f32⟩
  | .hbm, ⟨15, _⟩ => ⟨S_, .f32⟩
  | .hbm, ⟨16, _⟩ => ⟨S1408x1024, .f32⟩
  | .hbm, ⟨17, _⟩ => ⟨S1408x1024, .f32⟩
  | .hbm, ⟨18, _⟩ => ⟨S1408x1024, .f32⟩
  | .hbm, ⟨19, _⟩ => ⟨S_, .f32⟩
  | .hbm, ⟨20, _⟩ => ⟨S1408x1024, .f32⟩
  | .hbm, ⟨21, _⟩ => ⟨S1408x1024, .f32⟩
  | .hbm, ⟨22, _⟩ => ⟨S_, .f32⟩
  | .hbm, ⟨23, _⟩ => ⟨S1408x1024, .f32⟩
  | .hbm, ⟨24, _⟩ => ⟨S1408x1024, .f32⟩
  | .hbm, ⟨25, _⟩ => ⟨S1408x1024, .f32⟩
  | .hbm, ⟨26, _⟩ => ⟨S_, .f32⟩
  | .hbm, ⟨27, _⟩ => ⟨S1408x1024, .f32⟩
  | .hbm, ⟨28, _⟩ => ⟨S1408x1024, .f32⟩
  | .hbm, ⟨29, _⟩ => ⟨S1408x1024, .f32⟩
  | .hbm, ⟨30, _⟩ => ⟨S_, .f32⟩
  | .hbm, ⟨31, _⟩ => ⟨S1408x1024, .f32⟩
  | .hbm, ⟨32, _⟩ => ⟨S1408x1024, .f32⟩
  | .hbm, ⟨33, _⟩ => ⟨S1408x1024, .f32⟩
  | .hbm, ⟨34, _⟩ => ⟨S_, .f32⟩
  | .hbm, ⟨35, _⟩ => ⟨S1408x1024, .f32⟩
  | .hbm, ⟨36, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .local _ .vmem, ⟨0, _⟩ => ⟨S1x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Kernel20Ideal.lean ====
variable {F : FTy → Type} [FloatOps F] [Named F]
def κ : String → Option EReal := fun
  | "m_scale" => some ((8388608 / 5463681 : ℝ) : EReal)
  | "v_scale" => some ((268435456 / 2672307 : ℝ) : EReal)
  | _ => none
-- ==== Reference20Ideal.lean ====
abbrev S1x1024 : Shape := ⟨2, ![1, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S_, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel21.lean ====
abbrev S8x960x1024 : Shape := ⟨3, ![8, 960, 1024]⟩
abbrev S960x1024 : Shape := ⟨2, ![960, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x960x1024, .bf16⟩
  | .hbm, ⟨1, _⟩ => ⟨S960x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Kernel21Ideal.lean ====
abbrev S8x960x1024 : Shape := ⟨3, ![8, 960, 1024]⟩
abbrev S960x1024 : Shape := ⟨2, ![960, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x960x1024, .bf16⟩
  | .hbm, ⟨1, _⟩ => ⟨S960x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x960x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference21Ideal.lean ====
abbrev S8x960x1024 : Shape := ⟨3, ![8, 960, 1024]⟩
abbrev S_ : Shape := ⟨0, ![]⟩
abbrev S960x1024 : Shape := ⟨2, ![960, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x960x1024, .bf16⟩
  | .hbm, ⟨1, _⟩ => ⟨S8x960x1024, .f32⟩
  | .hbm, ⟨2, _⟩ => ⟨S_, .f32⟩
  | .hbm, ⟨3, _⟩ => ⟨S960x1024, .f32⟩
  | _, _ => ⟨S8x960x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel22.lean ====
abbrev S8x1440x1024 : Shape := ⟨3, ![8, 1440, 1024]⟩
abbrev S1440x1024 : Shape := ⟨2, ![1440, 1024]⟩
abbrev S8x480x1024 : Shape := ⟨3, ![8, 480, 1024]⟩
abbrev S480x1024 : Shape := ⟨2, ![480, 1024]⟩
abbrev S1x480x1024 : Shape := ⟨3, ![1, 480, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1440x1024, .bf16⟩
  | .hbm, ⟨1, _⟩ => ⟨S1440x1024, .f32⟩
  | .local _ .vmem, ⟨0, _⟩ => ⟨S8x480x1024, .bf16⟩
  | .local _ .vmem, ⟨1, _⟩ => ⟨S8x480x1024, .bf16⟩
  | .local _ .vmem, ⟨2, _⟩ => ⟨S480x1024, .f32⟩
  | .local _ .vmem, ⟨3, _⟩ => ⟨S480x1024, .f32⟩
  | _, _ => ⟨S8x1440x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x480x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S480x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference22Ideal.lean ====
abbrev S8x1440x1024 : Shape := ⟨3, ![8, 1440, 1024]⟩
abbrev S_ : Shape := ⟨0, ![]⟩
abbrev S1440x1024 : Shape := ⟨2, ![1440, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1440x1024, .bf16⟩
  | .hbm, ⟨1, _⟩ => ⟨S8x1440x1024, .f32⟩
  | .hbm, ⟨2, _⟩ => ⟨S_, .f32⟩
  | .hbm, ⟨3, _⟩ => ⟨S1440x1024, .f32⟩
  | _, _ => ⟨S8x1440x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel23.lean ====
abbrev S4x1024 : Shape := ⟨2, ![4, 1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference23Ideal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S4x1024, .f32⟩
  | .hbm, ⟨6, _⟩ => ⟨S4x1024, .i1⟩
  | .hbm, ⟨7, _⟩ => ⟨S4x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S4x1024, .f32⟩
  | .hbm, ⟨29, _⟩ => ⟨S4x1024, .f32⟩
  | .hbm, ⟨30, _⟩ => ⟨S4x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4x1024, .f32⟩
  | .hbm, ⟨35, _⟩ => ⟨S4x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S_, .f32⟩
  | .hbm, ⟨42, _⟩ => ⟨S4x1024, .f32⟩
  | .hbm, ⟨43, _⟩ => ⟨S1x1024, .f32⟩
  | .hbm, ⟨44, _⟩ => ⟨S4x1024, .f32⟩
  | .hbm, ⟨45, _⟩ => ⟨S4x1024, .f32⟩
  | .hbm, ⟨46, _⟩ => ⟨S4x1024, .f32⟩
  | .hbm, ⟨47, _⟩ => ⟨S4x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S_, .f32⟩
  | .hbm, ⟨52, _⟩ => ⟨S4x1024, .f32⟩
  | .hbm, ⟨53, _⟩ => ⟨S_, .f32⟩
  | .hbm, ⟨54, _⟩ => ⟨S_, .f32⟩
  | .hbm, ⟨55, _⟩ => ⟨S4x1024, .f32⟩
  | .hbm, ⟨56, _⟩ => ⟨S4x1024, .f32⟩
  | .hbm, ⟨57, _⟩ => ⟨S4x1024, .f32⟩
  | .hbm, ⟨58, _⟩ => ⟨S4x1024, .f32⟩
  | .hbm, ⟨59, _⟩ => ⟨S4x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S1x1024, .f32⟩
  | .hbm, ⟨64, _⟩ => ⟨S4x1024, .f32⟩
  | .hbm, ⟨65, _⟩ => ⟨S4x1024, .f32⟩
  | .hbm, ⟨66, _⟩ => ⟨S_, .f32⟩
  | .hbm, ⟨67, _⟩ => ⟨S1024, .f32⟩
  | .hbm, ⟨68, _⟩ => ⟨S4x1024, .f32⟩
  | .hbm, ⟨69, _⟩ => ⟨S4x1024, .f32⟩
  | .hbm, ⟨70, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_cst_10 : Ref sig .tc := ⟨.hbm, 51, rfl⟩
abbrev main_v36 : Ref sig .tc := ⟨.hbm, 52, rfl⟩
abbrev main_call1_call0_cst : Ref sig .tc := ⟨.hbm, 53, rfl⟩
abbrev main_call1_call0_v0 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_12 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== Kernel24.lean ====
abbrev S4x1024 : Shape := ⟨2, ![4, 1024]⟩
abbrev S1x1024 : Shape := ⟨2, ![1, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .local _ .vmem, ⟨0, _⟩ => ⟨S4x1024, .f32⟩
  | .local _ .vmem, ⟨1, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference24Ideal.lean ====
abbrev S4x1024 : Shape := ⟨2, ![4, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S_, .f32⟩
  | .hbm, ⟨2, _⟩ => ⟨S1024, .f32⟩
  | .hbm, ⟨3, _⟩ => ⟨S_, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S4x1024, .f32⟩
  | .hbm, ⟨8, _⟩ => ⟨S4x1024, .f32⟩
  | .hbm, ⟨9, _⟩ => ⟨S4x1024, .f32⟩
  | .hbm, ⟨10, _⟩ => ⟨S_, .f32⟩
  | .hbm, ⟨11, _⟩ => ⟨S1024, .f32⟩
  | .hbm, ⟨12, _⟩ => ⟨S1x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S_, .f32⟩
  | .hbm, ⟨17, _⟩ => ⟨S4x1024, .f32⟩
  | .hbm, ⟨18, _⟩ => ⟨S1x1024, .f32⟩
  | .hbm, ⟨19, _⟩ => ⟨S4x1024, .f32⟩
  | .hbm, ⟨20, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel25.lean ====
abbrev S16384x1024 : Shape := ⟨2, ![16384, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S1x1024, .f32⟩
  | .hbm, ⟨4, _⟩ => ⟨S16384x1024, .f32⟩
  | .hbm, ⟨5, _⟩ => ⟨S1x1024, .f32⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference25Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1024, .f32⟩
  | .hbm, ⟨19, _⟩ => ⟨S16384x1024, .f32⟩
  | .hbm, ⟨20, _⟩ => ⟨S1x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S_, .f32⟩
  | .hbm, ⟨26, _⟩ => ⟨S16384x1024, .f32⟩
  | .hbm, ⟨27, _⟩ => ⟨S16384x1024, .f32⟩
  | .hbm, ⟨28, _⟩ => ⟨S_, .f32⟩
  | .hbm, ⟨29, _⟩ => ⟨S16384, .f32⟩
  | .hbm, ⟨30, _⟩ => ⟨S_, .f32⟩
  | .hbm, ⟨31, _⟩ => ⟨S16384, .f32⟩
  | .hbm, ⟨32, _⟩ => ⟨S16384, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S16384, .f32⟩
  | .hbm, ⟨41, _⟩ => ⟨S_, .f32⟩
  | .hbm, ⟨42, _⟩ => ⟨S16384, .f32⟩
  | .hbm, ⟨43, _⟩ => ⟨S16384, .f32⟩
  | .hbm, ⟨44, _⟩ => ⟨S16384x1024, .f32⟩
  | .hbm, ⟨45, _⟩ => ⟨S16384x1024, .f32⟩
  | .hbm, ⟨46, _⟩ => ⟨S16384x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S16384x1024, .f32⟩
  | .hbm, ⟨51, _⟩ => ⟨S16384x1024, .f32⟩
  | .hbm, ⟨52, _⟩ => ⟨S_, .f32⟩
  | .hbm, ⟨53, _⟩ => ⟨S1024, .f32⟩
  | .hbm, ⟨54, _⟩ => ⟨S16384x1024, .f32⟩
  | .hbm, ⟨55, _⟩ => ⟨S_, .f32⟩
  | .hbm, ⟨56, _⟩ => ⟨S16384, .f32⟩
  | .hbm, ⟨57, _⟩ => ⟨S16384x1, .f32⟩
  | .hbm, ⟨58, _⟩ => ⟨S16384x1024, .f32⟩
  | .hbm, ⟨59, _⟩ => ⟨S16384x1024, .f32⟩
  | .hbm, ⟨60, _⟩ => ⟨S16384x1, .f32⟩
  | .hbm, ⟨61, _⟩ => ⟨S_, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384, .f32⟩
  | .hbm, ⟨66, _⟩ => ⟨S16384x1024, .f32⟩
  | .hbm, ⟨67, _⟩ => ⟨S16384x1024, .f32⟩
  | .hbm, ⟨68, _⟩ => ⟨S16384x1024, .f32⟩
  | .hbm, ⟨69, _⟩ => ⟨S16384x1024, .f32⟩
  | .hbm, ⟨70, _⟩ => ⟨S16384x1024, .f32⟩
  | .hbm, ⟨71, _⟩ => ⟨S1x1024, .f32⟩
  | .hbm, ⟨72, _⟩ => ⟨S1x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel26.lean ====
abbrev S16384x2816 : Shape := ⟨2, ![16384, 2816]⟩
abbrev S2816x1024 : Shape := ⟨2, ![2816, 1024]⟩
abbrev S16384x1024 : Shape := ⟨2, ![16384, 1024]⟩
abbrev S512x2816 : Shape := ⟨2, ![512, 2816]⟩
abbrev S512x1024 : Shape := ⟨2, ![512, 1024]⟩

abbrev nBuf : Space → Nat
  | .hbm => 5
  | .vmem => 8
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S2816x1024, .bf16⟩
  | .hbm, ⟨4, _⟩ => ⟨S16384x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S16384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 1], ![false, false]⟩

def k0_cond3 (i : grid0.Coords) : BitVec 1 :=
  let arg1 : BitVec 32 := BitVec.ofNat 32 (i 1).val
  let c0_i32_6 : BitVec 32 := 0#32
  let v10 : BitVec 1 := Scalar.cmpi .eq arg1 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference26Ideal.lean ====
abbrev S16384x2816 : Shape := ⟨2, ![16384, 2816]⟩
abbrev S2816x1024 : Shape := ⟨2, ![2816, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2816, .bf16⟩
  | .hbm, ⟨1, _⟩ => ⟨S2816x1024, .f32⟩
  | .hbm, ⟨2, _⟩ => ⟨S16384x1024, .f32⟩
  | .hbm, ⟨3, _⟩ => ⟨S16384x2816, .f32⟩
  | .hbm, ⟨4, _⟩ => ⟨S16384x1024, .f32⟩
  | .hbm, ⟨5, _⟩ => ⟨S16384x1024, .f32⟩
  | _, _ => ⟨S16384x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel27.lean ====
abbrev S16384x4096 : Shape := ⟨2, ![16384, 4096]⟩
abbrev S16384x1024 : Shape := ⟨2, ![16384, 1024]⟩
abbrev S1024x4096 : Shape := ⟨2, ![1024, 4096]⟩
abbrev S7680x1024 : Shape := ⟨2, ![7680, 1024]⟩
abbrev S2048x512 : Shape := ⟨2, ![2048, 512]⟩
abbrev S2048x1024 : Shape := ⟨2, ![2048, 1024]⟩
abbrev S512x1024 : Shape := ⟨2, ![512, 1024]⟩
abbrev S4096x1024 : Shape := ⟨2, ![4096, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S1024x4096, .f32⟩
  | .hbm, ⟨3, _⟩ => ⟨S7680x1024, .bf16⟩
  | .hbm, ⟨4, _⟩ => ⟨S4096x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference27Ideal.lean ====
abbrev S16384x4096 : Shape := ⟨2, ![16384, 4096]⟩
abbrev S16384x1024 : Shape := ⟨2, ![16384, 1024]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S1024x4096, .f32⟩
  | .hbm, ⟨3, _⟩ => ⟨S16384x1024, .f32⟩
  | .hbm, ⟨4, _⟩ => ⟨S16384x4096, .f32⟩
  | .hbm, ⟨5, _⟩ => ⟨S16384x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel28.lean ====
abbrev S16384x1024 : Shape := ⟨2, ![16384, 1024]⟩
abbrev S1024x1024 : Shape := ⟨2, ![1024, 1024]⟩
abbrev S7680x1024 : Shape := ⟨2, ![7680, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S7680x1024, .bf16⟩
  | .hbm, ⟨4, _⟩ => ⟨S7680x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![v0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference28Ideal.lean ====
abbrev S16384x1024 : Shape := ⟨2, ![16384, 1024]⟩
abbrev S1024x1024 : Shape := ⟨2, ![1024, 1024]⟩
abbrev S7680x1024 : Shape := ⟨2, ![7680, 1024]⟩
abbrev S4096x1024 : Shape := ⟨2, ![4096, 1024]⟩
abbrev S2560x1024 : Shape := ⟨2, ![2560, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .f32⟩
  | .hbm, ⟨3, _⟩ => ⟨S7680x1024, .bf16⟩
  | .hbm, ⟨4, _⟩ => ⟨S4096x1024, .bf16⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S2560x1024, .bf16⟩
  | .hbm, ⟨13, _⟩ => ⟨S7680x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel29.lean ====
abbrev S16384x256 : Shape := ⟨2, ![16384, 256]⟩
abbrev S16384x1024 : Shape := ⟨2, ![16384, 1024]⟩
abbrev S1024x256 : Shape := ⟨2, ![1024, 256]⟩
abbrev S7680x1024 : Shape := ⟨2, ![7680, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S1024x256, .f32⟩
  | .hbm, ⟨3, _⟩ => ⟨S7680x1024, .bf16⟩
  | .hbm, ⟨4, _⟩ => ⟨S7680x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference29Ideal.lean ====
abbrev S16384x256 : Shape := ⟨2, ![16384, 256]⟩
abbrev S16384x1024 : Shape := ⟨2, ![16384, 1024]⟩
abbrev S1024x256 : Shape := ⟨2, ![1024, 256]⟩
abbrev S7680x1024 : Shape := ⟨2, ![7680, 1024]⟩
abbrev S5120x1024 : Shape := ⟨2, ![5120, 1024]⟩
abbrev S256x1024 : Shape := ⟨2, ![256, 1024]⟩
abbrev S2304x1024 : Shape := ⟨2, ![2304, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S1024x256, .f32⟩
  | .hbm, ⟨3, _⟩ => ⟨S7680x1024, .bf16⟩
  | .hbm, ⟨4, _⟩ => ⟨S5120x1024, .bf16⟩
  | .hbm, ⟨5, _⟩ => ⟨S16384x1024, .f32⟩
  | .hbm, ⟨6, _⟩ => ⟨S16384x256, .f32⟩
  | .hbm, ⟨7, _⟩ => ⟨S16384x256, .f32⟩
  | .hbm, ⟨8, _⟩ => ⟨S256x1024, .f32⟩
  | .hbm, ⟨9, _⟩ => ⟨S1024x256, .f32⟩
  | .hbm, ⟨10, _⟩ => ⟨S256x1024, .f32⟩
  | .hbm, ⟨11, _⟩ => ⟨S256x1024, .bf16⟩
  | .hbm, ⟨12, _⟩ => ⟨S2304x1024, .bf16⟩
  | .hbm, ⟨13, _⟩ => ⟨S7680x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel30.lean ====
abbrev S16384x256 : Shape := ⟨2, ![16384, 256]⟩
abbrev S16384x1024 : Shape := ⟨2, ![16384, 1024]⟩
abbrev S1024x256 : Shape := ⟨2, ![1024, 256]⟩
abbrev S7680x1024 : Shape := ⟨2, ![7680, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S1024x256, .f32⟩
  | .hbm, ⟨3, _⟩ => ⟨S7680x1024, .bf16⟩
  | .hbm, ⟨4, _⟩ => ⟨S7680x1024, .bf16⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .bf16⟩
  | .local _ .vmem, ⟨5, _⟩ => ⟨S256x1024, .f32⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg0
  let c0_i32 : BitVec 32 := 0#32
  let c0_i32_0 : BitVec 32 := 0#32
  ![v0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference30Ideal.lean ====
abbrev S16384x256 : Shape := ⟨2, ![16384, 256]⟩
abbrev S16384x1024 : Shape := ⟨2, ![16384, 1024]⟩
abbrev S1024x256 : Shape := ⟨2, ![1024, 256]⟩
abbrev S7680x1024 : Shape := ⟨2, ![7680, 1024]⟩
abbrev S5376x1024 : Shape := ⟨2, ![5376, 1024]⟩
abbrev S256x1024 : Shape := ⟨2, ![256, 1024]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S16384x1024, .bf16⟩
  | .hbm, ⟨2, _⟩ => ⟨S1024x256, .f32⟩
  | .hbm, ⟨3, _⟩ => ⟨S7680x1024, .bf16⟩
  | .hbm, ⟨4, _⟩ => ⟨S5376x1024, .bf16⟩
  | .hbm, ⟨5, _⟩ => ⟨S16384x1024, .f32⟩
  | .hbm, ⟨6, _⟩ => ⟨S16384x256, .f32⟩
  | .hbm, ⟨7, _⟩ => ⟨S16384x256, .f32⟩
  | .hbm, ⟨8, _⟩ => ⟨S256x1024, .f32⟩
  | .hbm, ⟨9, _⟩ => ⟨S1024x256, .f32⟩
  | .hbm, ⟨10, _⟩ => ⟨S256x1024, .f32⟩
  | .hbm, ⟨11, _⟩ => ⟨S256x1024, .bf16⟩
  | .hbm, ⟨12, _⟩ => ⟨S2048x1024, .bf16⟩
  | .hbm, ⟨13, _⟩ => ⟨S7680x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel31.lean ====
abbrev S16384x2048 : Shape := ⟨2, ![16384, 2048]⟩
abbrev S16384x1024 : Shape := ⟨2, ![16384, 1024]⟩
abbrev S1024x2048 : Shape := ⟨2, ![1024, 2048]⟩
abbrev S7680x1024 : Shape := ⟨2, ![7680, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1024x2048, .f32⟩
  | .hbm, ⟨3, _⟩ => ⟨S7680x1024, .bf16⟩
  | .hbm, ⟨4, _⟩ => ⟨S7680x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  let c0_i32_0 : BitVec 32 := 0#32
  ![v0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference31Ideal.lean ====
abbrev S16384x2048 : Shape := ⟨2, ![16384, 2048]⟩
abbrev S16384x1024 : Shape := ⟨2, ![16384, 1024]⟩
abbrev S1024x2048 : Shape := ⟨2, ![1024, 2048]⟩
abbrev S7680x1024 : Shape := ⟨2, ![7680, 1024]⟩
abbrev S5632x1024 : Shape := ⟨2, ![5632, 1024]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S1024x2048, .f32⟩
  | .hbm, ⟨3, _⟩ => ⟨S7680x1024, .bf16⟩
  | .hbm, ⟨4, _⟩ => ⟨S5632x1024, .bf16⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | .hbm, ⟨12, _⟩ => ⟨S7680x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Calls.In.lean ====
module

public import proofs.«01_k».proof.Defs
public import proofs.«01_k».proof.Proof.Gen.KernelIdeal.Value
public import proofs.«01_k».proof.Proof.Gen.ReferenceIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.KernelIdeal.Val

open Cert.KernelIdeal Cert.KernelIdeal.Gen Idealize.ShloMosaic Idealize.ShloMosaic.TcCoe Idealize.SL.Sem
open Cert.ReferenceIdeal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0] :=
  (by decide +kernel : ∀ t : Fin grid0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0]
    ∧ win0_7.index t = ![0, 0] ∧ win0_8.index t = ![t.val, 0] ∧ win0_9.index t = ![t.val, 0] ∧ win0_10.index t = ![0, 0])

/-- The row of the arrays that row `r` of grid point `t`'s blocks is. -/
def row (t : Fin cfg0.N) (r : Fin 256) : Fin 16384 :=
  ⟨256 * t.val + r.val, by have h := t.isLt; have h' : cfg0.N = 64 := rfl; omega⟩

theorem row_val (t : Fin cfg0.N) (r : Fin 256) : (row t r).val = 256 * t.val + r.val := rfl

theorem b0 (c : Dev nD) (t : Fin cfg0.N) (r : Fin 256) (k : Fin 4096) :
    iblk m c 0 t (ix2 r k) = m ((c.tc : Thread nD τ).loc main_arg0) (ix2 (row t r) k) := by
  blk_ext [iblk, V, idx t, row_val]

theorem b1 (c : Dev nD) (t : Fin cfg0.N) (r : Fin 256) (k : Fin 1024) :
    iblk m c 1 t (ix2 r k) = m ((c.tc : Thread nD τ).loc main_arg1) (ix2 (row t r) k) := by
  blk_ext [iblk, V, idx t, row_val]

theorem b2 (c : Dev nD) (t : Fin cfg0.N) (r : Fin 256) (k : Fin 256) :
    iblk m c 2 t (ix2 r k) = m ((c.tc : Thread nD τ).loc main_arg2) (ix2 (row t r) k) := by
  blk_ext [iblk, V, idx t, row_val]

theorem b3 (c : Dev nD) (t : Fin cfg0.N) (r : Fin 256) (k : Fin 256) :
    iblk m c 3 t (ix2 r k) = m ((c.tc : Thread nD τ).loc main_arg3) (ix2 (row t r) k) := by
  blk_ext [iblk, V, idx t, row_val]

theorem b4 (c : Dev nD) (t : Fin cfg0.N) (r : Fin 256) (k : Fin 2048) :
    iblk m c 4 t (ix2 r k) = m ((c.tc : Thread nD τ).loc main_arg4) (ix2 (row t r) k) := by
  blk_ext [iblk, V, idx t, row_val]

theorem b6 (c : Dev nD) (t : Fin cfg0.N) (r : Fin 256) (k : Fin 1024) :
    iblk m c 6 t (ix2 r k) = m ((c.tc : Thread nD τ).loc main_arg6) (ix2 (row t r) k) := by
  blk_ext [iblk, V, idx t, row_val]

theorem b8 (c : Dev nD) (t : Fin cfg0.N) (r : Fin 256) (k : Fin 1024) :
    iblk m c 8 t (ix2 r k) = m ((c.tc : Thread nD τ).loc main_arg8) (ix2 (row t r) k) := by
  blk_ext [iblk, V, idx t, row_val]

/-- The whole transposed weight stands in window 5. -/
theorem b5 (c : Dev nD) (t : Fin cfg0.N) (k : Fin 7680) (l : Fin 1024) :
    iblk m c 5 t (ix2 k l) = m ((c.tc : Thread nD τ).loc main_arg5) (ix2 l k) := by
  have e : (win0_5.blk t).view.emb (ix2 k l) = ix2 k l := by blk_ext [idx t]
  show V m c main_v1 ((win0_5.blk t).view.emb (ix2 k l)) = _
  rw [e]
  unfold V
  after_reads_at

/-- The norm's scale stands in window 7. -/
theorem b7 (c : Dev nD) (t : Fin cfg0.N) (r : Fin 1) (k : Fin 1024) :
    iblk m c 7 t (ix2 r k) = m ((c.tc : Thread nD τ).loc main_arg7) (ix1 k) := by
  have e : (win0_7.blk t).view.emb (ix2 r k) = ix2 r k := by blk_ext [idx t]
  show V m c main_v2 ((win0_7.blk t).view.emb (ix2 r k)) = _
  rw [e]
  unfold V
  after_reads_at

/-- The gradient of the normed rows, as the reference computes it from the arguments. -/
abbrev dh (c : Dev nD) :=
  val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference's input gradient, of the arguments. -/
abbrev refDx (c : Dev nD) :=
  val_main_v40 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))

/-- The reference's scale gradient, of the arguments. -/
abbrev refDg (c : Dev nD) :=
  val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

/-- What grid point `t` computes of the normed rows' gradient: the five pieces' products with their rows of the weight. -/
def dhBlk (c : Dev nD) (t : Fin cfg0.N) : FVec Ideal S256x1024 .f32 :=
  k0_pay1 (iblk m c 0 t) (View.ld (iblk m c 5 t) (Rect.unit ![0, 0] ![4096, 1024] inb_S7680x1024_S4096x1024_0_0))
    (iblk m c 1 t) (View.ld (iblk m c 5 t) (Rect.unit ![4096, 0] ![1024, 1024] inb_S7680x1024_S1024x1024_4096_0))
    (iblk m c 2 t) (View.ld (iblk m c 5 t) (Rect.unit ![5120, 0] ![256, 1024] inb_S7680x1024_S256x1024_5120_0))
    (iblk m c 3 t) (View.ld (iblk m c 5 t) (Rect.unit ![5376, 0] ![256, 1024] inb_S7680x1024_S256x1024_5376_0))
    (iblk m c 4 t) (View.ld (iblk m c 5 t) (Rect.unit ![5632, 0] ![2048, 1024] inb_S7680x1024_S2048x1024_5632_0))

theorem dhBlk_fold (c : Dev nD) (t : Fin cfg0.N) :
    k0_pay1 (iblk m c 0 t) (View.ld (iblk m c 5 t) (Rect.unit ![0, 0] ![4096, 1024] inb_S7680x1024_S4096x1024_0_0))
    (iblk m c 1 t) (View.ld (iblk m c 5 t) (Rect.unit ![4096, 0] ![1024, 1024] inb_S7680x1024_S1024x1024_4096_0))
    (iblk m c 2 t) (View.ld (iblk m c 5 t) (Rect.unit ![5120, 0] ![256, 1024] inb_S7680x1024_S256x1024_5120_0))
    (iblk m c 3 t) (View.ld (iblk m c 5 t) (Rect.unit ![5376, 0] ![256, 1024] inb_S7680x1024_S256x1024_5376_0))
    (iblk m c 4 t) (View.ld (iblk m c 5 t) (Rect.unit ![5632, 0] ![2048, 1024] inb_S7680x1024_S2048x1024_5632_0)) = dhBlk m c t := rfl

/-- The pieces' products add up to the one product with the joined rows. -/
theorem dhBlk_eq (c : Dev nD) (t : Fin cfg0.N) (r : Fin 256) (l : Fin 1024) :
    dhBlk m c t (ix2 r l) = dh m c (ix2 (row t r) l) := by
  unfold dh dhBlk val_main_v19 val_main_v1 val_main_v0
  unfold_payloads
  pointwise [sumSplitAll]
  simp only [b0, b1, b2, b3, b4, b5, add_assoc, ← Nat.add_assoc, Nat.reduceAdd]

/-- The input gradient's rows of grid point `t`. -/
theorem dxBlk_eq (c : Dev nD) (t : Fin cfg0.N) (r : Fin 256) (l : Fin 1024) :
    k0_pay6 (dhBlk m c t) (iblk m c 6 t) (k0_pay2 (iblk m c 7 t)) (k0_pay3 (iblk m c 6 t)) (iblk m c 8 t) (ix2 r l)
      = refDx m c (ix2 (row t r) l) := by
  have hd := fun k => dhBlk_eq m c t r k
  unfold refDx val_main_v40 val_main_v39 val_main_v38 val_main_v37 val_main_v36 val_main_v35 val_main_v34 val_main_v33
    val_main_v32 val_main_v31 val_main_v30 val_main_v29 val_main_v28 val_main_v27 val_main_v26 val_main_v24 val_main_v23
  unfold dh at hd
  generalize val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = dh at *
  generalize dhBlk m c t = dhb at *
  unfold_payloads
  pointwise [val_main_v15, val_main_v12, val_main_v11, val_main_v10, val_main_v9, val_main_v8, val_main_v7, val_main_v6,
    val_main_v5, val_main_v4, val_main_v3, val_main_v2, val_main_cst, val_main_cst_0, val_main_cst_1, val_main_cst_2,
    val_main_cst_5, val_main_cst_6, val_main_cst_7]
  simp only [b6, b8, b7, hd, add_assoc]

/-- The rows before the norm. -/
def xr (c : Dev nD) (R : Fin 16384) (k : Fin 1024) : EReal := m ((c.tc : Thread nD τ).loc main_arg6) (ix2 R k)

/-- What row `R` adds to the scale's gradient at column `l`. -/
def dgTerm (c : Dev nD) (l : Fin 1024) (R : Fin 16384) : EReal :=
  xr m c R l * Ideal.rsqrt (Ideal.div (∑ k : Fin 1024, xr m c R k * xr m c R k)
    (Ideal.ofBits FTy.f32 0x44800000#32) + Ideal.ofBits FTy.f32 0x358637BD#32) * dh m c (ix2 R l)

/-- A grid point adds its rows' terms to what the point before left. -/
theorem dgPay (c : Dev nD) (t : Fin cfg0.N) (acc : Vec Ideal S1x1024 .f32) (r : Fin 1) (l : Fin 1024) :
    k0_pay8 (dhBlk m c t) (iblk m c 6 t) (k0_pay3 (iblk m c 6 t)) acc (ix2 r l)
      = acc (ix2 r l) + ∑ r : Fin 256, dgTerm m c l (row t r) := by
  have hd := fun r k => dhBlk_eq m c t r k
  unfold dgTerm xr
  generalize dhBlk m c t = dhb at *
  unfold_payloads
  pointwise
  simp only [b6, hd]

theorem zeroPay (r : Fin 1) (l : Fin 1024) : k0_pay7 (F := Ideal) (ix2 r l) = 0 := by
  unfold_payloads
  pointwise

theorem refDg_eq (c : Dev nD) (r : Fin 1) (l : Fin 1024) : refDg m c (ix2 r l) = ∑ R : Fin 16384, dgTerm m c l R := by
  unfold refDg dgTerm xr dh val_main_v41 val_main_v25 val_main_v22 val_main_v21 val_main_v20
  generalize val_main_v19 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) = dh
  pointwise [val_main_v14, val_main_v13, val_main_v9, val_main_v8, val_main_v7, val_main_v6, val_main_v5, val_main_v4,
    val_main_v3, val_main_v2, val_main_cst, val_main_cst_0, val_main_cst_1, val_main_cst_3, val_main_cst_4]
  simp only [Finset.univ_unique, Finset.sum_singleton]

theorem outs9 (c : Dev nD) (t : Fin cfg0.N) :
    (outsAt0 m c t.val t.isLt).1 = k0_pay6 (dhBlk m c t) (iblk m c 6 t) (k0_pay2 (iblk m c 7 t)) (k0_pay3 (iblk m c 6 t)) (iblk m c 8 t) := by
  by_cases h : t.val % 64 = 0
  · rw [outsAt0_A m c t h]; frame_out; exact congrArg (fun d => k0_pay6 d (iblk m c 6 t) (k0_pay2 (iblk m c 7 t)) (k0_pay3 (iblk m c 6 t)) (iblk m c 8 t)) (dhBlk_fold m c t)
  · rw [outsAt0_B m c t h]; frame_out; exact congrArg (fun d => k0_pay6 d (iblk m c 6 t) (k0_pay2 (iblk m c 7 t)) (k0_pay3 (iblk m c 6 t)) (iblk m c 8 t)) (dhBlk_fold m c t)

/-- The first output array after the run, from what every grid point leaves of it. -/
theorem arr9_of (c : Dev nD) (G : S16384x1024.Idx → EReal)
    (hG : ∀ (t : Fin cfg0.N) (r : Fin 256) (l : Fin 1024), (outsAt0 m c t.val t.isLt).1 (ix2 r l) = G (ix2 (row t r) l)) :
    (dats m 0 c).arrAt 9 cfg0.N = G := by
  refine (dats m 0 c).arrAt_eq_of_covers 9 _ (by decide +kernel) fun t hf y => ?_
  blk_simp
  rw [after0_9]
  obtain ⟨r, l, rfl⟩ : ∃ (r : Fin 256) (l : Fin 1024), y = ix2 r l := ⟨y 0, y 1, by blk_ext []⟩
  have e : (win0_9.blk t).view.emb (ix2 r l) = ix2 (row t r) l := by blk_ext [idx t, row_val]
  rw [e]
  exact hG t r l

/-- The input gradient after the run. -/
theorem arr9 (c : Dev nD) : (dats m 0 c).arrAt 9 cfg0.N = refDx m c :=
  arr9_of m c _ fun t r l => by rw [outs9]; exact dxBlk_eq m c t r l

theorem last_lt : 63 < cfg0.N := by decide

/-- The last grid point. -/
def last : Fin cfg0.N := ⟨63, last_lt⟩

theorem whole10 : (cfg0.win 10).WholeAt last :=
  ⟨(flush0_10 last).mpr rfl, fun t h => Fin.ext (by
    have h1 := (flush0_10 t).mp h
    have h2 : t.val < 64 := t.isLt
    show t.val = 63
    omega), by decide +kernel⟩

/-- The running sum at the last point: every point's rows. -/
theorem outs10 (c : Dev nD) (r : Fin 1) (l : Fin 1024) :
    (outsAt0 m c last.val last.isLt).2 (ix2 r l) = ∑ t : Fin cfg0.N, ∑ r : Fin 256, dgTerm m c l (row t r) := by
  rw [Pipeline.eq_sum_fin_of_reset_step_apply_last (fun n h => (outsAt0 m c n h).2) 64 (fun _ => (0 : EReal))
    (fun t i => ∑ r : Fin 256, dgTerm m c (i 1) (row t r))
    (fun t h i => by
      rw [outsAt0_A m c t h]; frame_out
      idx_vars i
      exact (dgPay m c t _ _ _).trans (by rw [zeroPay]))
    (fun t h i => by
      rw [outsAt0_B m c t h]; frame_out
      idx_vars i
      exact dgPay m c t _ _ _) (le_of_eq rfl) last rfl (ix2 r l), zero_add]
  rfl

theorem after10 (c : Dev nD) (j : S1x1024.Idx) (G : S1x1024.Idx → EReal)
    (hG : ∀ i, (outsAt0 m c last.val last.isLt).2 i = G i) : (dats m 0 c).after 10 last j = G j := by
  rw [after0_10]
  exact hG j

theorem arr10_of (c : Dev nD) (G : S1x1024.Idx → EReal) (hG : ∀ i, (outsAt0 m c last.val last.isLt).2 i = G i) :
    (dats m 0 c).arrAt 10 cfg0.N = G := by
  refine (dats m 0 c).arrAt_eq_of_after_last 10 last whole10 _ fun j => ?_
  exact after10 m c _ _ hG

/-- The points' rows are the arrays' rows. -/
theorem sum_rows (f : Fin 16384 → EReal) : ∑ t : Fin cfg0.N, ∑ r : Fin 256, f (row t r) = ∑ R : Fin 16384, f R :=
  Fin.sum_mul_add_congr (F := fun (t : Fin 64) r => f (row t r)) fun t r h => congrArg f (Fin.ext (by
    show 256 * t.val + r.val = t.val * 256 + r.val
    omega))

/-- The scale's gradient after the run: the last point's running sum. -/
theorem arr10 (c : Dev nD) : (dats m 0 c).arrAt 10 cfg0.N = refDg m c :=
  arr10_of m c _ fun i => by
    idx_vars i
    rw [outs10, refDg_eq, sum_rows (dgTerm m c _)]

/-- The call's two results are the reference's. -/
theorem algebraic : Cert.algebraic_KernelIdeal_ReferenceIdeal := fun m g m' g' _ e =>
  ⟨fun c => refDx m c, fun c => refDg m c,
    (θ_run (Cert.KernelIdeal.defs (F := Ideal)) _ _).mono (fun _ h c => ⟨(h c).1.trans (arr9 m c), (h c).2.1.trans (arr10 m c), (h c).2.2⟩) (Cert.KernelIdeal.Value.run_blocks m g),
    (θ_run Cert.ReferenceIdeal.defs _ _).mono (fun _ h c => by
      obtain ⟨e0, e1, e2, e3, e4, e5, e6, e7, e8⟩ := e c
      refine ⟨(h c).1.trans ((val_main_v40_eq m' c).trans ?_), (h c).2.1.trans ((val_main_v41_eq _ _ _ _ _ _ _).trans ?_), (h c).2.2⟩
      · rw [e0, e1, e2, e3, e4, e5, e6, e7, e8]
      · rw [e0, e1, e2, e3, e4, e5, e6]) (Cert.ReferenceIdeal.Value.run m' g')⟩

end Cert.KernelIdeal.Val

end
-- ==== Proof.Calls.Scalars.lean ====
module

public import proofs.«01_k».proof.Defs
public import Idealize.ShloMosaic.Lib.IdealHost

@[expose] public section

noncomputable section

namespace Cert.Scalars

open Idealize.ShloMosaic

/-- The literal one half. -/
theorem half : Ideal.ofBits .f32 0x3F000000#32 = ((1 / 2 : ℝ) : EReal) := by
  simp [Ideal.ofBits, Ideal.ieee, -EReal.coe_mul]
  norm_num

/-- The logistic function of a real is the real logistic function. -/
theorem logistic_coe (r : ℝ) : Ideal.div 1 (1 + Ideal.exp (-(r : EReal))) = (((1 + Real.exp (-r))⁻¹ : ℝ) : EReal) := by
  have h : (1 + Real.exp (-r)) ≠ 0 := by positivity
  rw [← EReal.coe_neg, Ideal.exp_coe, ← EReal.coe_one, ← EReal.coe_add]
  unfold Ideal.div
  rw [if_neg (by exact_mod_cast h), EReal.coe_one, one_mul, EReal.coe_inv]

/-- The hyperbolic tangent of a real's half gives its logistic function. -/
theorem tanh_half (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p := Real.exp_pos (1 / 2 * r)
  have q : Real.exp (-(1 / 2 * r)) = (Real.exp (1 / 2 * r))⁻¹ := Real.exp_neg _
  rw [e, Real.tanh_eq_sinh_div_cosh, Real.sinh_eq, Real.cosh_eq, q]
  field_simp
  ring

/-- Half the hyperbolic tangent of the half, and a half, is the logistic function, at the infinities too. -/
theorem sigmoid (x : EReal) : Ideal.ofBits .f32 0x3F000000#32 * Ideal.tanh (Ideal.ofBits .f32 0x3F000000#32 * x) + Ideal.ofBits .f32 0x3F000000#32
    = Ideal.div 1 (1 + Ideal.exp (-x)) := by
  rw [half]
  induction x using EReal.rec with
  | bot =>
    rw [EReal.coe_mul_bot_of_pos (by norm_num), Ideal.tanh_bot, EReal.neg_bot]
    show _ = Ideal.div 1 (1 + ⊤)
    unfold Ideal.div
    rw [EReal.add_top_of_ne_bot (by decide), if_neg (by decide), EReal.inv_top, mul_zero, mul_neg, mul_one, ← EReal.coe_neg, ← EReal.coe_add]
    norm_num
  | coe r =>
    rw [logistic_coe, ← EReal.coe_mul, Ideal.tanh_coe, ← EReal.coe_mul, ← EReal.coe_add, tanh_half]
  | top =>
    rw [EReal.coe_mul_top_of_pos (by norm_num), Ideal.tanh_top, EReal.neg_top]
    show _ = Ideal.div 1 (1 + 0)
    unfold Ideal.div
    rw [add_zero, if_neg (by norm_num), one_mul, mul_one, ← EReal.coe_add]
    norm_num

end Cert.Scalars

end
-- ==== Proof.Calls.Finite.lean ====
module

public import Idealize.ShloMosaic.Lib.IdealHost
public import Idealize.ShloMosaic.Lib.ReduceAll
public import Idealize.ShloMosaic.Lib.Pointwise
public import proofs.«01_k».proof.Proof.Calls.Scalars

@[expose] public section

noncomputable section

namespace Cert.Finite

open Idealize.ShloMosaic

/-- A value that is a real number. -/
def IsReal (x : EReal) : Prop := ∃ r : ℝ, x = r

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem IsReal.sum {ι : Type} (s : Finset ι) (f : ι → EReal) (h : ∀ i, IsReal (f i)) : IsReal (∑ i ∈ s, f i) := by
  classical
  induction s using Finset.induction_on with
  | empty => exact ⟨0, rfl⟩
  | insert a s ha ih =>
    rw [Finset.sum_insert ha]
    exact (h a).add ih

/-- The logistic function of a real is a real. -/
theorem IsReal.logistic {x : EReal} (hx : IsReal x) : IsReal (Ideal.div 1 (1 + Ideal.exp (-x))) := by
  obtain ⟨r, rfl⟩ := hx
  exact ⟨_, Cert.Scalars.logistic_coe r⟩

/-- A value whose absolute value is below infinity is a real number. -/
theorem isReal_of_abs (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- An array whose every absolute value is below infinity holds real numbers. -/
theorem isReal_of_all {s t u v : Shape} {axes : List (Fin s.rank)} [Subsingleton t.Idx] (x : FVec Ideal s .f32) (init : u.Idx → BitVec 1)
    (d : Fin v.rank → Fin s.rank) (hd : v.BroadcastsInDim s d) (h : s.ReducesTo axes t) (hu : 0 < u.numel) (j : t.Idx)
    (e : Host.reduce IntOp.andi (cmpf .olt (Host.absf x) (broadcastInDim s d hd (constant v .f32 0x7F800000#32))) init h hu j = 1#1)
    (i : s.Idx) : IsReal (x i) :=
  isReal_of_abs (x i) (Host.reduce_andi_all _ init h hu j e i)

/-- The logistic function at the infinities. -/
theorem logistic_bot : Ideal.div 1 (1 + Ideal.exp (-(⊥ : EReal))) = 0 := by
  rw [← Cert.Scalars.sigmoid, Cert.Scalars.half, EReal.coe_mul_bot_of_pos (by norm_num), Ideal.tanh_bot, mul_neg, mul_one, ← EReal.coe_neg, ← EReal.coe_add]
  norm_num

theorem logistic_top : Ideal.div 1 (1 + Ideal.exp (-(⊤ : EReal))) = 1 := by
  rw [← Cert.Scalars.sigmoid, Cert.Scalars.half, EReal.coe_mul_top_of_pos (by norm_num), Ideal.tanh_top, mul_one, ← EReal.coe_add]
  norm_num

/-- The derivative of the gated product, factored or not, where the incoming gradient and the other factor are real. -/
theorem swiglu {d u : EReal} (hd : IsReal d) (hu : IsReal u) (g : EReal) :
    d * u * (Ideal.div 1 (1 + Ideal.exp (-g)) + g * Ideal.div 1 (1 + Ideal.exp (-g)) * (1 - Ideal.div 1 (1 + Ideal.exp (-g))))
      = d * u * Ideal.div 1 (1 + Ideal.exp (-g)) + g * (d * u) * (Ideal.div 1 (1 + Ideal.exp (-g)) * (1 - Ideal.div 1 (1 + Ideal.exp (-g)))) := by
  obtain ⟨d, rfl⟩ := hd
  obtain ⟨u, rfl⟩ := hu
  induction g using EReal.rec with
  | bot => simp only [logistic_bot, mul_zero, zero_mul, add_zero]
  | coe g =>
    rw [Cert.Scalars.logistic_coe]
    norm_cast
    ring
  | top =>
    have e : (1 : EReal) - 1 = 0 := by rw [← EReal.coe_one, ← EReal.coe_sub, sub_self, EReal.coe_zero]
    simp only [logistic_top, e, mul_zero, mul_one, add_zero]

/-- The hyperbolic tangent is a real number, at the infinities too. -/
theorem IsReal.tanh (x : EReal) : IsReal (Ideal.tanh x) := by
  induction x using EReal.rec with
  | bot => exact ⟨-1, by rw [Ideal.tanh_bot, EReal.coe_neg, EReal.coe_one]⟩
  | coe r => exact ⟨_, Ideal.tanh_coe r⟩
  | top => exact ⟨1, by rw [Ideal.tanh_top, EReal.coe_one]⟩

/-- The logistic function's derivative, from the hyperbolic tangent of the half: of any argument and any factor. -/
theorem logistic_grad (p x : EReal) :
    Ideal.ofBits .f32 0x3F000000#32 * (Ideal.ofBits .f32 0x3F000000#32 * p * ((1 + Ideal.tanh (Ideal.ofBits .f32 0x3F000000#32 * x)) * (1 - Ideal.tanh (Ideal.ofBits .f32 0x3F000000#32 * x))))
      = p * (Ideal.div 1 (1 + Ideal.exp (-x)) * (1 - Ideal.div 1 (1 + Ideal.exp (-x)))) := by
  rw [← Cert.Scalars.sigmoid, Cert.Scalars.half]
  obtain ⟨t, ht⟩ := IsReal.tanh (((1 / 2 : ℝ) : EReal) * x)
  rw [ht]
  have e : (((1 / 2 : ℝ) : EReal) * t + ((1 / 2 : ℝ) : EReal)) * (1 - (((1 / 2 : ℝ) : EReal) * t + ((1 / 2 : ℝ) : EReal)))
      = ((1 / 2 : ℝ) : EReal) * (((1 / 2 : ℝ) : EReal) * ((1 + (t : EReal)) * (1 - t))) := by
    norm_cast
    ring
  rw [e, mul_assoc _ p, mul_left_comm _ p, mul_left_comm _ p]

end Cert.Finite

end
-- ==== Proof.Calls.Down.lean ====
module

public import proofs.«01_k».proof.Defs
public import proofs.«01_k».proof.Proof.Gen.Kernel2Ideal.Value
public import proofs.«01_k».proof.Proof.Gen.Reference2Ideal.Read
public import proofs.«01_k».proof.Proof.Calls.Finite
public import proofs.«01_k».proof.Proof.Gen.Pre_finite_down
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Cert.Reference2Ideal.Read
open Idealize.ShloMosaic.Pipeline (Dat)

variable (m : (ℓ : Loc nD τ sig) → Buf (Elt Ideal) ℓ) (ρ : Dev nD → PrngReg)

open Cert.Finite

/-- Which block of each array a grid point stages. -/
theorem idx : ∀ t : Fin cfg0.N, win0_0.index t = ![t.val % 32, 0] ∧ win0_1.index t = ![t.val / 32, 0] ∧ win0_2.index t = ![t.val % 32, t.val / 32] ∧ win0_3.index t = ![t.val % 32, t.val / 32] :=
  (by decide +kernel : ∀ t : Fin grid0.N, win0_0.index t = ![t.val % 32, 0] ∧ win0_1.index t = ![t.val / 32, 0] ∧ win0_2.index t = ![t.val % 32, t.val / 32] ∧ win0_3.index t = ![t.val % 32, t.val / 32])

/-- The row of the arrays that row `r` of grid point `t`'s blocks is. -/
def row (t : Fin cfg0.N) (r : Fin 512) : Fin 16384 := ⟨512 * (t.val % 32) + r.val, by omega⟩

theorem half_lt (t : Fin cfg0.N) : t.val / 32 < 2 := by have h := t.isLt; have h' : cfg0.N = 64 := rfl; omega

/-- The column of the joined arrays that column `k` of grid point `t`'s block is. -/
def wcol (t : Fin cfg0.N) (k : Fin 2816) : Fin 5632 := ⟨2816 * (t.val / 32) + k.val, by have h := half_lt t; omega⟩

/-- The column of each product that column `k` of half a block is. -/
def col (t : Fin cfg0.N) (k : Fin 1408) : Fin 2816 := ⟨1408 * (t.val / 32) + k.val, by have h := half_lt t; omega⟩

theorem row_val (t : Fin cfg0.N) (r : Fin 512) : (row t r).val = 512 * (t.val % 32) + r.val := rfl

theorem wcol_val (t : Fin cfg0.N) (k : Fin 2816) : (wcol t k).val = 2816 * (t.val / 32) + k.val := rfl

theorem col_val (t : Fin cfg0.N) (k : Fin 1408) : (col t k).val = 1408 * (t.val / 32) + k.val := rfl

theorem b0 (c : Dev nD) (t : Fin cfg0.N) (r : Fin 512) (k : Fin 1024) :
    iblk m c 0 t (ix2 r k) = m ((c.tc : Thread nD τ).loc main_arg0) (ix2 (row t r) k) := by
  blk_ext [iblk, V, idx t, row_val]

theorem b1 (c : Dev nD) (t : Fin cfg0.N) (k : Fin 1408) (l : Fin 1024) :
    iblk m c 1 t (ix2 k l) = m ((c.tc : Thread nD τ).loc main_arg4) (ix2 (col t k) l) := by
  have e : (win0_1.blk t).view.emb (ix2 k l) = ix2 (col t k) l := by blk_ext [idx t, col_val]
  show V m c main_v9 ((win0_1.blk t).view.emb (ix2 k l)) = _
  rw [e]
  unfold V
  after_reads_at

/-- The two products of the forward pass, of the arguments. -/
abbrev gate (c : Dev nD) := val_main_v0 (F := Ideal) (m ((c.tc : Thread nD τ).loc main_arg1)) (m ((c.tc : Thread nD τ).loc main_arg2))

abbrev up (c : Dev nD) := val_main_v1 (F := Ideal) (m ((c.tc : Thread nD τ).loc main_arg1)) (m ((c.tc : Thread nD τ).loc main_arg3))

/-- The saved products' columns, joined in the order in which the step stores them. -/
def gucat (c : Dev nD) : S16384x5632.Idx → EReal :=
  concatenate S16384x5632 1 [⟨S16384x1408, extractStridedSlice S16384x1408 ![0, 0] (gate m c) slices_S16384x2816_S16384x1408_0_0⟩, ⟨S16384x1408, extractStridedSlice S16384x1408 ![0, 0] (up m c) slices_S16384x2816_S16384x1408_0_0⟩, ⟨S16384x1408, extractStridedSlice S16384x1408 ![0, 1408] (gate m c) slices_S16384x2816_S16384x1408_0_1408⟩, ⟨S16384x1408, extractStridedSlice S16384x1408 ![0, 1408] (up m c) slices_S16384x2816_S16384x1408_0_1408⟩] concatenates_S16384x1408_S16384x1408_S16384x1408_S16384x1408_S16384x5632_d1

theorem b2 (c : Dev nD) (t : Fin cfg0.N) (r : Fin 512) (k : Fin 2816) :
    iblk m c 2 t (ix2 r k) = gucat m c (ix2 (row t r) (wcol t k)) := by
  have e : (win0_2.blk t).view.emb (ix2 r k) = ix2 (row t r) (wcol t k) := by blk_ext [idx t, row_val, wcol_val]
  show V m c main_v8 ((win0_2.blk t).view.emb (ix2 r k)) = _
  rw [e]
  unfold V
  after_reads_at
  unfold gucat gate up
  after_reads_at
  pointwise [val_main_v0, val_main_v1]

/-- The saved columns of the gate's product. -/
theorem gucat_gate (c : Dev nD) (R : Fin 16384) (K : Fin 5632) (k : Fin 2816) (h : K.val = k.val ∧ k.val < 1408 ∨ K.val = k.val + 1408 ∧ 1408 ≤ k.val) :
    gucat m c (ix2 R K) = gate m c (ix2 R k) := by
  unfold gucat
  generalize gate m c = A
  generalize up m c = B
  pointwise
  by_cases h1 : K.val < 1408
  · rw [dif_pos h1]
    exact congrArg (fun j => A (ix2 R j)) (Fin.ext (by show K.val = k.val; omega))
  rw [dif_neg h1]
  by_cases h2 : K.val - 1408 < 1408
  · rw [dif_pos h2]
    exfalso; omega
  rw [dif_neg h2]
  by_cases h3 : K.val - 1408 - 1408 < 1408
  · rw [dif_pos h3]
    exact congrArg (fun j => A (ix2 R j)) (Fin.ext (by show 1408 + (K.val - 1408 - 1408) = k.val; omega))
  · rw [dif_neg h3]
    exfalso; omega

/-- The saved columns of the up product. -/
theorem gucat_up (c : Dev nD) (R : Fin 16384) (K : Fin 5632) (k : Fin 2816) (h : K.val = k.val + 1408 ∧ k.val < 1408 ∨ K.val = k.val + 2816 ∧ 1408 ≤ k.val) :
    gucat m c (ix2 R K) = up m c (ix2 R k) := by
  unfold gucat
  generalize gate m c = A
  generalize up m c = B
  pointwise
  by_cases h1 : K.val < 1408
  · rw [dif_pos h1]
    exfalso; omega
  rw [dif_neg h1]
  by_cases h2 : K.val - 1408 < 1408
  · rw [dif_pos h2]
    exact congrArg (fun j => B (ix2 R j)) (Fin.ext (by show K.val - 1408 = k.val; omega))
  rw [dif_neg h2]
  by_cases h3 : K.val - 1408 - 1408 < 1408
  · rw [dif_pos h3]
    exfalso; omega
  · rw [dif_neg h3]
    exact congrArg (fun j => B (ix2 R j)) (Fin.ext (by show 1408 + (K.val - 1408 - 1408 - 1408) = k.val; omega))

/-- The two halves of a grid point's saved columns. -/
theorem ld_gate (c : Dev nD) (t : Fin cfg0.N) (r : Fin 512) (k : Fin 1408) :
    View.ld (iblk m c 2 t) r0_2 (ix2 r k) = gate m c (ix2 (row t r) (col t k)) := by
  have e : r0_2.idx (ix2 r k) = ix2 r ⟨k.val, by omega⟩ := by blk_ext [Rect.idx_unit_val]
  show iblk m c 2 t (r0_2.idx (ix2 r k)) = _
  rw [e, b2]
  exact gucat_gate m c _ _ _ (by rw [wcol_val, col_val]; have := half_lt t; dsimp only; omega)

theorem ld_up (c : Dev nD) (t : Fin cfg0.N) (r : Fin 512) (k : Fin 1408) :
    View.ld (iblk m c 2 t) r0_3 (ix2 r k) = up m c (ix2 (row t r) (col t k)) := by
  have e : r0_3.idx (ix2 r k) = ix2 r ⟨1408 + k.val, by omega⟩ := by blk_ext [Rect.idx_unit_val]
  show iblk m c 2 t (r0_3.idx (ix2 r k)) = _
  rw [e, b2]
  exact gucat_up m c _ _ _ (by rw [wcol_val, col_val]; have := half_lt t; dsimp only; omega)

/-- The gradient of the gated product, of the arguments. -/
abbrev dact (c : Dev nD) := val_main_v5 (F := Ideal) (m ((c.tc : Thread nD τ).loc main_arg0)) (m ((c.tc : Thread nD τ).loc main_arg4))

theorem pay_dact (c : Dev nD) (t : Fin cfg0.N) (r : Fin 512) (k : Fin 1408) :
    k0_pay1 (iblk m c 0 t) (iblk m c 1 t) (ix2 r k) = dact m c (ix2 (row t r) (col t k)) := by
  unfold dact
  unfold_payloads
  pointwise [val_main_v5]
  simp only [b0, b1]

/-- The logistic function of the gate's product, as a grid point computes it. -/
theorem pay_logistic (c : Dev nD) (t : Fin cfg0.N) (r : Fin 512) (k : Fin 1408) :
    k0_pay3 (View.ld (iblk m c 2 t) r0_2) (ix2 r k) = val_main_v2_2 (F := Ideal) (m ((c.tc : Thread nD τ).loc main_arg1)) (m ((c.tc : Thread nD τ).loc main_arg2)) (ix2 (row t r) (col t k)) := by
  have h := ld_gate m c t r k
  generalize View.ld (iblk m c 2 t) r0_2 = lg at *
  unfold gate at h
  generalize hA : val_main_v0 (F := Ideal) (m ((c.tc : Thread nD τ).loc main_arg1)) (m ((c.tc : Thread nD τ).loc main_arg2)) = A at *
  unfold_payloads
  pointwise [val_main_v2_2, val_main_call0_v4, val_main_call0_v3, val_main_call0_v2, val_main_call0_v1, val_main_call0_v0, val_main_call0_cst, val_main_call0_cst_0, hA]
  rw [Cert.Scalars.sigmoid, h]

/-- The two gradients and their reals. -/
abbrev da (c : Dev nD) := val_main_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

abbrev db (c : Dev nD) := val_main_v6 (F := Ideal) (m ((c.tc : Thread nD τ).loc main_arg0)) (m ((c.tc : Thread nD τ).loc main_arg1)) (m ((c.tc : Thread nD τ).loc main_arg2)) (m ((c.tc : Thread nD τ).loc main_arg4))

/-- The joined gradients. -/
abbrev refDgu (c : Dev nD) := val_main_v14 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))

/-- The joined gradients' columns of the gate's. -/
theorem dgu_gate (c : Dev nD) (R : Fin 16384) (K : Fin 5632) (k : Fin 2816) (h : K.val = k.val ∧ k.val < 1408 ∨ K.val = k.val + 1408 ∧ 1408 ≤ k.val) :
    refDgu m c (ix2 R K) = da m c (ix2 R k) := by
  unfold refDgu val_main_v14 val_main_v13 val_main_v12 val_main_v11 val_main_v10 val_main_v9
  unfold da
  generalize val_main_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = A
  generalize val_main_v6 (F := Ideal) (m ((c.tc : Thread nD τ).loc main_arg0)) (m ((c.tc : Thread nD τ).loc main_arg1)) (m ((c.tc : Thread nD τ).loc main_arg2)) (m ((c.tc : Thread nD τ).loc main_arg4)) = B
  pointwise
  by_cases h1 : K.val < 1408
  · rw [dif_pos h1]
    exact congrArg (fun j => A (ix2 R j)) (Fin.ext (by show K.val = k.val; omega))
  rw [dif_neg h1]
  by_cases h2 : K.val - 1408 < 1408
  · rw [dif_pos h2]
    exfalso; omega
  rw [dif_neg h2]
  by_cases h3 : K.val - 1408 - 1408 < 1408
  · rw [dif_pos h3]
    exact congrArg (fun j => A (ix2 R j)) (Fin.ext (by show 1408 + (K.val - 1408 - 1408) = k.val; omega))
  · rw [dif_neg h3]
    exfalso; omega

/-- The joined gradients' columns of the up product's. -/
theorem dgu_up (c : Dev nD) (R : Fin 16384) (K : Fin 5632) (k : Fin 2816) (h : K.val = k.val + 1408 ∧ k.val < 1408 ∨ K.val = k.val + 2816 ∧ 1408 ≤ k.val) :
    refDgu m c (ix2 R K) = db m c (ix2 R k) := by
  unfold refDgu val_main_v14 val_main_v13 val_main_v12 val_main_v11 val_main_v10 val_main_v9
  unfold db
  generalize val_main_v8 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) = A
  generalize val_main_v6 (F := Ideal) (m ((c.tc : Thread nD τ).loc main_arg0)) (m ((c.tc : Thread nD τ).loc main_arg1)) (m ((c.tc : Thread nD τ).loc main_arg2)) (m ((c.tc : Thread nD τ).loc main_arg4)) = B
  pointwise
  by_cases h1 : K.val < 1408
  · rw [dif_pos h1]
    exfalso; omega
  rw [dif_neg h1]
  by_cases h2 : K.val - 1408 < 1408
  · rw [dif_pos h2]
    exact congrArg (fun j => B (ix2 R j)) (Fin.ext (by show K.val - 1408 = k.val; omega))
  rw [dif_neg h2]
  by_cases h3 : K.val - 1408 - 1408 < 1408
  · rw [dif_pos h3]
    exfalso; omega
  · rw [dif_neg h3]
    exact congrArg (fun j => B (ix2 R j)) (Fin.ext (by show 1408 + (K.val - 1408 - 1408 - 1408) = k.val; omega))

/-- The precondition. -/
abbrev Real (m : (ℓ : Loc nD τ sig) → Buf (Elt Ideal) ℓ) := Cert.Pre_Kernel2Ideal_finite_down (hPre_finite_down := Cert.Pre_finite_down.Gen.facts) m

/-- Under it every argument but the gate's weight holds real numbers. -/
theorem real (h : Real m) (c : Dev nD) :
    (∀ i, IsReal (m ((c.tc : Thread nD τ).loc main_arg0) i)) ∧ (∀ i, IsReal (m ((c.tc : Thread nD τ).loc main_arg1) i)) ∧ (∀ i, IsReal (m ((c.tc : Thread nD τ).loc main_arg3) i)) ∧ ∀ i, IsReal (m ((c.tc : Thread nD τ).loc main_arg4) i) := by
  have e := congrFun (h c) ix0
  unfold Cert.Pre_finite_down.fn Cert.Pre_finite_down.fn_part1 at e
  simp only [andi_apply, IntOp.andi_eq_one] at e
  obtain ⟨⟨⟨e0, e1⟩, e3⟩, e4⟩ := e
  exact ⟨isReal_of_all _ _ _ _ _ _ _ e0, isReal_of_all _ _ _ _ _ _ _ e1, isReal_of_all _ _ _ _ _ _ _ e3, isReal_of_all _ _ _ _ _ _ _ e4⟩

/-- So do the two products that it reaches. -/
theorem real_up (h : Real m) (c : Dev nD)
    (R : Fin 16384) (k : Fin 2816) : IsReal (up m c (ix2 R k)) := by
  obtain ⟨h0, h1, h3, h4⟩ := real m h c
  unfold up
  pointwise [val_main_v1]
  exact IsReal.sum _ _ fun _ => (h1 _).mul (h3 _)

theorem real_dact (h : Real m) (c : Dev nD)
    (R : Fin 16384) (k : Fin 2816) : IsReal (dact m c (ix2 R k)) := by
  obtain ⟨h0, h1, h3, h4⟩ := real m h c
  unfold dact
  pointwise [val_main_v5]
  exact IsReal.sum _ _ fun _ => (h0 _).mul (h4 _)

/-- The reference's logistic function of the gate's product. -/
theorem logistic_at (c : Dev nD) (R : Fin 16384) (k : Fin 2816) :
    val_main_v2_2 (F := Ideal) (m ((c.tc : Thread nD τ).loc main_arg1)) (m ((c.tc : Thread nD τ).loc main_arg2)) (ix2 R k) = Ideal.div 1 (1 + Ideal.exp (-gate m c (ix2 R k))) := by
  unfold gate
  generalize hA : val_main_v0 (F := Ideal) (m ((c.tc : Thread nD τ).loc main_arg1)) (m ((c.tc : Thread nD τ).loc main_arg2)) = A
  pointwise [val_main_v2_2, val_main_call0_v4, val_main_call0_v3, val_main_call0_v2, val_main_call0_v1, val_main_call0_v0, val_main_call0_cst, val_main_call0_cst_0, hA]

/-- A grid point's gradient of the gate's product. -/
theorem daBlk_eq (h : Real m) (c : Dev nD) (t : Fin cfg0.N) (r : Fin 512) (k : Fin 1408) :
    k0_pay5 (iblk m c 0 t) (iblk m c 1 t) (View.ld (iblk m c 2 t) r0_2) (View.ld (iblk m c 2 t) r0_3) (ix2 r k) = da m c (ix2 (row t r) (col t k)) := by
  have hd := pay_dact m c t r k
  have hs := pay_logistic m c t r k
  have hg := ld_gate m c t r k
  have hu := ld_up m c t r k
  have ru := real_up m h c (row t r) (col t k)
  have rd := real_dact m h c (row t r) (col t k)
  have rs := logistic_at m c (row t r) (col t k)
  unfold da val_main_v8 val_main_call1_v2 val_main_call1_v1 val_main_call1_v0 val_main_v7 val_main_v2_1 val_main_call0_v7
  unfold gate at *
  unfold up at *
  unfold dact at *
  generalize val_main_v2_2 (F := Ideal) (m ((c.tc : Thread nD τ).loc main_arg1)) (m ((c.tc : Thread nD τ).loc main_arg2)) = S at *
  generalize val_main_v0 (F := Ideal) (m ((c.tc : Thread nD τ).loc main_arg1)) (m ((c.tc : Thread nD τ).loc main_arg2)) = A at *
  generalize val_main_v1 (F := Ideal) (m ((c.tc : Thread nD τ).loc main_arg1)) (m ((c.tc : Thread nD τ).loc main_arg3)) = B at *
  generalize val_main_v5 (F := Ideal) (m ((c.tc : Thread nD τ).loc main_arg0)) (m ((c.tc : Thread nD τ).loc main_arg4)) = D at *
  unfold k0_pay5 k0_pay4
  generalize k0_pay3 (View.ld (iblk m c 2 t) r0_2) = ps at *
  generalize k0_pay1 (iblk m c 0 t) (iblk m c 1 t) = pd at *
  unfold k0_pay2
  generalize View.ld (iblk m c 2 t) r0_2 = lg at *
  generalize View.ld (iblk m c 2 t) r0_3 = lu at *
  pointwise [val_main_call0_v6, val_main_call0_cst_1]
  rw [hd, hs, hg, hu, rs]
  exact swiglu rd ru _

/-- A grid point's gradient of the up product. -/
theorem dbBlk_eq (c : Dev nD) (t : Fin cfg0.N) (r : Fin 512) (k : Fin 1408) :
    k0_pay6 (iblk m c 0 t) (iblk m c 1 t) (View.ld (iblk m c 2 t) r0_2) (ix2 r k) = db m c (ix2 (row t r) (col t k)) := by
  have hd := pay_dact m c t r k
  have hs := pay_logistic m c t r k
  have hg := ld_gate m c t r k
  unfold db val_main_v6 val_main_v2_0
  unfold gate at *
  unfold dact at *
  generalize val_main_v2_2 (F := Ideal) (m ((c.tc : Thread nD τ).loc main_arg1)) (m ((c.tc : Thread nD τ).loc main_arg2)) = S at *
  generalize val_main_v0 (F := Ideal) (m ((c.tc : Thread nD τ).loc main_arg1)) (m ((c.tc : Thread nD τ).loc main_arg2)) = A at *
  generalize val_main_v5 (F := Ideal) (m ((c.tc : Thread nD τ).loc main_arg0)) (m ((c.tc : Thread nD τ).loc main_arg4)) = D at *
  unfold k0_pay6 k0_pay4
  generalize k0_pay3 (View.ld (iblk m c 2 t) r0_2) = ps at *
  generalize k0_pay1 (iblk m c 0 t) (iblk m c 1 t) = pd at *
  unfold k0_pay2
  generalize View.ld (iblk m c 2 t) r0_2 = lg at *
  pointwise
  rw [hd, hs, hg]
  exact mul_comm _ _

/-- The two stored values read their blocks whole. -/
theorem pay5_whole (x0 : Vec Ideal S512x1024 .f32) (x1 : Vec Ideal S1408x1024 .bf16) (g u : Vec Ideal S512x1408 .bf16) :
    k0_pay5 (View.ld x0 r0_0) (View.ld x1 r0_1) g u = k0_pay5 x0 x1 g u := by
  rw [View.ld_unit_lit _ x0 (by decide), View.ld_unit_lit _ x1 (by decide)]

theorem pay6_whole (x0 : Vec Ideal S512x1024 .f32) (x1 : Vec Ideal S1408x1024 .bf16) (g : Vec Ideal S512x1408 .bf16) :
    k0_pay6 (View.ld x0 r0_0) (View.ld x1 r0_1) g = k0_pay6 x0 x1 g := by
  rw [View.ld_unit_lit _ x0 (by decide), View.ld_unit_lit _ x1 (by decide)]

/-- A grid point's joined gradients. -/
theorem blk_eq (h : Real m) (c : Dev nD) (t : Fin cfg0.N) (r : Fin 512) (K : Fin 2816) :
    out0_3 (iblk m c 0 t) (iblk m c 1 t) (iblk m c 2 t) (ix2 r K) = refDgu m c (ix2 (row t r) (wcol t K)) := by
  canon_tiles x hx
  all_goals
    obtain ⟨r', k, rfl⟩ : ∃ (r' : Fin 512) (k : Fin 1408), x = ix2 r' k := ⟨x 0, x 1, by blk_ext []⟩
    obtain rfl : r = r' := Fin.ext hx0
  · have hk : K.val = 1408 + k.val := hx1
    refine (congrFun (pay6_whole _ _ _) _).trans ((dbBlk_eq m c t r k).trans (dgu_up m c _ _ _ ?_).symm)
    rw [wcol_val, col_val]
    have := half_lt t
    omega
  · have hk : K.val = k.val := hx1
    refine (congrFun (pay5_whole _ _ _ _) _).trans ((daBlk_eq m h c t r k).trans (dgu_gate m c _ _ _ ?_).symm)
    rw [wcol_val, col_val]
    have := half_lt t
    omega

theorem arr3_of (c : Dev nD) (G : S16384x5632.Idx → EReal)
    (hG : ∀ (t : Fin cfg0.N) (r : Fin 512) (l : Fin 2816), out0_3 (iblk m c 0 t) (iblk m c 1 t) (iblk m c 2 t) (ix2 r l) = G (ix2 (row t r) (wcol t l))) :
    (dats m 0 c).arrAt 3 cfg0.N = G := by
  refine (dats m 0 c).arrAt_eq_of_covers 3 _ (by decide +kernel) fun t hf y => ?_
  blk_simp
  rw [after0_3]
  obtain ⟨r, l, rfl⟩ : ∃ (r : Fin 512) (l : Fin 2816), y = ix2 r l := ⟨y 0, y 1, by blk_ext []⟩
  have e : (win0_3.blk t).view.emb (ix2 r l) = ix2 (row t r) (wcol t l) := by blk_ext [idx t, row_val, wcol_val]
  rw [e]
  exact hG t r l

/-- The joined gradients after the run. -/
theorem arr3 (h : Real m) (c : Dev nD) : (dats m 0 c).arrAt 3 cfg0.N = refDgu m c :=
  arr3_of m c _ fun t r l => blk_eq m h c t r l

/-- The call's result is the reference's, of real arguments. -/
theorem algebraic : Cert.algebraic_Kernel2Ideal_Reference2Ideal_pre_finite_down (hPre_finite_down := Cert.Pre_finite_down.Gen.facts) := fun m g m' g' hp e =>
  ⟨fun c => refDgu m c,
    (θ_run (Cert.Kernel2Ideal.defs (F := Ideal)) _ _).mono (fun _ h c => ⟨(h c).1.trans (arr3 m hp c), (h c).2⟩) (Cert.Kernel2Ideal.Value.run_blocks m g),
    (θ_run Cert.Reference2Ideal.defs _ _).mono (fun _ h c => by
      obtain ⟨e0, e1, e2, e3, e4⟩ := e c
      refine ⟨(h c).1.trans ((val_main_v14_eq m' c).trans ?_), (h c).2⟩
      rw [e0, e1, e2, e3, e4]) (Cert.Reference2Ideal.Value.run m' g')⟩

end Cert.Kernel2Ideal.Val

end
-- ==== Proof.Calls.Up.lean ====
module

public import proofs.«01_k».proof.Defs
public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Cert.Reference3Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0])

/-- The row of the arrays that row `r` of grid point `t`'s blocks is. -/
def row (t : Fin cfg0.N) (r : Fin 512) : Fin 16384 :=
  ⟨512 * t.val + r.val, by have h := t.isLt; have h' : cfg0.N = 32 := rfl; omega⟩

theorem row_val (t : Fin cfg0.N) (r : Fin 512) : (row t r).val = 512 * t.val + r.val := rfl

theorem b0 (c : Dev nD) (t : Fin cfg0.N) (r : Fin 512) (k : Fin 5632) :
    iblk m c 0 t (ix2 r k) = m ((c.tc : Thread nD τ).loc main_arg0) (ix2 (row t r) k) := by
  blk_ext [iblk, V, idx t, row_val]

theorem b2 (c : Dev nD) (t : Fin cfg0.N) (r : Fin 512) (k : Fin 1024) :
    iblk m c 2 t (ix2 r k) = m ((c.tc : Thread nD τ).loc main_arg3) (ix2 (row t r) k) := by
  blk_ext [iblk, V, idx t, row_val]

theorem b4 (c : Dev nD) (t : Fin cfg0.N) (r : Fin 512) (k : Fin 1024) :
    iblk m c 4 t (ix2 r k) = m ((c.tc : Thread nD τ).loc main_arg5) (ix2 (row t r) k) := by
  blk_ext [iblk, V, idx t, row_val]

/-- The gate's and the up product's weights, their halves side by side. -/
abbrev wcat (c : Dev nD) : Vec Ideal S1024x5632 .f32 :=
  concatenate S1024x5632 1 [⟨S1024x1408, extractStridedSlice S1024x1408 ![0, 0] (m ((c.tc : Thread nD τ).loc main_arg1)) slices_S1024x2816_S1024x1408_0_0⟩,
    ⟨S1024x1408, extractStridedSlice S1024x1408 ![0, 0] (m ((c.tc : Thread nD τ).loc main_arg2)) slices_S1024x2816_S1024x1408_0_0⟩,
    ⟨S1024x1408, extractStridedSlice S1024x1408 ![0, 1408] (m ((c.tc : Thread nD τ).loc main_arg1)) slices_S1024x2816_S1024x1408_0_1408⟩,
    ⟨S1024x1408, extractStridedSlice S1024x1408 ![0, 1408] (m ((c.tc : Thread nD τ).loc main_arg2)) slices_S1024x2816_S1024x1408_0_1408⟩]
    concatenates_S1024x1408_S1024x1408_S1024x1408_S1024x1408_S1024x5632_d1

/-- Window 1 holds them transposed. -/
theorem b1 (c : Dev nD) (t : Fin cfg0.N) (k : Fin 5632) (l : Fin 1024) :
    iblk m c 1 t (ix2 k l) = wcat m c (ix2 l k) := by
  have e : (win0_1.blk t).view.emb (ix2 k l) = ix2 k l := by blk_ext [idx t]
  show V m c main_v6 ((win0_1.blk t).view.emb (ix2 k l)) = _
  rw [e]
  unfold V
  after_reads_at
  after_reads_at

/-- The norm's scale stands in window 3. -/
theorem b3 (c : Dev nD) (t : Fin cfg0.N) (r : Fin 1) (k : Fin 1024) :
    iblk m c 3 t (ix2 r k) = m ((c.tc : Thread nD τ).loc main_arg4) (ix1 k) := by
  have e : (win0_3.blk t).view.emb (ix2 r k) = ix2 r k := by blk_ext [idx t]
  show V m c main_v7 ((win0_3.blk t).view.emb (ix2 r k)) = _
  rw [e]
  unfold V
  after_reads_at

/-- The gradient of the normed rows, as the reference computes it from the arguments. -/
abbrev dh (c : Dev nD) := val_main_v27 (F := Ideal) (m ((c.tc : Thread nD τ).loc main_arg0)) (m ((c.tc : Thread nD τ).loc main_arg1)) (m ((c.tc : Thread nD τ).loc main_arg2))

/-- The reference's input gradient, of the arguments. -/
abbrev refDx (c : Dev nD) := val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The reference's scale gradient, of the arguments. -/
abbrev refDg (c : Dev nD) := val_main_v49 (F := Ideal) (m ((c.tc : Thread nD τ).loc main_arg0)) (m ((c.tc : Thread nD τ).loc main_arg1)) (m ((c.tc : Thread nD τ).loc main_arg2)) (m ((c.tc : Thread nD τ).loc main_arg3))

/-- What grid point `t` computes of the normed rows' gradient. -/
abbrev dhBlk (c : Dev nD) (t : Fin cfg0.N) : FVec Ideal S512x1024 .f32 := k0_pay4 (iblk m c 0 t) (iblk m c 1 t)

theorem reorder (p q r s : EReal) : p + (q + (r + s)) = q + s + (p + r) := by abel

/-- The one product with the joined weights is the two products' sum. -/
theorem dhBlk_eq (c : Dev nD) (t : Fin cfg0.N) (r : Fin 512) (l : Fin 1024) :
    dhBlk m c t (ix2 r l) = dh m c (ix2 (row t r) l) := by
  unfold dh dhBlk
  unfold_payloads
  pointwise
  simp only [b0, b1]
  pointwise [sumSplitAll, val_main_v27, val_main_v26, val_main_v25, val_main_v6, val_main_v5, val_main_v4, val_main_v3, val_main_v2, val_main_v1, val_main_v0]
  simp only [← Nat.add_assoc, Nat.reduceAdd]
  exact reorder _ _ _ _

/-- The input gradient's rows of grid point `t`. -/
theorem dxBlk_eq (c : Dev nD) (t : Fin cfg0.N) (r : Fin 512) (l : Fin 1024) :
    k0_pay1 (k0_pay8 (iblk m c 0 t) (iblk m c 1 t) (iblk m c 2 t) (iblk m c 3 t)) (iblk m c 4 t) (ix2 r l)
      = refDx m c (ix2 (row t r) l) := by
  have hd := fun k => dhBlk_eq m c t r k
  unfold refDx val_main_v48 val_main_v47 val_main_v46 val_main_v45 val_main_v44 val_main_v43 val_main_v42 val_main_v40 val_main_v39
    val_main_v38 val_main_v36 val_main_v35 val_main_v34 val_main_v32
  unfold dh at hd
  generalize val_main_v27 (F := Ideal) (m ((c.tc : Thread nD τ).loc main_arg0)) (m ((c.tc : Thread nD τ).loc main_arg1)) (m ((c.tc : Thread nD τ).loc main_arg2)) = dh at *
  unfold k0_pay1 k0_pay8
  unfold dhBlk at hd
  generalize k0_pay4 (iblk m c 0 t) (iblk m c 1 t) = dhb at *
  unfold_payloads
  pointwise [val_main_v41, val_main_v37, val_main_v31, val_main_v20, val_main_v17, val_main_v16, val_main_v15, val_main_v14,
    val_main_v13, val_main_v12, val_main_v11, val_main_v10, val_main_v9, val_main_v8, val_main_v7,
    val_main_cst, val_main_cst_0, val_main_cst_1, val_main_cst_2, val_main_cst_5, val_main_cst_6, val_main_cst_7]
  simp only [b2, b3, b4, hd, add_assoc]

/-- The rows before the norm. -/
def xr (c : Dev nD) (R : Fin 16384) (k : Fin 1024) : EReal := m ((c.tc : Thread nD τ).loc main_arg3) (ix2 R k)

/-- What row `R` adds to the scale's gradient at column `l`. -/
def dgTerm (c : Dev nD) (l : Fin 1024) (R : Fin 16384) : EReal :=
  xr m c R l * Ideal.rsqrt (Ideal.div (∑ k : Fin 1024, xr m c R k * xr m c R k)
    (Ideal.ofBits FTy.f32 0x44800000#32) + Ideal.ofBits FTy.f32 0x358637BD#32) * dh m c (ix2 R l)

/-- A grid point adds its rows' terms to what the point before left. -/
theorem dgPay (c : Dev nD) (t : Fin cfg0.N) (acc : Vec Ideal S1x1024 .f32) (r : Fin 1) (l : Fin 1024) :
    k0_pay3 (k0_pay7 (iblk m c 0 t) (iblk m c 1 t) (iblk m c 2 t)) acc (ix2 r l)
      = acc (ix2 r l) + ∑ r : Fin 512, dgTerm m c l (row t r) := by
  have hd := fun r k => dhBlk_eq m c t r k
  unfold dgTerm xr
  unfold k0_pay3 k0_pay7
  unfold dhBlk at hd
  generalize k0_pay4 (iblk m c 0 t) (iblk m c 1 t) = dhb at *
  unfold_payloads
  pointwise
  simp only [b2, hd]

theorem zeroPay (r : Fin 1) (l : Fin 1024) : k0_pay2 (F := Ideal) (ix2 r l) = 0 := by
  unfold_payloads
  pointwise

theorem refDg_eq (c : Dev nD) (r : Fin 1) (l : Fin 1024) : refDg m c (ix2 r l) = ∑ R : Fin 16384, dgTerm m c l R := by
  unfold refDg dgTerm xr dh val_main_v49 val_main_v33 val_main_v30 val_main_v29 val_main_v28
  generalize val_main_v27 (F := Ideal) (m ((c.tc : Thread nD τ).loc main_arg0)) (m ((c.tc : Thread nD τ).loc main_arg1)) (m ((c.tc : Thread nD τ).loc main_arg2)) = dh
  pointwise [val_main_v19, val_main_v18, val_main_v14, val_main_v13, val_main_v12, val_main_v11, val_main_v10, val_main_v9,
    val_main_v8, val_main_v7, val_main_cst, val_main_cst_0, val_main_cst_1, val_main_cst_3, val_main_cst_4]
  simp only [Finset.univ_unique, Finset.sum_singleton]

theorem outs5 (c : Dev nD) (t : Fin cfg0.N) :
    (outsAt0 m c t.val t.isLt).1 = k0_pay1 (k0_pay8 (iblk m c 0 t) (iblk m c 1 t) (iblk m c 2 t) (iblk m c 3 t)) (iblk m c 4 t) := by
  by_cases h : t.val % 32 = 0
  · rw [outsAt0_A m c t h]; frame_out
  · rw [outsAt0_B m c t h]; frame_out

/-- The first output array after the run, from what every grid point leaves of it. -/
theorem arr5_of (c : Dev nD) (G : S16384x1024.Idx → EReal)
    (hG : ∀ (t : Fin cfg0.N) (r : Fin 512) (l : Fin 1024), (outsAt0 m c t.val t.isLt).1 (ix2 r l) = G (ix2 (row t r) l)) :
    (dats m 0 c).arrAt 5 cfg0.N = G := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by blk_ext []⟩
  have e : (win0_5.blk t).view.emb (ix2 r l) = ix2 (row t r) l := by blk_ext [idx t, row_val]
  rw [e]
  exact hG t r l

/-- The input gradient after the run. -/
theorem arr5 (c : Dev nD) : (dats m 0 c).arrAt 5 cfg0.N = refDx m c :=
  arr5_of m c _ fun t r l => by rw [outs5]; exact dxBlk_eq m c t r l

theorem last_lt : 31 < cfg0.N := by decide

/-- The last grid point. -/
def last : Fin cfg0.N := ⟨31, last_lt⟩

theorem whole6 : (cfg0.win 6).WholeAt last :=
  ⟨(flush0_6 last).mpr rfl, fun t h => Fin.ext (by
    have h1 := (flush0_6 t).mp h
    have h2 : t.val < 32 := t.isLt
    show t.val = 31
    omega), by decide +kernel⟩

/-- The running sum at the last point: every point's rows. -/
theorem outs6 (c : Dev nD) (r : Fin 1) (l : Fin 1024) :
    (outsAt0 m c last.val last.isLt).2 (ix2 r l) = ∑ t : Fin cfg0.N, ∑ r : Fin 512, dgTerm m c l (row t r) := by
  rw [Pipeline.eq_sum_fin_of_reset_step_apply_last (fun n h => (outsAt0 m c n h).2) 32 (fun _ => (0 : EReal))
    (fun t i => ∑ r : Fin 512, dgTerm m c (i 1) (row t r))
    (fun t h i => by
      rw [outsAt0_A m c t h]; frame_out
      idx_vars i
      exact (dgPay m c t _ _ _).trans (by rw [zeroPay]))
    (fun t h i => by
      rw [outsAt0_B m c t h]; frame_out
      idx_vars i
      exact dgPay m c t _ _ _) (le_of_eq rfl) last rfl (ix2 r l), zero_add]
  rfl

theorem after6 (c : Dev nD) (j : S1x1024.Idx) (G : S1x1024.Idx → EReal)
    (hG : ∀ i, (outsAt0 m c last.val last.isLt).2 i = G i) : (dats m 0 c).after 6 last j = G j := by
  rw [after0_6]
  exact hG j

theorem arr6_of (c : Dev nD) (G : S1x1024.Idx → EReal) (hG : ∀ i, (outsAt0 m c last.val last.isLt).2 i = G i) :
    (dats m 0 c).arrAt 6 cfg0.N = G := by
  refine (dats m 0 c).arrAt_eq_of_after_last 6 last whole6 _ fun j => ?_
  exact after6 m c _ _ hG

/-- The points' rows are the arrays' rows. -/
theorem sum_rows (f : Fin 16384 → EReal) : ∑ t : Fin cfg0.N, ∑ r : Fin 512, f (row t r) = ∑ R : Fin 16384, f R :=
  Fin.sum_mul_add_congr (F := fun (t : Fin 32) r => f (row t r)) fun t r h => congrArg f (Fin.ext (by
    show 512 * t.val + r.val = t.val * 512 + r.val
    omega))

/-- The scale's gradient after the run: the last point's running sum. -/
theorem arr6 (c : Dev nD) : (dats m 0 c).arrAt 6 cfg0.N = refDg m c :=
  arr6_of m c _ fun i => by
    idx_vars i
    rw [outs6, refDg_eq, sum_rows (dgTerm m c _)]

/-- The call's two results are the reference's. -/
theorem algebraic : Cert.algebraic_Kernel3Ideal_Reference3Ideal := fun m g m' g' _ e =>
  ⟨fun c => refDx m c, fun c => refDg m c,
    (θ_run (Cert.Kernel3Ideal.defs (F := Ideal)) _ _).mono (fun _ h c => ⟨(h c).1.trans (arr5 m c), (h c).2.1.trans (arr6 m c), (h c).2.2⟩) (Cert.Kernel3Ideal.Value.run_blocks m g),
    (θ_run Cert.Reference3Ideal.defs _ _).mono (fun _ h c => by
      obtain ⟨e0, e1, e2, e3, e4, e5⟩ := e c
      refine ⟨(h c).1.trans ((val_main_v48_eq m' c).trans ?_), (h c).2.1.trans ((val_main_v49_eq _ _ _ _).trans ?_), (h c).2.2⟩
      · rw [e0, e1, e2, e3, e4, e5]
      · rw [e0, e1, e2, e3]) (Cert.Reference3Ideal.Value.run m' g')⟩

end Cert.Kernel3Ideal.Val

end
-- ==== Proof.Calls.Merge.lean ====
module

public import proofs.«01_k».proof.Defs
public import proofs.«01_k».proof.Proof.Gen.Kernel4Ideal.Value
public import proofs.«01_k».proof.Proof.Gen.Reference4Ideal.Read
public import proofs.«01_k».proof.Proof.Calls.Finite
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel4Ideal.Val

open Cert.Kernel4Ideal Cert.Kernel4Ideal.Gen Idealize.ShloMosaic Idealize.ShloMosaic.TcCoe Idealize.SL.Sem
open Cert.Reference4Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![t.val, 0] ∧ win0_2.index t = ![t.val, 0] ∧ win0_3.index t = ![t.val, 11] ∧ win0_4.index t = ![t.val, 12] ∧ win0_5.index t = ![t.val, 13] ∧ win0_6.index t = ![t.val, 14] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0] :=
  (by decide +kernel : ∀ t : Fin grid0.N, win0_0.index t = ![t.val, 0] ∧ win0_1.index t = ![t.val, 0] ∧ win0_2.index t = ![t.val, 0] ∧ win0_3.index t = ![t.val, 11] ∧ win0_4.index t = ![t.val, 12] ∧ win0_5.index t = ![t.val, 13] ∧ win0_6.index t = ![t.val, 14] ∧ win0_7.index t = ![0, 0] ∧ win0_8.index t = ![0, 0] ∧ win0_9.index t = ![0, 0] ∧ win0_10.index t = ![t.val, 0] ∧ win0_11.index t = ![t.val, 0] ∧ win0_12.index t = ![t.val, 0] ∧ win0_13.index t = ![t.val, 0] ∧ win0_14.index t = ![t.val, 0])

theorem point_lt (t : Fin cfg0.N) : t.val < 32 := by have h := t.isLt; have h' : cfg0.N = 32 := rfl; omega

/-- The row of the arrays that row `r` of grid point `t`'s blocks is. -/
def row (t : Fin cfg0.N) (r : Fin 512) : Fin 16384 := ⟨512 * t.val + r.val, by have h := point_lt t; omega⟩

theorem row_val (t : Fin cfg0.N) (r : Fin 512) : (row t r).val = 512 * t.val + r.val := rfl

theorem b0 (c : Dev nD) (t : Fin cfg0.N) (r : Fin 512) (k : Fin 1024) :
    iblk m c 0 t (ix2 r k) = m ((c.tc : Thread nD τ).loc main_arg0) (ix2 (row t r) k) := by
  blk_ext [iblk, V, idx t, row_val]

theorem b1 (c : Dev nD) (t : Fin cfg0.N) (r : Fin 512) (k : Fin 1024) :
    iblk m c 1 t (ix2 r k) = val_main_v0 (F := Ideal) (m ((c.tc : Thread nD τ).loc main_arg1)) (m ((c.tc : Thread nD τ).loc main_arg4)) (ix2 (row t r) k) := by
  have e : (win0_1.blk t).view.emb (ix2 r k) = ix2 (row t r) k := by blk_ext [idx t, row_val]
  show V m c main_v1 ((win0_1.blk t).view.emb (ix2 r k)) = _
  rw [e]
  unfold V
  after_reads_at
  pointwise [val_main_v0]

theorem b2 (c : Dev nD) (t : Fin cfg0.N) (r : Fin 512) (k : Fin 1024) :
    iblk m c 2 t (ix2 r k) = val_main_v1 (F := Ideal) (m ((c.tc : Thread nD τ).loc main_arg2)) (m ((c.tc : Thread nD τ).loc main_arg5)) (ix2 (row t r) k) := by
  have e : (win0_2.blk t).view.emb (ix2 r k) = ix2 (row t r) k := by blk_ext [idx t, row_val]
  show V m c main_v3 ((win0_2.blk t).view.emb (ix2 r k)) = _
  rw [e]
  unfold V
  after_reads_at
  pointwise [val_main_v1]

theorem b3 (c : Dev nD) (t : Fin cfg0.N) (r : Fin 512) (k : Fin 512) :
    iblk m c 3 t (ix2 r k) = m ((c.tc : Thread nD τ).loc main_arg3) (ix2 (row t r) ⟨5632 + k.val, by omega⟩) := by
  blk_ext [iblk, V, idx t, row_val]

theorem b4 (c : Dev nD) (t : Fin cfg0.N) (r : Fin 512) (k : Fin 512) :
    iblk m c 4 t (ix2 r k) = m ((c.tc : Thread nD τ).loc main_arg3) (ix2 (row t r) ⟨6144 + k.val, by omega⟩) := by
  blk_ext [iblk, V, idx t, row_val]

theorem b5 (c : Dev nD) (t : Fin cfg0.N) (r : Fin 512) (k : Fin 512) :
    iblk m c 5 t (ix2 r k) = m ((c.tc : Thread nD τ).loc main_arg3) (ix2 (row t r) ⟨6656 + k.val, by omega⟩) := by
  blk_ext [iblk, V, idx t, row_val]

theorem b6 (c : Dev nD) (t : Fin cfg0.N) (r : Fin 512) (k : Fin 512) :
    iblk m c 6 t (ix2 r k) = m ((c.tc : Thread nD τ).loc main_arg3) (ix2 (row t r) ⟨7168 + k.val, by omega⟩) := by
  blk_ext [iblk, V, idx t, row_val]

theorem b7 (c : Dev nD) (t : Fin cfg0.N) (k l : Fin 1024) :
    iblk m c 7 t (ix2 k l) = m ((c.tc : Thread nD τ).loc main_arg4) (ix2 k l) := by
  have e : (win0_7.blk t).view.emb (ix2 k l) = ix2 k l := by blk_ext [idx t]
  show V m c main_v4 ((win0_7.blk t).view.emb (ix2 k l)) = _
  rw [e]
  unfold V
  after_reads_at

theorem b8 (c : Dev nD) (t : Fin cfg0.N) (k l : Fin 1024) :
    iblk m c 8 t (ix2 k l) = m ((c.tc : Thread nD τ).loc main_arg5) (ix2 k l) := by
  have e : (win0_8.blk t).view.emb (ix2 k l) = ix2 k l := by blk_ext [idx t]
  show V m c main_v5 ((win0_8.blk t).view.emb (ix2 k l)) = _
  rw [e]
  unfold V
  after_reads_at

theorem b9 (c : Dev nD) (t : Fin cfg0.N) (k l : Fin 1024) :
    iblk m c 9 t (ix2 k l) = m ((c.tc : Thread nD τ).loc main_arg6) (ix2 k l) := by
  have e : (win0_9.blk t).view.emb (ix2 k l) = ix2 k l := by blk_ext [idx t]
  show V m c main_v6 ((win0_9.blk t).view.emb (ix2 k l)) = _
  rw [e]
  unfold V
  after_reads_at

/-- The shared values read their blocks whole. -/
theorem pay15_whole (x0 : Vec Ideal S512x1024 .f32) (x1 x2 : Vec Ideal S512x1024 .bf16) (x3 x4 x5 x6 : Vec Ideal S512x512 .f32) (x7 x8 x9 : Vec Ideal S1024x1024 .bf16) :
    k0_pay15 x0 x1 x2 x3 x4 x5 x6 x7 x8 x9 = k0_pay2 x0 x9 := by
  unfold k0_pay15
  rw [View.ld_unit_lit _ x0 (by decide), View.ld_unit_lit _ x9 (by decide)]

theorem pay16_whole (x0 : Vec Ideal S512x1024 .f32) (x1 x2 : Vec Ideal S512x1024 .bf16) (x3 x4 x5 x6 : Vec Ideal S512x512 .f32) (x7 x8 x9 : Vec Ideal S1024x1024 .bf16) :
    k0_pay16 x0 x1 x2 x3 x4 x5 x6 x7 x8 x9 = k0_pay7 x3 x4 := by
  unfold k0_pay16
  rw [View.ld_unit_lit _ x3 (by decide), View.ld_unit_lit _ x4 (by decide)]

theorem pay17_whole (x0 : Vec Ideal S512x1024 .f32) (x1 x2 : Vec Ideal S512x1024 .bf16) (x3 x4 x5 x6 : Vec Ideal S512x512 .f32) (x7 x8 x9 : Vec Ideal S1024x1024 .bf16) :
    k0_pay17 x0 x1 x2 x3 x4 x5 x6 x7 x8 x9 = k0_pay8 x5 x6 := by
  unfold k0_pay17
  rw [View.ld_unit_lit _ x5 (by decide), View.ld_unit_lit _ x6 (by decide)]

theorem pay12_whole (p : FVec Ideal S512x1024 .f32) (x1 : Vec Ideal S512x1024 .bf16) (x3 x4 : Vec Ideal S512x512 .f32) :
    k0_pay12 p (k0_pay3 (View.ld x1 r0_0)) (k0_pay6 (View.ld x3 r0_2) (View.ld x4 r0_2)) = k0_pay12 p (k0_pay3 x1) (k0_pay6 x3 x4) := by
  rw [View.ld_unit_lit _ x1 (by decide), View.ld_unit_lit _ x3 (by decide), View.ld_unit_lit _ x4 (by decide)]

theorem pay13_whole (p q : FVec Ideal S512x1024 .f32) (x2 : Vec Ideal S512x1024 .bf16) (x5 x6 : Vec Ideal S512x512 .f32) (o : Elt Ideal .f32) :
    k0_pay13 p (k0_pay4 (View.ld x2 r0_0)) q (k0_pay9 (View.ld x5 r0_2) (View.ld x6 r0_2)) o = k0_pay13 p (k0_pay4 x2) q (k0_pay9 x5 x6) o := by
  rw [View.ld_unit_lit _ x2 (by decide), View.ld_unit_lit _ x5 (by decide), View.ld_unit_lit _ x6 (by decide)]

/-- The hyperbolic tangent of the first gate's half, as a grid point computes it. -/
theorem gateA (c : Dev nD) (t : Fin cfg0.N) (r : Fin 512) (l : Fin 1024) :
    k0_pay5 (iblk m c 3 t) (iblk m c 4 t) (ix2 r l) = Ideal.tanh (Ideal.ofBits .f32 0x3F000000#32 * m ((c.tc : Thread nD τ).loc main_arg3) (ix2 (row t r) ⟨5632 + l.val, by omega⟩)) := by
  unfold_payloads
  pointwise
  by_cases h : l.val < 512
  · rw [dif_pos h, b3]
  · have e : ∀ q, (⟨6144 + (l.val - 512), q⟩ : Fin 7680) = ⟨5632 + l.val, by omega⟩ := fun _ => Fin.ext (by dsimp only; omega)
    rw [dif_neg h, b4, e]

/-- And of the second's. -/
theorem gateB (c : Dev nD) (t : Fin cfg0.N) (r : Fin 512) (l : Fin 1024) :
    k0_pay8 (iblk m c 5 t) (iblk m c 6 t) (ix2 r l) = Ideal.tanh (Ideal.ofBits .f32 0x3F000000#32 * m ((c.tc : Thread nD τ).loc main_arg3) (ix2 (row t r) ⟨6656 + l.val, by omega⟩)) := by
  unfold_payloads
  pointwise
  by_cases h : l.val < 512
  · rw [dif_pos h, b5]
  · have e : ∀ q, (⟨7168 + (l.val - 512), q⟩ : Fin 7680) = ⟨6656 + l.val, by omega⟩ := fun _ => Fin.ext (by dsimp only; omega)
    rw [dif_neg h, b6, e]

/-- The gradient of the gated sum. -/
theorem dmix (c : Dev nD) (t : Fin cfg0.N) (r : Fin 512) (l : Fin 1024) :
    k0_pay2 (iblk m c 0 t) (iblk m c 9 t) (ix2 r l) = val_main_v26 (F := Ideal) (m ((c.tc : Thread nD τ).loc main_arg0)) (m ((c.tc : Thread nD τ).loc main_arg6)) (ix2 (row t r) l) := by
  unfold_payloads
  pointwise [val_main_v26]
  simp only [b0, b9]

/-- The first product's gradient. -/
theorem dya (c : Dev nD) (t : Fin cfg0.N) (r : Fin 512) (l : Fin 1024) :
    k0_pay10 (k0_pay2 (iblk m c 0 t) (iblk m c 9 t)) (k0_pay7 (iblk m c 3 t) (iblk m c 4 t)) (ix2 r l) = val_main_v30 (F := Ideal) (m ((c.tc : Thread nD τ).loc main_arg0)) (m ((c.tc : Thread nD τ).loc main_arg3)) (m ((c.tc : Thread nD τ).loc main_arg6)) (ix2 (row t r) l) := by
  have hm := dmix m c t r l
  have hg := gateA m c t r l
  unfold k0_pay10 k0_pay7
  generalize k0_pay5 (iblk m c 3 t) (iblk m c 4 t) = ta at *
  generalize k0_pay2 (iblk m c 0 t) (iblk m c 9 t) = pm at *
  unfold val_main_v30
  generalize val_main_v26 (F := Ideal) (m ((c.tc : Thread nD τ).loc main_arg0)) (m ((c.tc : Thread nD τ).loc main_arg6)) = M at *
  pointwise [val_main_v9, val_main_v8, val_main_v7, val_main_v6, val_main_v5, val_main_v4, val_main_v2, val_main_cst, val_main_cst_0]
  rw [hg, Cert.Scalars.sigmoid, hm]

/-- The second's. -/
theorem dyb (c : Dev nD) (t : Fin cfg0.N) (r : Fin 512) (l : Fin 1024) :
    k0_pay11 (k0_pay2 (iblk m c 0 t) (iblk m c 9 t)) (k0_pay8 (iblk m c 5 t) (iblk m c 6 t)) (ix2 r l) = val_main_v27 (F := Ideal) (m ((c.tc : Thread nD τ).loc main_arg0)) (m ((c.tc : Thread nD τ).loc main_arg3)) (m ((c.tc : Thread nD τ).loc main_arg6)) (ix2 (row t r) l) := by
  have hm := dmix m c t r l
  have hg := gateB m c t r l
  unfold k0_pay11
  generalize k0_pay8 (iblk m c 5 t) (iblk m c 6 t) = ta at *
  generalize k0_pay2 (iblk m c 0 t) (iblk m c 9 t) = pm at *
  unfold val_main_v27
  generalize val_main_v26 (F := Ideal) (m ((c.tc : Thread nD τ).loc main_arg0)) (m ((c.tc : Thread nD τ).loc main_arg6)) = M at *
  pointwise [val_main_v19, val_main_v18, val_main_v17, val_main_v16, val_main_v15, val_main_v14, val_main_v3, val_main_cst_2, val_main_cst_3]
  rw [hg, Cert.Scalars.sigmoid, hm]

/-- The gradient of the first branch's output. -/
theorem dog (c : Dev nD) (t : Fin cfg0.N) (r : Fin 512) (l : Fin 1024) :
    k0_pay14 (k0_pay2 (iblk m c 0 t) (iblk m c 9 t)) (k0_pay7 (iblk m c 3 t) (iblk m c 4 t)) (iblk m c 7 t) (ix2 r l) = val_main_v34 (F := Ideal) (m ((c.tc : Thread nD τ).loc main_arg0)) (m ((c.tc : Thread nD τ).loc main_arg3)) (m ((c.tc : Thread nD τ).loc main_arg4)) (m ((c.tc : Thread nD τ).loc main_arg6)) (ix2 (row t r) l) := by
  have h := fun k => dya m c t r k
  unfold k0_pay14 val_main_v34
  generalize k0_pay10 (k0_pay2 (iblk m c 0 t) (iblk m c 9 t)) (k0_pay7 (iblk m c 3 t) (iblk m c 4 t)) = p at *
  generalize val_main_v30 (F := Ideal) (m ((c.tc : Thread nD τ).loc main_arg0)) (m ((c.tc : Thread nD τ).loc main_arg3)) (m ((c.tc : Thread nD τ).loc main_arg6)) = A at *
  pointwise
  simp only [h, b7]

/-- And of the second's. -/
theorem doatt (c : Dev nD) (t : Fin cfg0.N) (r : Fin 512) (l : Fin 1024) :
    k0_pay1 (k0_pay11 (k0_pay2 (iblk m c 0 t) (iblk m c 9 t)) (k0_pay8 (iblk m c 5 t) (iblk m c 6 t))) (iblk m c 8 t) (ix2 r l) = val_main_v33 (F := Ideal) (m ((c.tc : Thread nD τ).loc main_arg0)) (m ((c.tc : Thread nD τ).loc main_arg3)) (m ((c.tc : Thread nD τ).loc main_arg5)) (m ((c.tc : Thread nD τ).loc main_arg6)) (ix2 (row t r) l) := by
  have h := fun k => dyb m c t r k
  unfold k0_pay1 val_main_v33
  generalize k0_pay11 (k0_pay2 (iblk m c 0 t) (iblk m c 9 t)) (k0_pay8 (iblk m c 5 t) (iblk m c 6 t)) = p at *
  generalize val_main_v27 (F := Ideal) (m ((c.tc : Thread nD τ).loc main_arg0)) (m ((c.tc : Thread nD τ).loc main_arg3)) (m ((c.tc : Thread nD τ).loc main_arg6)) = A at *
  pointwise
  simp only [h, b8]

/-- The gradient of the first gate. -/
theorem dga (c : Dev nD) (t : Fin cfg0.N) (r : Fin 512) (l : Fin 1024) :
    k0_pay12 (k0_pay2 (iblk m c 0 t) (iblk m c 9 t)) (k0_pay3 (iblk m c 1 t)) (k0_pay6 (iblk m c 3 t) (iblk m c 4 t)) (ix2 r l) = val_main_v32 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) (ix2 (row t r) l) := by
  have hm := dmix m c t r l
  have hg := gateA m c t r l
  have hy := b1 m c t r l
  unfold k0_pay12 k0_pay3 k0_pay6
  generalize k0_pay5 (iblk m c 3 t) (iblk m c 4 t) = ta at *
  generalize k0_pay2 (iblk m c 0 t) (iblk m c 9 t) = pm at *
  unfold val_main_v32 val_main_v31 val_main_v12 val_main_v11
  generalize val_main_v26 (F := Ideal) (m ((c.tc : Thread nD τ).loc main_arg0)) (m ((c.tc : Thread nD τ).loc main_arg6)) = M at *
  generalize val_main_v0 (F := Ideal) (m ((c.tc : Thread nD τ).loc main_arg1)) (m ((c.tc : Thread nD τ).loc main_arg4)) = Y at *
  generalize iblk m c 1 t = y at *
  pointwise [val_main_v9, val_main_v8, val_main_v7, val_main_v6, val_main_v5, val_main_v4, val_main_v2, val_main_cst, val_main_cst_0, val_main_v10, val_main_cst_1]
  rw [hg, hm, hy]
  exact Cert.Finite.logistic_grad _ _

/-- And of the second. -/
theorem dgb (c : Dev nD) (t : Fin cfg0.N) (r : Fin 512) (l : Fin 1024) :
    k0_pay13 (k0_pay2 (iblk m c 0 t) (iblk m c 9 t)) (k0_pay4 (iblk m c 2 t)) (k0_pay8 (iblk m c 5 t) (iblk m c 6 t)) (k0_pay9 (iblk m c 5 t) (iblk m c 6 t)) (Scalar.ofBits .f32 0x3F800000#32) (ix2 r l) = val_main_v29 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) (ix2 (row t r) l) := by
  have hm := dmix m c t r l
  have hg := gateB m c t r l
  have hy := b2 m c t r l
  unfold k0_pay13 k0_pay4 k0_pay9
  generalize k0_pay8 (iblk m c 5 t) (iblk m c 6 t) = ta at *
  generalize k0_pay2 (iblk m c 0 t) (iblk m c 9 t) = pm at *
  unfold val_main_v29 val_main_v28 val_main_v22 val_main_v21
  generalize val_main_v26 (F := Ideal) (m ((c.tc : Thread nD τ).loc main_arg0)) (m ((c.tc : Thread nD τ).loc main_arg6)) = M at *
  generalize val_main_v1 (F := Ideal) (m ((c.tc : Thread nD τ).loc main_arg2)) (m ((c.tc : Thread nD τ).loc main_arg5)) = Y at *
  generalize iblk m c 2 t = y at *
  pointwise [val_main_v19, val_main_v18, val_main_v17, val_main_v16, val_main_v15, val_main_v14, val_main_v3, val_main_cst_2, val_main_cst_3, val_main_v20, val_main_cst_4]
  rw [hg, hm, hy]
  exact Cert.Finite.logistic_grad _ _

/-- The reference's five results, of the arguments. -/
abbrev refDya (c : Dev nD) := val_main_v35 (F := Ideal) (m ((c.tc : Thread nD τ).loc main_arg0)) (m ((c.tc : Thread nD τ).loc main_arg3)) (m ((c.tc : Thread nD τ).loc main_arg6))

abbrev refDyb (c : Dev nD) := val_main_v36 (F := Ideal) (m ((c.tc : Thread nD τ).loc main_arg0)) (m ((c.tc : Thread nD τ).loc main_arg3)) (m ((c.tc : Thread nD τ).loc main_arg6))

abbrev refDg (c : Dev nD) := val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

abbrev refDog (c : Dev nD) := val_main_v34 (F := Ideal) (m ((c.tc : Thread nD τ).loc main_arg0)) (m ((c.tc : Thread nD τ).loc main_arg3)) (m ((c.tc : Thread nD τ).loc main_arg4)) (m ((c.tc : Thread nD τ).loc main_arg6))

abbrev refDoatt (c : Dev nD) := val_main_v33 (F := Ideal) (m ((c.tc : Thread nD τ).loc main_arg0)) (m ((c.tc : Thread nD τ).loc main_arg3)) (m ((c.tc : Thread nD τ).loc main_arg5)) (m ((c.tc : Thread nD τ).loc main_arg6))

/-- A grid point's two gates' gradients side by side. -/
theorem dg (c : Dev nD) (t : Fin cfg0.N) (r : Fin 512) (l : Fin 2048) :
    out0_12 (iblk m c 0 t) (iblk m c 1 t) (iblk m c 2 t) (iblk m c 3 t) (iblk m c 4 t) (iblk m c 5 t) (iblk m c 6 t) (iblk m c 7 t) (iblk m c 8 t) (iblk m c 9 t) (ix2 r l) = refDg m c (ix2 (row t r) l) := by
  unfold refDg val_main_v38 val_main_v37
  canon_tiles x hx
  all_goals
    simp only [pay15_whole, pay17_whole]
    obtain ⟨r', k, rfl⟩ : ∃ (r' : Fin 512) (k : Fin 1024), x = ix2 r' k := ⟨x 0, x 1, by blk_ext []⟩
    obtain rfl : r = r' := Fin.ext hx0
  · refine ((congrFun (pay13_whole _ _ _ _ _ _) _).trans (dgb m c t r k)).trans ?_
    have hl : l.val = 1024 + k.val := hx1
    generalize val_main_v29 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) = A
    generalize val_main_v32 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) = B
    pointwise
    rw [dif_neg (show ¬ l.val < 1024 by omega)]
    exact congrArg (fun j => A (ix2 (row t r) j)) (Fin.ext (by show k.val = l.val - 1024; omega))
  · refine ((congrFun (pay12_whole _ _ _ _) _).trans (dga m c t r k)).trans ?_
    have hl : l.val = k.val := hx1
    generalize val_main_v29 (F := Ideal) (m ((c.tc : Thread nD τ).loc main_arg0)) (m ((c.tc : Thread nD τ).loc main_arg2)) (m ((c.tc : Thread nD τ).loc main_arg3)) (m ((c.tc : Thread nD τ).loc main_arg5)) (m ((c.tc : Thread nD τ).loc main_arg6)) = A
    generalize val_main_v32 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) = B
    pointwise
    rw [dif_pos (show l.val < 1024 by omega)]
    exact congrArg (fun j => B (ix2 (row t r) j)) (Fin.ext (by show k.val = l.val; omega))

theorem arr10_of (c : Dev nD) (G : S16384x1024.Idx → EReal)
    (hG : ∀ (t : Fin cfg0.N) (r : Fin 512) (l : Fin 1024), out0_10 (iblk m c 0 t) (iblk m c 1 t) (iblk m c 2 t) (iblk m c 3 t) (iblk m c 4 t) (iblk m c 5 t) (iblk m c 6 t) (iblk m c 7 t) (iblk m c 8 t) (iblk m c 9 t) (ix2 r l) = G (ix2 (row t r) l)) :
    (dats m 0 c).arrAt 10 cfg0.N = G := by
  refine (dats m 0 c).arrAt_eq_of_covers 10 _ (by decide +kernel) fun t hf y => ?_
  blk_simp
  rw [after0_10]
  obtain ⟨r, l, rfl⟩ : ∃ (r : Fin 512) (l : Fin 1024), y = ix2 r l := ⟨y 0, y 1, by blk_ext []⟩
  have e : (win0_10.blk t).view.emb (ix2 r l) = ix2 (row t r) l := by blk_ext [idx t, row_val]
  rw [e]
  exact hG t r l

/-- The first product's gradient after the run. -/
theorem arr10 (c : Dev nD) : (dats m 0 c).arrAt 10 cfg0.N = refDya m c :=
  arr10_of m c _ fun t r l => by
    frame_out
    rw [pay15_whole, pay16_whole]
    unfold refDya val_main_v35
    pointwise
    exact dya m c t r l

theorem arr11_of (c : Dev nD) (G : S16384x1024.Idx → EReal)
    (hG : ∀ (t : Fin cfg0.N) (r : Fin 512) (l : Fin 1024), out0_11 (iblk m c 0 t) (iblk m c 1 t) (iblk m c 2 t) (iblk m c 3 t) (iblk m c 4 t) (iblk m c 5 t) (iblk m c 6 t) (iblk m c 7 t) (iblk m c 8 t) (iblk m c 9 t) (ix2 r l) = G (ix2 (row t r) l)) :
    (dats m 0 c).arrAt 11 cfg0.N = G := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, by blk_ext []⟩
  have e : (win0_11.blk t).view.emb (ix2 r l) = ix2 (row t r) l := by blk_ext [idx t, row_val]
  rw [e]
  exact hG t r l

/-- The second's. -/
theorem arr11 (c : Dev nD) : (dats m 0 c).arrAt 11 cfg0.N = refDyb m c :=
  arr11_of m c _ fun t r l => by
    frame_out
    rw [pay15_whole, pay17_whole]
    unfold refDyb val_main_v36
    pointwise
    exact dyb m c t r l

theorem arr12_of (c : Dev nD) (G : S16384x2048.Idx → EReal)
    (hG : ∀ (t : Fin cfg0.N) (r : Fin 512) (l : Fin 2048), out0_12 (iblk m c 0 t) (iblk m c 1 t) (iblk m c 2 t) (iblk m c 3 t) (iblk m c 4 t) (iblk m c 5 t) (iblk m c 6 t) (iblk m c 7 t) (iblk m c 8 t) (iblk m c 9 t) (ix2 r l) = G (ix2 (row t r) l)) :
    (dats m 0 c).arrAt 12 cfg0.N = G := by
  refine (dats m 0 c).arrAt_eq_of_covers 12 _ (by decide +kernel) fun t hf y => ?_
  blk_simp
  rw [after0_12]
  obtain ⟨r, l, rfl⟩ : ∃ (r : Fin 512) (l : Fin 2048), y = ix2 r l := ⟨y 0, y 1, by blk_ext []⟩
  have e : (win0_12.blk t).view.emb (ix2 r l) = ix2 (row t r) l := by blk_ext [idx t, row_val]
  rw [e]
  exact hG t r l

/-- The gates'. -/
theorem arr12 (c : Dev nD) : (dats m 0 c).arrAt 12 cfg0.N = refDg m c :=
  arr12_of m c _ fun t r l => by
    exact dg m c t r l

theorem arr13_of (c : Dev nD) (G : S16384x1024.Idx → EReal)
    (hG : ∀ (t : Fin cfg0.N) (r : Fin 512) (l : Fin 1024), out0_13 (iblk m c 0 t) (iblk m c 1 t) (iblk m c 2 t) (iblk m c 3 t) (iblk m c 4 t) (iblk m c 5 t) (iblk m c 6 t) (iblk m c 7 t) (iblk m c 8 t) (iblk m c 9 t) (ix2 r l) = G (ix2 (row t r) l)) :
    (dats m 0 c).arrAt 13 cfg0.N = G := by
  refine (dats m 0 c).arrAt_eq_of_covers 13 _ (by decide +kernel) fun t hf y => ?_
  blk_simp
  rw [after0_13]
  obtain ⟨r, l, rfl⟩ : ∃ (r : Fin 512) (l : Fin 1024), y = ix2 r l := ⟨y 0, y 1, by blk_ext []⟩
  have e : (win0_13.blk t).view.emb (ix2 r l) = ix2 (row t r) l := by blk_ext [idx t, row_val]
  rw [e]
  exact hG t r l

/-- The first branch's. -/
theorem arr13 (c : Dev nD) : (dats m 0 c).arrAt 13 cfg0.N = refDog m c :=
  arr13_of m c _ fun t r l => by
    frame_out
    rw [pay15_whole, pay16_whole]
    exact dog m c t r l

theorem arr14_of (c : Dev nD) (G : S16384x1024.Idx → EReal)
    (hG : ∀ (t : Fin cfg0.N) (r : Fin 512) (l : Fin 1024), out0_14 (iblk m c 0 t) (iblk m c 1 t) (iblk m c 2 t) (iblk m c 3 t) (iblk m c 4 t) (iblk m c 5 t) (iblk m c 6 t) (iblk m c 7 t) (iblk m c 8 t) (iblk m c 9 t) (ix2 r l) = G (ix2 (row t r) l)) :
    (dats m 0 c).arrAt 14 cfg0.N = G := by
  refine (dats m 0 c).arrAt_eq_of_covers 14 _ (by decide +kernel) fun t hf y => ?_
  blk_simp
  rw [after0_14]
  obtain ⟨r, l, rfl⟩ : ∃ (r : Fin 512) (l : Fin 1024), y = ix2 r l := ⟨y 0, y 1, by blk_ext []⟩
  have e : (win0_14.blk t).view.emb (ix2 r l) = ix2 (row t r) l := by blk_ext [idx t, row_val]
  rw [e]
  exact hG t r l

/-- The second branch's. -/
theorem arr14 (c : Dev nD) : (dats m 0 c).arrAt 14 cfg0.N = refDoatt m c :=
  arr14_of m c _ fun t r l => by
    frame_out
    rw [pay15_whole, pay17_whole]
    exact doatt m c t r l

/-- The call's five results are the reference's. -/
theorem algebraic : Cert.algebraic_Kernel4Ideal_Reference4Ideal := fun m g m' g' _ e =>
  ⟨fun c => refDya m c, fun c => refDyb m c, fun c => refDg m c, fun c => refDog m c, fun c => refDoatt m c,
    (θ_run (Cert.Kernel4Ideal.defs (F := Ideal)) _ _).mono (fun _ h c => ⟨(h c).1.trans (arr10 m c), (h c).2.1.trans (arr11 m c), (h c).2.2.1.trans (arr12 m c), (h c).2.2.2.1.trans (arr13 m c), (h c).2.2.2.2.1.trans (arr14 m c), (h c).2.2.2.2.2⟩) (Cert.Kernel4Ideal.Value.run_blocks m g),
    (θ_run Cert.Reference4Ideal.defs _ _).mono (fun _ h c => by
      obtain ⟨e0, e1, e2, e3, e4, e5, e6⟩ := e c
      refine ⟨(h c).1.trans ((val_main_v35_eq _ _ _).trans ?_), (h c).2.1.trans ((val_main_v36_eq _ _ _).trans ?_), (h c).2.2.1.trans ((val_main_v38_eq _ _ _ _ _ _ _).trans ?_), (h c).2.2.2.1.trans ((val_main_v34_eq _ _ _ _).trans ?_), (h c).2.2.2.2.1.trans ((val_main_v33_eq _ _ _ _).trans ?_), (h c).2.2.2.2.2⟩
      · rw [e0, e3, e6]
      · rw [e0, e3, e6]
      · rw [e0, e1, e2, e3, e4, e5, e6]
      · rw [e0, e3, e4, e6]
      · rw [e0, e3, e5, e6]) (Cert.Reference4Ideal.Value.run m' g')⟩

end Cert.Kernel4Ideal.Val

end
-- ==== Proof.Calls.WdGrad.lean ====
module

public import proofs.«01_k».proof.Defs
public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel5Ideal.Val

open Cert.Kernel5Ideal Cert.Kernel5Ideal.Gen Idealize.ShloMosaic Idealize.ShloMosaic.TcCoe Idealize.SL.Sem
open Cert.Reference5Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The row of the factors that row `r` of grid point `t`'s blocks is. -/
def row (t : Fin cfg0.N) (r : Fin 2048) : Fin 16384 :=
  ⟨2048 * (t.val % 8) + r.val, by omega⟩

/-- The row of the gradient that row `k` of grid point `t`'s output block is: the left factor's column. -/
def col (t : Fin cfg0.N) (k : Fin 1408) : Fin 2816 :=
  ⟨1408 * (t.val / 8) + k.val, by have h := t.isLt; have h' : cfg0.N = 16 := rfl; omega⟩

theorem row_val (t : Fin cfg0.N) (r : Fin 2048) : (row t r).val = 2048 * (t.val % 8) + r.val := rfl

theorem col_val (t : Fin cfg0.N) (k : Fin 1408) : (col t k).val = 1408 * (t.val / 8) + k.val := rfl

theorem b0 (c : Dev nD) (t : Fin cfg0.N) (r : Fin 2048) (k : Fin 1408) :
    iblk m c 0 t (ix2 r k) = m ((c.tc : Thread nD τ).loc main_arg0) (ix2 (row t r) (col t k)) := by
  blk_ext [iblk, V, idx t, row_val, col_val]

theorem b1 (c : Dev nD) (t : Fin cfg0.N) (r : Fin 2048) (l : Fin 1024) :
    iblk m c 1 t (ix2 r l) = m ((c.tc : Thread nD τ).loc main_arg2) (ix2 (row t r) l) := by
  blk_ext [iblk, V, idx t, row_val]

/-- The factors' entries as reals. -/
def lhs (c : Dev nD) (R : Fin 16384) (k : Fin 2816) : EReal := m ((c.tc : Thread nD τ).loc main_arg0) (ix2 R k)

def rhs (c : Dev nD) (R : Fin 16384) (l : Fin 1024) : EReal := m ((c.tc : Thread nD τ).loc main_arg2) (ix2 R l)

/-- What a grid point adds to entry `(k, l)` of its block. -/
def term (c : Dev nD) (t : Fin cfg0.N) (k : Fin 1408) (l : Fin 1024) : EReal :=
  ∑ r : Fin 2048, lhs m c (row t r) (col t k) * rhs m c (row t r) l

theorem part (c : Dev nD) (t : Fin cfg0.N) (k : Fin 1408) (l : Fin 1024) :
    k0_pay1 (iblk m c 0 t) (iblk m c 1 t) (ix2 k l) = term m c t k l := by
  unfold term lhs rhs
  unfold_payloads
  pointwise
  simp only [b0, b1]

/-- The first point of a run starts the running sum. -/
theorem pay2 (c : Dev nD) (t : Fin cfg0.N) (k : Fin 1408) (l : Fin 1024) :
    k0_pay2 (iblk m c 0 t) (iblk m c 1 t) (ix2 k l) = 0 + term m c t k l := by
  rw [← part m c t k l, zero_add]
  unfold k0_pay2
  pointwise

/-- Every further point adds its term. -/
theorem pay3 (c : Dev nD) (t : Fin cfg0.N) (acc : Vec Ideal S1408x1024 .f32) (k : Fin 1408) (l : Fin 1024) :
    k0_pay3 (iblk m c 0 t) (iblk m c 1 t) acc (ix2 k l) = acc (ix2 k l) + term m c t k l := by
  rw [← part m c t k l]
  unfold k0_pay3
  pointwise

/-- The running sum at a run's last point. -/
theorem scr (c : Dev nD) (t : Fin cfg0.N) (ht : t.val % 8 = 7) (k : Fin 1408) (l : Fin 1024) :
    (outsAt0 m c t.val t.isLt).2 (ix2 k l)
      = ∑ s : Fin 8, term m c ⟨8 * (t.val / 8) + s.val, Pipeline.run_point_lt_of_flush t ht s⟩ k l := by
  rw [Pipeline.eq_sum_fin_of_reset_step_apply_of_flush (fun n h => (outsAt0 m c n h).2) 8 (fun _ => (0 : EReal))
    (fun t i => term m c t (i 0) (i 1))
    (fun t h i => by
      rw [outsAt0_A m c t h (by omega) (by omega)]; frame_out
      idx_vars i
      exact pay2 m c t _ _)
    (fun t h i => by
      by_cases h' : t.val % 8 = 7
      · rw [outsAt0_C m c t h (by omega) h']; frame_out
        idx_vars i
        rw [read_unread_whole]
        exact pay3 m c t _ _ _
      · rw [outsAt0_B m c t h (by omega) h']; frame_out
        idx_vars i
        rw [read_unread_whole]
        exact pay3 m c t _ _ _) t ht (ix2 k l), zero_add]
  rfl

/-- At a run's last point the output block is the running sum. -/
theorem out_eq (c : Dev nD) (t : Fin cfg0.N) (ht : t.val % 8 = 7) (k : Fin 1408) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The run's rows are all rows. -/
theorem run_sum (c : Dev nD) (t : Fin cfg0.N) (ht : t.val % 8 = 7) (k : Fin 1408) (l : Fin 1024) :
    ∑ s : Fin 8, term m c ⟨8 * (t.val / 8) + s.val, Pipeline.run_point_lt_of_flush t ht s⟩ k l
      = ∑ R : Fin 16384, rhs m c R l * lhs m c R (col t k) := by
  unfold term
  refine Fin.sum_mul_add_congr fun s r h => ?_
  rw [mul_comm]
  have h8 := s.isLt
  have er : row ⟨8 * (t.val / 8) + s.val, Pipeline.run_point_lt_of_flush t ht s⟩ r = ⟨s.val * 2048 + r.val, h⟩ := Fin.ext (by
    show 2048 * ((8 * (t.val / 8) + s.val) % 8) + r.val = s.val * 2048 + r.val
    omega)
  have ec : col ⟨8 * (t.val / 8) + s.val, Pipeline.run_point_lt_of_flush t ht s⟩ k = col t k := Fin.ext (by
    show 1408 * ((8 * (t.val / 8) + s.val) / 8) + k.val = 1408 * (t.val / 8) + k.val
    omega)
  rw [er, ec]

/-- The reference's gradient, of the arguments. -/
abbrev ref (c : Dev nD) := val_main_v4 (F := Ideal) (m ((c.tc : Thread nD τ).loc main_arg0)) (m ((c.tc : Thread nD τ).loc main_arg2))

/-- The reference's gradient at an entry. -/
theorem ref_eq (c : Dev nD) (k : Fin 2816) (l : Fin 1024) :
    ref m c (ix2 k l) = ∑ R : Fin 16384, rhs m c R l * lhs m c R k := by
  unfold ref lhs rhs
  pointwise [val_main_v4, val_main_v3, val_main_v2, val_main_v0]

/-- The gradient after the run, from what every run's last point leaves. -/
theorem arr_of (c : Dev nD) (G : S2816x1024.Idx → EReal)
    (hG : ∀ (t : Fin cfg0.N), t.val % 8 = 7 → ∀ (k : Fin 1408) (l : Fin 1024), (outsAt0 m c t.val t.isLt).1 (ix2 k l) = G (ix2 (col t k) l)) :
    (dats m 0 c).arrAt 2 cfg0.N = G := by
  refine (dats m 0 c).arrAt_eq_of_covers 2 _ (by decide +kernel) fun t hf y => ?_
  have ht : t.val % 8 = 7 := (flush0_2 t).mp hf
  blk_simp
  rw [after0_2]
  obtain ⟨k, l, rfl⟩ : ∃ (k : Fin 1408) (l : Fin 1024), y = ix2 k l := ⟨y 0, y 1, by blk_ext []⟩
  have e : (win0_2.blk t).view.emb (ix2 k l) = ix2 (col t k) l := by blk_ext [idx t, col_val]
  rw [e]
  exact hG t ht k l

theorem arr (c : Dev nD) : (dats m 0 c).arrAt 2 cfg0.N = ref m c :=
  arr_of m c _ fun t ht k l => by rw [out_eq m c t ht, scr m c t ht, run_sum m c t ht, ref_eq]

/-- The call's result is the reference's. -/
theorem algebraic : Cert.algebraic_Kernel5Ideal_Reference5Ideal := fun m g m' g' _ e =>
  ⟨fun c => ref m c,
    (θ_run (Cert.Kernel5Ideal.defs (F := Ideal)) _ _).mono (fun _ h c => ⟨(h c).1.trans (arr m c), (h c).2⟩) (Cert.Kernel5Ideal.Value.run_blocks m g),
    (θ_run Cert.Reference5Ideal.defs _ _).mono (fun _ h c => by
      obtain ⟨e0, e1, e2⟩ := e c
      refine ⟨(h c).1.trans ((val_main_v4_eq _ _).trans ?_), (h c).2⟩
      rw [e0, e2]) (Cert.Reference5Ideal.Value.run m' g')⟩

end Cert.Kernel5Ideal.Val

end
-- ==== Proof.Calls.WguGrad.lean ====
module

public import proofs.«01_k».proof.Defs
public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel6Ideal.Val

open Cert.Kernel6Ideal Cert.Kernel6Ideal.Gen Idealize.ShloMosaic Idealize.ShloMosaic.TcCoe Idealize.SL.Sem
open Cert.Reference6Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The row of the factors that row `r` of grid point `t`'s blocks is. -/
def row (t : Fin cfg0.N) (r : Fin 2048) : Fin 16384 :=
  ⟨2048 * (t.val % 8) + r.val, by omega⟩

/-- The row of the gradient that row `k` of grid point `t`'s output block is: the left factor's column. -/
def col (t : Fin cfg0.N) (k : Fin 1408) : Fin 5632 :=
  ⟨1408 * (t.val / 8) + k.val, by have h := t.isLt; have h' : cfg0.N = 32 := rfl; omega⟩

theorem row_val (t : Fin cfg0.N) (r : Fin 2048) : (row t r).val = 2048 * (t.val % 8) + r.val := rfl

theorem col_val (t : Fin cfg0.N) (k : Fin 1408) : (col t k).val = 1408 * (t.val / 8) + k.val := rfl

theorem b0 (c : Dev nD) (t : Fin cfg0.N) (r : Fin 2048) (k : Fin 1408) :
    iblk m c 0 t (ix2 r k) = m ((c.tc : Thread nD τ).loc main_arg0) (ix2 (row t r) (col t k)) := by
  blk_ext [iblk, V, idx t, row_val, col_val]

theorem b1 (c : Dev nD) (t : Fin cfg0.N) (r : Fin 2048) (l : Fin 1024) :
    iblk m c 1 t (ix2 r l) = m ((c.tc : Thread nD τ).loc main_arg1) (ix2 (row t r) l) := by
  blk_ext [iblk, V, idx t, row_val]

/-- The factors' entries as reals. -/
def lhs (c : Dev nD) (R : Fin 16384) (k : Fin 5632) : EReal := m ((c.tc : Thread nD τ).loc main_arg0) (ix2 R k)

def rhs (c : Dev nD) (R : Fin 16384) (l : Fin 1024) : EReal := m ((c.tc : Thread nD τ).loc main_arg1) (ix2 R l)

/-- What a grid point adds to entry `(k, l)` of its block. -/
def term (c : Dev nD) (t : Fin cfg0.N) (k : Fin 1408) (l : Fin 1024) : EReal :=
  ∑ r : Fin 2048, lhs m c (row t r) (col t k) * rhs m c (row t r) l

theorem part (c : Dev nD) (t : Fin cfg0.N) (k : Fin 1408) (l : Fin 1024) :
    k0_pay1 (iblk m c 0 t) (iblk m c 1 t) (ix2 k l) = term m c t k l := by
  unfold term lhs rhs
  unfold_payloads
  pointwise
  simp only [b0, b1]

/-- The first point of a run starts the running sum. -/
theorem pay2 (c : Dev nD) (t : Fin cfg0.N) (k : Fin 1408) (l : Fin 1024) :
    k0_pay2 (iblk m c 0 t) (iblk m c 1 t) (ix2 k l) = 0 + term m c t k l := by
  rw [← part m c t k l, zero_add]
  unfold k0_pay2
  pointwise

/-- Every further point adds its term. -/
theorem pay3 (c : Dev nD) (t : Fin cfg0.N) (acc : Vec Ideal S1408x1024 .f32) (k : Fin 1408) (l : Fin 1024) :
    k0_pay3 (iblk m c 0 t) (iblk m c 1 t) acc (ix2 k l) = acc (ix2 k l) + term m c t k l := by
  rw [← part m c t k l]
  unfold k0_pay3
  pointwise

/-- The running sum at a run's last point. -/
theorem scr (c : Dev nD) (t : Fin cfg0.N) (ht : t.val % 8 = 7) (k : Fin 1408) (l : Fin 1024) :
    (outsAt0 m c t.val t.isLt).2 (ix2 k l)
      = ∑ s : Fin 8, term m c ⟨8 * (t.val / 8) + s.val, Pipeline.run_point_lt_of_flush t ht s⟩ k l := by
  rw [Pipeline.eq_sum_fin_of_reset_step_apply_of_flush (fun n h => (outsAt0 m c n h).2) 8 (fun _ => (0 : EReal))
    (fun t i => term m c t (i 0) (i 1))
    (fun t h i => by
      rw [outsAt0_A m c t h (by omega) (by omega)]; frame_out
      idx_vars i
      exact pay2 m c t _ _)
    (fun t h i => by
      by_cases h' : t.val % 8 = 7
      · rw [outsAt0_C m c t h (by omega) h']; frame_out
        idx_vars i
        rw [read_unread_whole]
        exact pay3 m c t _ _ _
      · rw [outsAt0_B m c t h (by omega) h']; frame_out
        idx_vars i
        rw [read_unread_whole]
        exact pay3 m c t _ _ _) t ht (ix2 k l), zero_add]
  rfl

/-- At a run's last point the output block is the running sum. -/
theorem out_eq (c : Dev nD) (t : Fin cfg0.N) (ht : t.val % 8 = 7) (k : Fin 1408) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The run's rows are all rows. -/
theorem run_sum (c : Dev nD) (t : Fin cfg0.N) (ht : t.val % 8 = 7) (k : Fin 1408) (l : Fin 1024) :
    ∑ s : Fin 8, term m c ⟨8 * (t.val / 8) + s.val, Pipeline.run_point_lt_of_flush t ht s⟩ k l
      = ∑ R : Fin 16384, rhs m c R l * lhs m c R (col t k) := by
  unfold term
  refine Fin.sum_mul_add_congr fun s r h => ?_
  rw [mul_comm]
  have h8 := s.isLt
  have er : row ⟨8 * (t.val / 8) + s.val, Pipeline.run_point_lt_of_flush t ht s⟩ r = ⟨s.val * 2048 + r.val, h⟩ := Fin.ext (by
    show 2048 * ((8 * (t.val / 8) + s.val) % 8) + r.val = s.val * 2048 + r.val
    omega)
  have ec : col ⟨8 * (t.val / 8) + s.val, Pipeline.run_point_lt_of_flush t ht s⟩ k = col t k := Fin.ext (by
    show 1408 * ((8 * (t.val / 8) + s.val) / 8) + k.val = 1408 * (t.val / 8) + k.val
    omega)
  rw [er, ec]

/-- The reference's gradient, of the arguments. -/
abbrev ref (c : Dev nD) := val_main_v20 (F := Ideal) (m ((c.tc : Thread nD τ).loc main_arg0)) (m ((c.tc : Thread nD τ).loc main_arg1))

set_option maxHeartbeats 800000 in
/-- The reference's gradient at an entry. -/
theorem ref_eq (c : Dev nD) (k : Fin 5632) (l : Fin 1024) :
    ref m c (ix2 k l) = ∑ R : Fin 16384, rhs m c R l * lhs m c R k := by
  unfold ref lhs rhs
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v0]
  have key : ∀ j : Fin 5632, j.val = k.val → ∑ R, lhs m c R j * rhs m c R l = ∑ R, rhs m c R l * lhs m c R k := fun j hj => by
    rw [Fin.ext hj]; exact Finset.sum_congr rfl fun R _ => mul_comm _ _
  unfold lhs rhs at key
  by_cases h1 : k.val < 1408
  · rw [dif_pos h1]
    simp only [dif_pos h1]
    exact key k rfl
  rw [dif_neg h1]
  by_cases h2 : k.val - 1408 < 1408
  · rw [dif_pos h2]
    simp only [dif_pos h2]
    exact key ⟨1408 + (k.val - 1408), by omega⟩ (by show 1408 + (k.val - 1408) = k.val; omega)
  rw [dif_neg h2]
  by_cases h3 : k.val - 1408 - 1408 < 1408
  · rw [dif_pos h3]
    exact key ⟨2816 + (k.val - 1408 - 1408), by omega⟩ (by show 2816 + (k.val - 1408 - 1408) = k.val; omega)
  · rw [dif_neg h3]
    exact key ⟨4224 + (k.val - 1408 - 1408 - 1408), by omega⟩ (by show 4224 + (k.val - 1408 - 1408 - 1408) = k.val; omega)

/-- The gradient after the run, from what every run's last point leaves. -/
theorem arr_of (c : Dev nD) (G : S5632x1024.Idx → EReal)
    (hG : ∀ (t : Fin cfg0.N), t.val % 8 = 7 → ∀ (k : Fin 1408) (l : Fin 1024), (outsAt0 m c t.val t.isLt).1 (ix2 k l) = G (ix2 (col t k) l)) :
    (dats m 0 c).arrAt 2 cfg0.N = G := by
  refine (dats m 0 c).arrAt_eq_of_covers 2 _ (by decide +kernel) fun t hf y => ?_
  have ht : t.val % 8 = 7 := (flush0_2 t).mp hf
  blk_simp
  rw [after0_2]
  obtain ⟨k, l, rfl⟩ : ∃ (k : Fin 1408) (l : Fin 1024), y = ix2 k l := ⟨y 0, y 1, by blk_ext []⟩
  have e : (win0_2.blk t).view.emb (ix2 k l) = ix2 (col t k) l := by blk_ext [idx t, col_val]
  rw [e]
  exact hG t ht k l

theorem arr (c : Dev nD) : (dats m 0 c).arrAt 2 cfg0.N = ref m c :=
  arr_of m c _ fun t ht k l => by rw [out_eq m c t ht, scr m c t ht, run_sum m c t ht, ref_eq]

/-- The call's result is the reference's. -/
theorem algebraic : Cert.algebraic_Kernel6Ideal_Reference6Ideal := fun m g m' g' _ e =>
  ⟨fun c => ref m c,
    (θ_run (Cert.Kernel6Ideal.defs (F := Ideal)) _ _).mono (fun _ h c => ⟨(h c).1.trans (arr m c), (h c).2⟩) (Cert.Kernel6Ideal.Value.run_blocks m g),
    (θ_run Cert.Reference6Ideal.defs _ _).mono (fun _ h c => by
      obtain ⟨e0, e1, e2, e3⟩ := e c
      refine ⟨(h c).1.trans ((val_main_v20_eq _ _).trans ?_), (h c).2⟩
      rw [e0, e1]) (Cert.Reference6Ideal.Value.run m' g')⟩

end Cert.Kernel6Ideal.Val

end
-- ==== Proof.Calls.Proj.lean ====
module

public import proofs.«01_k».proof.Defs
public import proofs.«01_k».proof.Proof.Gen.Kernel7Ideal.Value
public import proofs.«01_k».proof.Proof.Gen.Reference7Ideal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel7Ideal.Val

open Cert.Kernel7Ideal Cert.Kernel7Ideal.Gen Idealize.ShloMosaic Idealize.ShloMosaic.TcCoe Idealize.SL.Sem
open Cert.Reference7Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 16, 0] ∧ win0_1.index t = ![t.val / 16, 0] ∧ win0_2.index t = ![t.val % 16, t.val / 16] :=
  (by decide +kernel : ∀ t : Fin grid0.N, win0_0.index t = ![t.val % 16, 0] ∧ win0_1.index t = ![t.val / 16, 0] ∧ win0_2.index t = ![t.val % 16, t.val / 16])

/-- The row of the product that row `r` of grid point `t`'s block is. -/
def row (t : Fin cfg0.N) (r : Fin 1024) : Fin 16384 :=
  ⟨1024 * (t.val % 16) + r.val, by omega⟩

/-- The column of the product that column `l` of grid point `t`'s block is. -/
def col (t : Fin cfg0.N) (l : Fin 1280) : Fin 7680 :=
  ⟨1280 * (t.val / 16) + l.val, by have h := t.isLt; have h' : cfg0.N = 96 := rfl; omega⟩

theorem row_val (t : Fin cfg0.N) (r : Fin 1024) : (row t r).val = 1024 * (t.val % 16) + r.val := rfl

theorem col_val (t : Fin cfg0.N) (l : Fin 1280) : (col t l).val = 1280 * (t.val / 16) + l.val := rfl

theorem b0 (c : Dev nD) (t : Fin cfg0.N) (r : Fin 1024) (k : Fin 1024) :
    iblk m c 0 t (ix2 r k) = m ((c.tc : Thread nD τ).loc main_arg0) (ix2 (row t r) k) := by
  blk_ext [iblk, V, idx t, row_val]

/-- Window 1 stages rows of the transposed weight. -/
theorem b1 (c : Dev nD) (t : Fin cfg0.N) (l : Fin 1280) (k : Fin 1024) :
    iblk m c 1 t (ix2 l k) = m ((c.tc : Thread nD τ).loc main_arg1) (ix2 k (col t l)) := by
  have e : (win0_1.blk t).view.emb (ix2 l k) = ix2 (col t l) k := by blk_ext [idx t, col_val]
  show V m c main_v1 ((win0_1.blk t).view.emb (ix2 l k)) = _
  rw [e]
  unfold V
  after_reads_at

/-- The reference's product, of the arguments. -/
abbrev ref (c : Dev nD) := val_main_v1 (F := Ideal) (m ((c.tc : Thread nD τ).loc main_arg0)) (m ((c.tc : Thread nD τ).loc main_arg1))

/-- A grid point's block of the product. -/
theorem blk_eq (c : Dev nD) (t : Fin cfg0.N) (r : Fin 1024) (l : Fin 1280) :
    out0_2 (iblk m c 0 t) (iblk m c 1 t) (ix2 r l) = ref m c (ix2 (row t r) (col t l)) := by
  unfold ref
  frame_out
  unfold_payloads
  pointwise [val_main_v1, val_main_v0]
  simp only [b0, b1]

/-- The product after the run. -/
theorem arr (c : Dev nD) : (dats m 0 c).arrAt 2 cfg0.N = ref m c := by
  refine (dats m 0 c).arrAt_eq_of_covers 2 _ (by decide +kernel) fun t hf y => ?_
  blk_simp
  rw [after0_2]
  obtain ⟨r, l, rfl⟩ : ∃ (r : Fin 1024) (l : Fin 1280), y = ix2 r l := ⟨y 0, y 1, by blk_ext []⟩
  have e : (win0_2.blk t).view.emb (ix2 r l) = ix2 (row t r) (col t l) := by blk_ext [idx t, row_val, col_val]
  rw [e]
  exact blk_eq m c t r l

/-- The call's result is the reference's. -/
theorem algebraic : Cert.algebraic_Kernel7Ideal_Reference7Ideal := fun m g m' g' _ e =>
  ⟨fun c => ref m c,
    (θ_run (Cert.Kernel7Ideal.defs (F := Ideal)) _ _).mono (fun _ h c => ⟨(h c).1.trans (arr m c), (h c).2⟩) (Cert.Kernel7Ideal.Value.run_blocks m g),
    (θ_run Cert.Reference7Ideal.defs _ _).mono (fun _ h c => by
      obtain ⟨e0, e1⟩ := e c
      refine ⟨(h c).1.trans ((val_main_v1_eq _ _).trans ?_), (h c).2⟩
      rw [e0, e1]) (Cert.Reference7Ideal.Value.run m' g')⟩

end Cert.Kernel7Ideal.Val

end
-- ==== Proof.Calls.UpFwd.lean ====
module

public import proofs.«01_k».proof.Defs
public import proofs.«01_k».proof.Proof.Gen.Kernel8Ideal.Value
public import proofs.«01_k».proof.Proof.Gen.Reference8Ideal.Read
public import proofs.«01_k».proof.Proof.Calls.Scalars
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel8Ideal.Val

open Cert.Kernel8Ideal Cert.Kernel8Ideal.Gen Idealize.ShloMosaic Idealize.ShloMosaic.TcCoe Idealize.SL.Sem
open Cert.Reference8Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 32, 0] ∧ win0_1.index t = ![t.val / 32, 0] ∧ win0_2.index t = ![t.val % 32, t.val / 32] ∧ win0_3.index t = ![t.val % 32, t.val / 32] :=
  (by decide +kernel : ∀ t : Fin grid0.N, win0_0.index t = ![t.val % 32, 0] ∧ win0_1.index t = ![t.val / 32, 0] ∧ win0_2.index t = ![t.val % 32, t.val / 32] ∧ win0_3.index t = ![t.val % 32, t.val / 32])

/-- The row of the arrays that row `r` of grid point `t`'s blocks is. -/
def row (t : Fin cfg0.N) (r : Fin 512) : Fin 16384 := ⟨512 * (t.val % 32) + r.val, by omega⟩

theorem half_lt (t : Fin cfg0.N) : t.val / 32 < 2 := by have h := t.isLt; have h' : cfg0.N = 64 := rfl; omega

/-- The column of the joined products that column `k` of grid point `t`'s block is. -/
def wcol (t : Fin cfg0.N) (k : Fin 2816) : Fin 5632 := ⟨2816 * (t.val / 32) + k.val, by have h := half_lt t; omega⟩

/-- The column of each product that column `k` of half a block is. -/
def col (t : Fin cfg0.N) (k : Fin 1408) : Fin 2816 := ⟨1408 * (t.val / 32) + k.val, by have h := half_lt t; omega⟩

theorem row_val (t : Fin cfg0.N) (r : Fin 512) : (row t r).val = 512 * (t.val % 32) + r.val := rfl

theorem wcol_val (t : Fin cfg0.N) (k : Fin 2816) : (wcol t k).val = 2816 * (t.val / 32) + k.val := rfl

theorem col_val (t : Fin cfg0.N) (k : Fin 1408) : (col t k).val = 1408 * (t.val / 32) + k.val := rfl

theorem b0 (c : Dev nD) (t : Fin cfg0.N) (r : Fin 512) (k : Fin 1024) :
    iblk m c 0 t (ix2 r k) = m ((c.tc : Thread nD τ).loc main_arg0) (ix2 (row t r) k) := by
  blk_ext [iblk, V, idx t, row_val]

/-- The gate's and the up product's weights, their halves side by side. -/
abbrev wcat (c : Dev nD) : Vec Ideal S1024x5632 .f32 :=
  concatenate S1024x5632 1 [⟨S1024x1408, extractStridedSlice S1024x1408 ![0, 0] (m ((c.tc : Thread nD τ).loc main_arg1)) slices_S1024x2816_S1024x1408_0_0⟩,
    ⟨S1024x1408, extractStridedSlice S1024x1408 ![0, 0] (m ((c.tc : Thread nD τ).loc main_arg2)) slices_S1024x2816_S1024x1408_0_0⟩,
    ⟨S1024x1408, extractStridedSlice S1024x1408 ![0, 1408] (m ((c.tc : Thread nD τ).loc main_arg1)) slices_S1024x2816_S1024x1408_0_1408⟩,
    ⟨S1024x1408, extractStridedSlice S1024x1408 ![0, 1408] (m ((c.tc : Thread nD τ).loc main_arg2)) slices_S1024x2816_S1024x1408_0_1408⟩]
    concatenates_S1024x1408_S1024x1408_S1024x1408_S1024x1408_S1024x5632_d1

/-- Window 1 stages half of them, transposed. -/
theorem b1 (c : Dev nD) (t : Fin cfg0.N) (k : Fin 2816) (l : Fin 1024) :
    iblk m c 1 t (ix2 k l) = wcat m c (ix2 l (wcol t k)) := by
  have e : (win0_1.blk t).view.emb (ix2 k l) = ix2 (wcol t k) l := by blk_ext [idx t, wcol_val]
  show V m c main_v6 ((win0_1.blk t).view.emb (ix2 k l)) = _
  rw [e]
  unfold V
  after_reads_at
  after_reads_at

/-- The joined weights' columns of the gate's weight. -/
theorem wcat_gate (c : Dev nD) (l : Fin 1024) (K : Fin 5632) (k : Fin 2816) (h : K.val = k.val ∧ k.val < 1408 ∨ K.val = k.val + 1408 ∧ 1408 ≤ k.val) :
    wcat m c (ix2 l K) = m ((c.tc : Thread nD τ).loc main_arg1) (ix2 l k) := by
  pointwise
  by_cases h1 : K.val < 1408
  · rw [dif_pos h1]
    exact congrArg (fun j => m ((c.tc : Thread nD τ).loc main_arg1) (ix2 l j)) (Fin.ext (by show K.val = k.val; omega))
  rw [dif_neg h1]
  by_cases h2 : K.val - 1408 < 1408
  · rw [dif_pos h2]
    exfalso; omega
  rw [dif_neg h2]
  by_cases h3 : K.val - 1408 - 1408 < 1408
  · rw [dif_pos h3]
    exact congrArg (fun j => m ((c.tc : Thread nD τ).loc main_arg1) (ix2 l j)) (Fin.ext (by show 1408 + (K.val - 1408 - 1408) = k.val; omega))
  · rw [dif_neg h3]
    exfalso; omega

/-- The joined weights' columns of the up product's weight. -/
theorem wcat_up (c : Dev nD) (l : Fin 1024) (K : Fin 5632) (k : Fin 2816) (h : K.val = k.val + 1408 ∧ k.val < 1408 ∨ K.val = k.val + 2816 ∧ 1408 ≤ k.val) :
    wcat m c (ix2 l K) = m ((c.tc : Thread nD τ).loc main_arg2) (ix2 l k) := by
  pointwise
  by_cases h1 : K.val < 1408
  · rw [dif_pos h1]
    exfalso; omega
  rw [dif_neg h1]
  by_cases h2 : K.val - 1408 < 1408
  · rw [dif_pos h2]
    exact congrArg (fun j => m ((c.tc : Thread nD τ).loc main_arg2) (ix2 l j)) (Fin.ext (by show K.val - 1408 = k.val; omega))
  rw [dif_neg h2]
  by_cases h3 : K.val - 1408 - 1408 < 1408
  · rw [dif_pos h3]
    exfalso; omega
  · rw [dif_neg h3]
    exact congrArg (fun j => m ((c.tc : Thread nD τ).loc main_arg2) (ix2 l j)) (Fin.ext (by show 1408 + (K.val - 1408 - 1408 - 1408) = k.val; omega))

/-- The reference's two products, of the arguments. -/
abbrev gate (c : Dev nD) := val_main_v1 (F := Ideal) (m ((c.tc : Thread nD τ).loc main_arg0)) (m ((c.tc : Thread nD τ).loc main_arg1))

abbrev up (c : Dev nD) := val_main_v2 (F := Ideal) (m ((c.tc : Thread nD τ).loc main_arg0)) (m ((c.tc : Thread nD τ).loc main_arg2))

/-- The reference's two results, of the arguments. -/
abbrev refGu (c : Dev nD) := val_main_v8 (F := Ideal) (m ((c.tc : Thread nD τ).loc main_arg0)) (m ((c.tc : Thread nD τ).loc main_arg1)) (m ((c.tc : Thread nD τ).loc main_arg2))

abbrev refAct (c : Dev nD) := val_main_v11 (F := Ideal) (m ((c.tc : Thread nD τ).loc main_arg0)) (m ((c.tc : Thread nD τ).loc main_arg1)) (m ((c.tc : Thread nD τ).loc main_arg2))

/-- The stored columns of the gate's product. -/
theorem gu_gate (c : Dev nD) (R : Fin 16384) (K : Fin 5632) (k : Fin 2816) (h : K.val = k.val ∧ k.val < 1408 ∨ K.val = k.val + 1408 ∧ 1408 ≤ k.val) :
    refGu m c (ix2 R K) = gate m c (ix2 R k) := by
  unfold refGu val_main_v8 val_main_v7 val_main_v6 val_main_v5 val_main_v4 val_main_v3
  unfold gate
  generalize val_main_v1 (F := Ideal) (m ((c.tc : Thread nD τ).loc main_arg0)) (m ((c.tc : Thread nD τ).loc main_arg1)) = A
  generalize val_main_v2 (F := Ideal) (m ((c.tc : Thread nD τ).loc main_arg0)) (m ((c.tc : Thread nD τ).loc main_arg2)) = B
  pointwise
  by_cases h1 : K.val < 1408
  · rw [dif_pos h1]
    exact congrArg (fun j => A (ix2 R j)) (Fin.ext (by show K.val = k.val; omega))
  rw [dif_neg h1]
  by_cases h2 : K.val - 1408 < 1408
  · rw [dif_pos h2]
    exfalso; omega
  rw [dif_neg h2]
  by_cases h3 : K.val - 1408 - 1408 < 1408
  · rw [dif_pos h3]
    exact congrArg (fun j => A (ix2 R j)) (Fin.ext (by show 1408 + (K.val - 1408 - 1408) = k.val; omega))
  · rw [dif_neg h3]
    exfalso; omega

/-- The stored columns of the up product. -/
theorem gu_up (c : Dev nD) (R : Fin 16384) (K : Fin 5632) (k : Fin 2816) (h : K.val = k.val + 1408 ∧ k.val < 1408 ∨ K.val = k.val + 2816 ∧ 1408 ≤ k.val) :
    refGu m c (ix2 R K) = up m c (ix2 R k) := by
  unfold refGu val_main_v8 val_main_v7 val_main_v6 val_main_v5 val_main_v4 val_main_v3
  unfold up
  generalize val_main_v1 (F := Ideal) (m ((c.tc : Thread nD τ).loc main_arg0)) (m ((c.tc : Thread nD τ).loc main_arg1)) = A
  generalize val_main_v2 (F := Ideal) (m ((c.tc : Thread nD τ).loc main_arg0)) (m ((c.tc : Thread nD τ).loc main_arg2)) = B
  pointwise
  by_cases h1 : K.val < 1408
  · rw [dif_pos h1]
    exfalso; omega
  rw [dif_neg h1]
  by_cases h2 : K.val - 1408 < 1408
  · rw [dif_pos h2]
    exact congrArg (fun j => B (ix2 R j)) (Fin.ext (by show K.val - 1408 = k.val; omega))
  rw [dif_neg h2]
  by_cases h3 : K.val - 1408 - 1408 < 1408
  · rw [dif_pos h3]
    exfalso; omega
  · rw [dif_neg h3]
    exact congrArg (fun j => B (ix2 R j)) (Fin.ext (by show 1408 + (K.val - 1408 - 1408 - 1408) = k.val; omega))

/-- A grid point's product is the gate's product in its first half of columns. -/
theorem pay_gate (c : Dev nD) (t : Fin cfg0.N) (r : Fin 512) (K : Fin 2816) (k : Fin 1408) (h : K.val = k.val) :
    k0_pay1 (iblk m c 0 t) (iblk m c 1 t) (ix2 r K) = gate m c (ix2 (row t r) (col t k)) := by
  have hw := fun l => wcat_gate m c l (wcol t K) (col t k) (by rw [wcol_val, col_val]; have := half_lt t; omega)
  unfold gate
  unfold_payloads
  pointwise [val_main_v1, val_main_v0]
  simp only [b0, b1, hw]

/-- And the up product in its second half. -/
theorem pay_up (c : Dev nD) (t : Fin cfg0.N) (r : Fin 512) (K : Fin 2816) (k : Fin 1408) (h : K.val = 1408 + k.val) :
    k0_pay1 (iblk m c 0 t) (iblk m c 1 t) (ix2 r K) = up m c (ix2 (row t r) (col t k)) := by
  have hw := fun l => wcat_up m c l (wcol t K) (col t k) (by rw [wcol_val, col_val]; have := half_lt t; omega)
  unfold up
  unfold_payloads
  pointwise [val_main_v2, val_main_v0]
  simp only [b0, b1, hw]

theorem guBlk_eq (c : Dev nD) (t : Fin cfg0.N) (r : Fin 512) (K : Fin 2816) :
    k0_pay2 (iblk m c 0 t) (iblk m c 1 t) (ix2 r K) = refGu m c (ix2 (row t r) (wcol t K)) := by
  unfold k0_pay2
  pointwise
  by_cases h : K.val < 1408
  · rw [pay_gate m c t r K ⟨K.val, h⟩ rfl, gu_gate m c _ (wcol t K) (col t ⟨K.val, h⟩) (by rw [wcol_val, col_val]; have := half_lt t; dsimp only; omega)]
  · rw [pay_up m c t r K ⟨K.val - 1408, by omega⟩ (by show K.val = 1408 + (K.val - 1408); omega),
      gu_up m c _ (wcol t K) (col t ⟨K.val - 1408, by omega⟩) (by rw [wcol_val, col_val]; have := half_lt t; dsimp only; omega)]

theorem actBlk_eq (c : Dev nD) (t : Fin cfg0.N) (r : Fin 512) (k : Fin 1408) :
    k0_pay3 (iblk m c 0 t) (iblk m c 1 t) (ix2 r k) = refAct m c (ix2 (row t r) (col t k)) := by
  have hg := fun K h => pay_gate m c t r K k h
  have hu := fun K h => pay_up m c t r K k h
  unfold refAct val_main_v11 val_main_v10 val_main_v9 val_main_call0_v5 val_main_call0_v3 val_main_call0_v1 val_main_call0_v0
  unfold gate at hg
  unfold up at hu
  generalize val_main_v1 (F := Ideal) (m ((c.tc : Thread nD τ).loc main_arg0)) (m ((c.tc : Thread nD τ).loc main_arg1)) = A at *
  generalize val_main_v2 (F := Ideal) (m ((c.tc : Thread nD τ).loc main_arg0)) (m ((c.tc : Thread nD τ).loc main_arg2)) = B at *
  unfold k0_pay3
  generalize k0_pay1 (iblk m c 0 t) (iblk m c 1 t) = pb at *
  pointwise [val_main_call0_v2, val_main_call0_v4, val_main_call0_cst, val_main_call0_cst_0]
  rw [Cert.Scalars.sigmoid, hg _ rfl, hu _ rfl]

theorem arr2_of (c : Dev nD) (G : S16384x5632.Idx → EReal)
    (hG : ∀ (t : Fin cfg0.N) (r : Fin 512) (l : Fin 2816), out0_2 (iblk m c 0 t) (iblk m c 1 t) (ix2 r l) = G (ix2 (row t r) (wcol t l))) :
    (dats m 0 c).arrAt 2 cfg0.N = G := by
  refine (dats m 0 c).arrAt_eq_of_covers 2 _ (by decide +kernel) fun t hf y => ?_
  blk_simp
  rw [after0_2]
  obtain ⟨r, l, rfl⟩ : ∃ (r : Fin 512) (l : Fin 2816), y = ix2 r l := ⟨y 0, y 1, by blk_ext []⟩
  have e : (win0_2.blk t).view.emb (ix2 r l) = ix2 (row t r) (wcol t l) := by blk_ext [idx t, row_val, wcol_val]
  rw [e]
  exact hG t r l

/-- The joined products after the run. -/
theorem arr2 (c : Dev nD) : (dats m 0 c).arrAt 2 cfg0.N = refGu m c :=
  arr2_of m c _ fun t r l => by
    frame_out
    exact guBlk_eq m c t r l

theorem arr3_of (c : Dev nD) (G : S16384x2816.Idx → EReal)
    (hG : ∀ (t : Fin cfg0.N) (r : Fin 512) (l : Fin 1408), out0_3 (iblk m c 0 t) (iblk m c 1 t) (ix2 r l) = G (ix2 (row t r) (col t l))) :
    (dats m 0 c).arrAt 3 cfg0.N = G := by
  refine (dats m 0 c).arrAt_eq_of_covers 3 _ (by decide +kernel) fun t hf y => ?_
  blk_simp
  rw [after0_3]
  obtain ⟨r, l, rfl⟩ : ∃ (r : Fin 512) (l : Fin 1408), y = ix2 r l := ⟨y 0, y 1, by blk_ext []⟩
  have e : (win0_3.blk t).view.emb (ix2 r l) = ix2 (row t r) (col t l) := by blk_ext [idx t, row_val, col_val]
  rw [e]
  exact hG t r l

/-- The gated products after the run. -/
theorem arr3 (c : Dev nD) : (dats m 0 c).arrAt 3 cfg0.N = refAct m c :=
  arr3_of m c _ fun t r l => by
    frame_out
    exact actBlk_eq m c t r l

/-- The call's two results are the reference's. -/
theorem algebraic : Cert.algebraic_Kernel8Ideal_Reference8Ideal := fun m g m' g' _ e =>
  ⟨fun c => refGu m c, fun c => refAct m c,
    (θ_run (Cert.Kernel8Ideal.defs (F := Ideal)) _ _).mono (fun _ h c => ⟨(h c).1.trans (arr2 m c), (h c).2.1.trans (arr3 m c), (h c).2.2⟩) (Cert.Kernel8Ideal.Value.run_blocks m g),
    (θ_run Cert.Reference8Ideal.defs _ _).mono (fun _ h c => by
      obtain ⟨e0, e1, e2⟩ := e c
      refine ⟨(h c).1.trans ((val_main_v8_eq _ _ _).trans ?_), (h c).2.1.trans ((val_main_v11_eq _ _ _).trans ?_), (h c).2.2⟩
      · rw [e0, e1, e2]
      · rw [e0, e1, e2]) (Cert.Reference8Ideal.Value.run m' g')⟩

end Cert.Kernel8Ideal.Val

end
-- ==== Proof.Calls.WdFwd.lean ====
module

public import proofs.«01_k».proof.Defs
public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel9Ideal.Val

open Cert.Kernel9Ideal Cert.Kernel9Ideal.Gen Idealize.ShloMosaic Idealize.ShloMosaic.TcCoe Idealize.SL.Sem
open Cert.Reference9Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0]
    ∧ win0_3.index t = ![0, 0] ∧ win0_4.index t = ![t.val, 0] ∧ win0_5.index t = ![t.val, 0])

/-- The row of the arrays that row `r` of grid point `t`'s blocks is. -/
def row (t : Fin cfg0.N) (r : Fin 512) : Fin 16384 :=
  ⟨512 * t.val + r.val, by have h := t.isLt; have h' : cfg0.N = 32 := rfl; omega⟩

theorem row_val (t : Fin cfg0.N) (r : Fin 512) : (row t r).val = 512 * t.val + r.val := rfl

theorem b0 (c : Dev nD) (t : Fin cfg0.N) (r : Fin 512) (k : Fin 2816) :
    iblk m c 0 t (ix2 r k) = m ((c.tc : Thread nD τ).loc main_arg0) (ix2 (row t r) k) := by
  blk_ext [iblk, V, idx t, row_val]

theorem b2 (c : Dev nD) (t : Fin cfg0.N) (r : Fin 512) (k : Fin 1024) :
    iblk m c 2 t (ix2 r k) = m ((c.tc : Thread nD τ).loc main_arg2) (ix2 (row t r) k) := by
  blk_ext [iblk, V, idx t, row_val]

/-- The whole weight stands in window 1. -/
theorem b1 (c : Dev nD) (t : Fin cfg0.N) (k : Fin 2816) (l : Fin 1024) :
    iblk m c 1 t (ix2 k l) = m ((c.tc : Thread nD τ).loc main_arg1) (ix2 k l) := by
  have e : (win0_1.blk t).view.emb (ix2 k l) = ix2 k l := by blk_ext [idx t]
  show V m c main_v0 ((win0_1.blk t).view.emb (ix2 k l)) = _
  rw [e]
  unfold V
  after_reads_at

/-- The next norm's scale stands in window 3. -/
theorem b3 (c : Dev nD) (t : Fin cfg0.N) (r : Fin 1) (k : Fin 1024) :
    iblk m c 3 t (ix2 r k) = m ((c.tc : Thread nD τ).loc main_arg3) (ix1 k) := by
  have e : (win0_3.blk t).view.emb (ix2 r k) = ix2 r k := by blk_ext [idx t]
  show V m c main_v1 ((win0_3.blk t).view.emb (ix2 r k)) = _
  rw [e]
  unfold V
  after_reads_at

/-- The reference's rows after the branch, of the arguments. -/
abbrev refX (c : Dev nD) := val_main_v2 (F := Ideal) (m ((c.tc : Thread nD τ).loc main_arg0)) (m ((c.tc : Thread nD τ).loc main_arg1)) (m ((c.tc : Thread nD τ).loc main_arg2))

/-- The reference's normed rows, of the arguments. -/
abbrev refH (c : Dev nD) := val_main_v16 (F := Ideal) (m ((c.tc : Thread nD τ).loc main_arg0)) (m ((c.tc : Thread nD τ).loc main_arg1)) (m ((c.tc : Thread nD τ).loc main_arg2)) (m ((c.tc : Thread nD τ).loc main_arg3))

/-- What grid point `t` computes of the rows after the branch. -/
def xBlk (c : Dev nD) (t : Fin cfg0.N) : FVec Ideal S512x1024 .f32 := k0_pay4 (k0_pay2 (iblk m c 0 t) (iblk m c 1 t)) (iblk m c 2 t)

theorem xBlk_eq (c : Dev nD) (t : Fin cfg0.N) (r : Fin 512) (l : Fin 1024) :
    xBlk m c t (ix2 r l) = refX m c (ix2 (row t r) l) := by
  unfold xBlk refX
  unfold_payloads
  pointwise [val_main_v2, val_main_v1, val_main_v0]
  simp only [b0, b1, b2]
  exact add_comm _ _

theorem hBlk_eq (c : Dev nD) (t : Fin cfg0.N) (r : Fin 512) (l : Fin 1024) :
    k0_pay5 (k0_pay2 (iblk m c 0 t) (iblk m c 1 t)) (iblk m c 2 t) (iblk m c 3 t) (ix2 r l) = refH m c (ix2 (row t r) l) := by
  have hx := fun k => xBlk_eq m c t r k
  unfold refX at hx
  unfold refH val_main_v16 val_main_v15 val_main_v12 val_main_v11 val_main_v10 val_main_v9 val_main_v7 val_main_v5 val_main_v4 val_main_v3
  unfold k0_pay5
  unfold xBlk at hx
  generalize val_main_v2 (F := Ideal) (m ((c.tc : Thread nD τ).loc main_arg0)) (m ((c.tc : Thread nD τ).loc main_arg1)) (m ((c.tc : Thread nD τ).loc main_arg2)) = X at *
  generalize k0_pay4 (k0_pay2 (iblk m c 0 t) (iblk m c 1 t)) (iblk m c 2 t) = xb at *
  pointwise [val_main_v14, val_main_v13, val_main_v8, val_main_v6, val_main_cst, val_main_cst_0, val_main_cst_1]
  simp only [b3, hx]

theorem outs4 (c : Dev nD) (t : Fin cfg0.N) : (outsAt0 m c t).1 = xBlk m c t := by
  unfold outsAt0 xBlk
  frame_out

theorem outs5 (c : Dev nD) (t : Fin cfg0.N) :
    (outsAt0 m c t).2 = k0_pay5 (k0_pay2 (iblk m c 0 t) (iblk m c 1 t)) (iblk m c 2 t) (iblk m c 3 t) := by
  unfold outsAt0
  frame_out

theorem arr4_of (c : Dev nD) (G : S16384x1024.Idx → EReal)
    (hG : ∀ (t : Fin cfg0.N) (r : Fin 512) (l : Fin 1024), (outsAt0 m c t).1 (ix2 r l) = G (ix2 (row t r) l)) :
    (dats m 0 c).arrAt 4 cfg0.N = G := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by blk_ext []⟩
  have e : (win0_4.blk t).view.emb (ix2 r l) = ix2 (row t r) l := by blk_ext [idx t, row_val]
  rw [e]
  exact hG t r l

/-- The rows after the branch, after the run. -/
theorem arr4 (c : Dev nD) : (dats m 0 c).arrAt 4 cfg0.N = refX m c :=
  arr4_of m c _ fun t r l => by rw [outs4]; exact xBlk_eq m c t r l

theorem arr5_of (c : Dev nD) (G : S16384x1024.Idx → EReal)
    (hG : ∀ (t : Fin cfg0.N) (r : Fin 512) (l : Fin 1024), (outsAt0 m c t).2 (ix2 r l) = G (ix2 (row t r) l)) :
    (dats m 0 c).arrAt 5 cfg0.N = G := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by blk_ext []⟩
  have e : (win0_5.blk t).view.emb (ix2 r l) = ix2 (row t r) l := by blk_ext [idx t, row_val]
  rw [e]
  exact hG t r l

/-- The normed rows after the run. -/
theorem arr5 (c : Dev nD) : (dats m 0 c).arrAt 5 cfg0.N = refH m c :=
  arr5_of m c _ fun t r l => by rw [outs5]; exact hBlk_eq m c t r l

/-- The call's two results are the reference's. -/
theorem algebraic : Cert.algebraic_Kernel9Ideal_Reference9Ideal := fun m g m' g' _ e =>
  ⟨fun c => refX m c, fun c => refH m c,
    (θ_run (Cert.Kernel9Ideal.defs (F := Ideal)) _ _).mono (fun _ h c => ⟨(h c).1.trans (arr4 m c), (h c).2.1.trans (arr5 m c), (h c).2.2⟩) (Cert.Kernel9Ideal.Value.run_blocks m g),
    (θ_run Cert.Reference9Ideal.defs _ _).mono (fun _ h c => by
      obtain ⟨e0, e1, e2, e3⟩ := e c
      refine ⟨(h c).1.trans ((val_main_v2_eq _ _ _).trans ?_), (h c).2.1.trans ((val_main_v16_eq _ _ _ _).trans ?_), (h c).2.2⟩
      · rw [e0, e1, e2]
      · rw [e0, e1, e2, e3]) (Cert.Reference9Ideal.Value.run m' g')⟩

end Cert.Kernel9Ideal.Val

end
-- ==== Proof.Calls.MergeFwd.lean ====
module

public import proofs.«01_k».proof.Defs
public import proofs.«01_k».proof.Proof.Gen.Kernel10Ideal.Value
public import proofs.«01_k».proof.Proof.Gen.Reference10Ideal.Read
public import proofs.«01_k».proof.Proof.Calls.Scalars
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel10Ideal.Val

open Cert.Kernel10Ideal Cert.Kernel10Ideal.Gen Idealize.ShloMosaic Idealize.ShloMosaic.TcCoe Idealize.SL.Sem
open Cert.Reference10Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![t.val, 0] ∧ win0_2.index t = ![t.val, 11] ∧ win0_3.index t = ![t.val, 12] ∧ win0_4.index t = ![t.val, 13] ∧ win0_5.index t = ![t.val, 14] ∧ win0_6.index t = ![t.val, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0] :=
  (by decide +kernel : ∀ t : Fin grid0.N, win0_0.index t = ![t.val, 0] ∧ win0_1.index t = ![t.val, 0] ∧ win0_2.index t = ![t.val, 11] ∧ win0_3.index t = ![t.val, 12] ∧ win0_4.index t = ![t.val, 13] ∧ win0_5.index t = ![t.val, 14] ∧ win0_6.index t = ![t.val, 0] ∧ win0_7.index t = ![0, 0] ∧ win0_8.index t = ![0, 0] ∧ win0_9.index t = ![0, 0] ∧ win0_10.index t = ![0, 0] ∧ win0_11.index t = ![t.val, 0] ∧ win0_12.index t = ![t.val, 0] ∧ win0_13.index t = ![t.val, 0] ∧ win0_14.index t = ![t.val, 0] ∧ win0_15.index t = ![t.val, 0])

theorem point_lt (t : Fin cfg0.N) : t.val < 32 := by have h := t.isLt; have h' : cfg0.N = 32 := rfl; omega

/-- The row of the arrays that row `r` of grid point `t`'s blocks is. -/
def row (t : Fin cfg0.N) (r : Fin 512) : Fin 16384 := ⟨512 * t.val + r.val, by have h := point_lt t; omega⟩

theorem row_val (t : Fin cfg0.N) (r : Fin 512) : (row t r).val = 512 * t.val + r.val := rfl

theorem b0 (c : Dev nD) (t : Fin cfg0.N) (r : Fin 512) (k : Fin 1024) :
    iblk m c 0 t (ix2 r k) = m ((c.tc : Thread nD τ).loc main_arg0) (ix2 (row t r) k) := by
  blk_ext [iblk, V, idx t, row_val]

theorem b1 (c : Dev nD) (t : Fin cfg0.N) (r : Fin 512) (k : Fin 1024) :
    iblk m c 1 t (ix2 r k) = m ((c.tc : Thread nD τ).loc main_arg1) (ix2 (row t r) k) := by
  blk_ext [iblk, V, idx t, row_val]

theorem b6 (c : Dev nD) (t : Fin cfg0.N) (r : Fin 512) (k : Fin 1024) :
    iblk m c 6 t (ix2 r k) = m ((c.tc : Thread nD τ).loc main_arg3) (ix2 (row t r) k) := by
  blk_ext [iblk, V, idx t, row_val]

theorem b2 (c : Dev nD) (t : Fin cfg0.N) (r : Fin 512) (k : Fin 512) :
    iblk m c 2 t (ix2 r k) = m ((c.tc : Thread nD τ).loc main_arg2) (ix2 (row t r) ⟨5632 + k.val, by omega⟩) := by
  blk_ext [iblk, V, idx t, row_val]

theorem b3 (c : Dev nD) (t : Fin cfg0.N) (r : Fin 512) (k : Fin 512) :
    iblk m c 3 t (ix2 r k) = m ((c.tc : Thread nD τ).loc main_arg2) (ix2 (row t r) ⟨6144 + k.val, by omega⟩) := by
  blk_ext [iblk, V, idx t, row_val]

theorem b4 (c : Dev nD) (t : Fin cfg0.N) (r : Fin 512) (k : Fin 512) :
    iblk m c 4 t (ix2 r k) = m ((c.tc : Thread nD τ).loc main_arg2) (ix2 (row t r) ⟨6656 + k.val, by omega⟩) := by
  blk_ext [iblk, V, idx t, row_val]

theorem b5 (c : Dev nD) (t : Fin cfg0.N) (r : Fin 512) (k : Fin 512) :
    iblk m c 5 t (ix2 r k) = m ((c.tc : Thread nD τ).loc main_arg2) (ix2 (row t r) ⟨7168 + k.val, by omega⟩) := by
  blk_ext [iblk, V, idx t, row_val]

theorem b7 (c : Dev nD) (t : Fin cfg0.N) (k l : Fin 1024) :
    iblk m c 7 t (ix2 k l) = m ((c.tc : Thread nD τ).loc main_arg4) (ix2 k l) := by
  have e : (win0_7.blk t).view.emb (ix2 k l) = ix2 k l := by blk_ext [idx t]
  show V m c main_v0 ((win0_7.blk t).view.emb (ix2 k l)) = _
  rw [e]
  unfold V
  after_reads_at

theorem b8 (c : Dev nD) (t : Fin cfg0.N) (k l : Fin 1024) :
    iblk m c 8 t (ix2 k l) = m ((c.tc : Thread nD τ).loc main_arg5) (ix2 k l) := by
  have e : (win0_8.blk t).view.emb (ix2 k l) = ix2 k l := by blk_ext [idx t]
  show V m c main_v1 ((win0_8.blk t).view.emb (ix2 k l)) = _
  rw [e]
  unfold V
  after_reads_at

theorem b9 (c : Dev nD) (t : Fin cfg0.N) (k l : Fin 1024) :
    iblk m c 9 t (ix2 k l) = m ((c.tc : Thread nD τ).loc main_arg6) (ix2 k l) := by
  have e : (win0_9.blk t).view.emb (ix2 k l) = ix2 k l := by blk_ext [idx t]
  show V m c main_v2 ((win0_9.blk t).view.emb (ix2 k l)) = _
  rw [e]
  unfold V
  after_reads_at

theorem b10 (c : Dev nD) (t : Fin cfg0.N) (l : Fin 1024) :
    iblk m c 10 t (ix2 0 l) = m ((c.tc : Thread nD τ).loc main_arg7) (ix1 l) := by
  have e : (win0_10.blk t).view.emb (ix2 0 l) = ix2 0 l := by blk_ext [idx t]
  show V m c main_v3 ((win0_10.blk t).view.emb (ix2 0 l)) = _
  rw [e]
  unfold V
  after_reads_at

/-- A grid point's product of the first output and its weight. -/
theorem ya_eq (c : Dev nD) (t : Fin cfg0.N) (r : Fin 512) (l : Fin 1024) :
    k0_pay4 (iblk m c 0 t) (iblk m c 7 t) (ix2 r l) = val_main_v1 (F := Ideal) (m ((c.tc : Thread nD τ).loc main_arg0)) (m ((c.tc : Thread nD τ).loc main_arg4)) (ix2 (row t r) l) := by
  unfold_payloads
  pointwise [val_main_v1, val_main_v0]
  simp only [b0, b7]

/-- And of the second output. -/
theorem yb_eq (c : Dev nD) (t : Fin cfg0.N) (r : Fin 512) (l : Fin 1024) :
    k0_pay5 (iblk m c 1 t) (iblk m c 8 t) (ix2 r l) = val_main_v3 (F := Ideal) (m ((c.tc : Thread nD τ).loc main_arg1)) (m ((c.tc : Thread nD τ).loc main_arg5)) (ix2 (row t r) l) := by
  unfold_payloads
  pointwise [val_main_v3, val_main_v2]
  simp only [b1, b8]

/-- The gated sum reads its blocks whole. -/
theorem pay8_whole (x0 x1 : Vec Ideal S512x1024 .bf16) (x2 x3 x4 x5 : Vec Ideal S512x512 .f32) (x6 : Vec Ideal S512x1024 .f32) (x7 x8 x9 : Vec Ideal S1024x1024 .bf16) (x10 : Vec Ideal S1x1024 .f32) :
    k0_pay8 x0 x1 x2 x3 x4 x5 x6 x7 x8 x9 x10 = k0_pay6 x0 x7 x1 x8 x2 x3 x4 x5 := by
  unfold k0_pay8
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x7 (by decide), View.ld_unit_lit _ x8 (by decide)]

/-- A grid point's gated sum of the two. -/
theorem mix_eq (c : Dev nD) (t : Fin cfg0.N) (r : Fin 512) (l : Fin 1024) :
    k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = val_main_v20 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (ix2 (row t r) l) := by
  have ha := ya_eq m c t r l
  have hb := yb_eq m c t r l
  rw [pay8_whole]
  unfold k0_pay6
  unfold val_main_v20 val_main_v19 val_main_v11
  generalize val_main_v1 (F := Ideal) (m ((c.tc : Thread nD τ).loc main_arg0)) (m ((c.tc : Thread nD τ).loc main_arg4)) = A at *
  generalize val_main_v3 (F := Ideal) (m ((c.tc : Thread nD τ).loc main_arg1)) (m ((c.tc : Thread nD τ).loc main_arg5)) = B at *
  generalize k0_pay4 (iblk m c 0 t) (iblk m c 7 t) = pa at *
  generalize k0_pay5 (iblk m c 1 t) (iblk m c 8 t) = pb at *
  pointwise [val_main_v18, val_main_v17, val_main_v16, val_main_v15, val_main_v14, val_main_v13, val_main_v12, val_main_v10, val_main_v9, val_main_v8, val_main_v7, val_main_v6, val_main_v5, val_main_v4, val_main_cst, val_main_cst_0, val_main_cst_1, val_main_cst_2]
  simp only [Cert.Scalars.sigmoid]
  by_cases h : l.val < 512
  · simp only [dif_pos h, b2, b4, ha, hb]
  · have e1 : ∀ q, (⟨6144 + (l.val - 512), q⟩ : Fin 7680) = ⟨5632 + l.val, by omega⟩ := fun _ => Fin.ext (by dsimp only; omega)
    have e2 : ∀ q, (⟨7168 + (l.val - 512), q⟩ : Fin 7680) = ⟨6656 + l.val, by omega⟩ := fun _ => Fin.ext (by dsimp only; omega)
    simp only [dif_neg h, b3, b5, ha, hb, e1, e2]

/-- A grid point's rows of the stream with the layer's branch added. -/
theorem x1_eq (c : Dev nD) (t : Fin cfg0.N) (r : Fin 512) (l : Fin 1024) :
    k0_pay2 (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 9 t) (ix2 r l) = val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (ix2 (row t r) l) := by
  have hm := fun k => mix_eq m c t r k
  unfold val_main_v22 val_main_v21
  generalize val_main_v20 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) = M at *
  generalize k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t) = pm at *
  unfold_payloads
  pointwise
  simp only [b6, b9, hm]

/-- And normalised. -/
theorem h2_eq (c : Dev nD) (t : Fin cfg0.N) (r : Fin 512) (l : Fin 1024) :
    k0_pay3 (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 9 t) (iblk m c 10 t) (ix2 r l) = val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (ix2 (row t r) l) := by
  have hx := fun k => x1_eq m c t r k
  unfold k0_pay3 val_main_v39 val_main_v38 val_main_v35 val_main_v34 val_main_v33 val_main_v32 val_main_v30 val_main_v28 val_main_v27 val_main_v26
  generalize val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) = X at *
  generalize k0_pay2 (k0_pay8 (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 6 t) (iblk m c 9 t) = px at *
  pointwise [val_main_v37, val_main_v36, val_main_v31, val_main_v29, val_main_cst_3, val_main_cst_4, val_main_cst_5]
  simp only [b10, hx]

/-- The reference's five results, of the arguments. -/
abbrev refYa (c : Dev nD) := val_main_v23 (F := Ideal) (m ((c.tc : Thread nD τ).loc main_arg0)) (m ((c.tc : Thread nD τ).loc main_arg4))

abbrev refYb (c : Dev nD) := val_main_v24 (F := Ideal) (m ((c.tc : Thread nD τ).loc main_arg1)) (m ((c.tc : Thread nD τ).loc main_arg5))

abbrev refMix (c : Dev nD) := val_main_v25 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5))

abbrev refH2 (c : Dev nD) := val_main_v39 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

abbrev refX1 (c : Dev nD) := val_main_v22 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

theorem arr11_of (c : Dev nD) (G : S16384x1024.Idx → EReal)
    (hG : ∀ (t : Fin cfg0.N) (r : Fin 512) (l : Fin 1024), out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = G (ix2 (row t r) l)) :
    (dats m 0 c).arrAt 11 cfg0.N = G := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, by blk_ext []⟩
  have e : (win0_11.blk t).view.emb (ix2 r l) = ix2 (row t r) l := by blk_ext [idx t, row_val]
  rw [e]
  exact hG t r l

/-- The first output's product after the run. -/
theorem arr11 (c : Dev nD) : (dats m 0 c).arrAt 11 cfg0.N = refYa m c :=
  arr11_of m c _ fun t r l => by
    frame_out
    unfold k0_pay7 refYa val_main_v23
    pointwise
    exact ya_eq m c t r l

theorem arr12_of (c : Dev nD) (G : S16384x1024.Idx → EReal)
    (hG : ∀ (t : Fin cfg0.N) (r : Fin 512) (l : Fin 1024), out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = G (ix2 (row t r) l)) :
    (dats m 0 c).arrAt 12 cfg0.N = G := by
  refine (dats m 0 c).arrAt_eq_of_covers 12 _ (by decide +kernel) fun t hf y => ?_
  blk_simp
  rw [after0_12]
  obtain ⟨r, l, rfl⟩ : ∃ (r : Fin 512) (l : Fin 1024), y = ix2 r l := ⟨y 0, y 1, by blk_ext []⟩
  have e : (win0_12.blk t).view.emb (ix2 r l) = ix2 (row t r) l := by blk_ext [idx t, row_val]
  rw [e]
  exact hG t r l

/-- The second's. -/
theorem arr12 (c : Dev nD) : (dats m 0 c).arrAt 12 cfg0.N = refYb m c :=
  arr12_of m c _ fun t r l => by
    frame_out
    unfold k0_pay1 refYb val_main_v24
    pointwise
    exact yb_eq m c t r l

theorem arr13_of (c : Dev nD) (G : S16384x1024.Idx → EReal)
    (hG : ∀ (t : Fin cfg0.N) (r : Fin 512) (l : Fin 1024), out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = G (ix2 (row t r) l)) :
    (dats m 0 c).arrAt 13 cfg0.N = G := by
  refine (dats m 0 c).arrAt_eq_of_covers 13 _ (by decide +kernel) fun t hf y => ?_
  blk_simp
  rw [after0_13]
  obtain ⟨r, l, rfl⟩ : ∃ (r : Fin 512) (l : Fin 1024), y = ix2 r l := ⟨y 0, y 1, by blk_ext []⟩
  have e : (win0_13.blk t).view.emb (ix2 r l) = ix2 (row t r) l := by blk_ext [idx t, row_val]
  rw [e]
  exact hG t r l

/-- Their gated sum. -/
theorem arr13 (c : Dev nD) : (dats m 0 c).arrAt 13 cfg0.N = refMix m c :=
  arr13_of m c _ fun t r l => by
    frame_out
    unfold refMix val_main_v25
    pointwise
    exact mix_eq m c t r l

theorem arr14_of (c : Dev nD) (G : S16384x1024.Idx → EReal)
    (hG : ∀ (t : Fin cfg0.N) (r : Fin 512) (l : Fin 1024), out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = G (ix2 (row t r) l)) :
    (dats m 0 c).arrAt 14 cfg0.N = G := by
  refine (dats m 0 c).arrAt_eq_of_covers 14 _ (by decide +kernel) fun t hf y => ?_
  blk_simp
  rw [after0_14]
  obtain ⟨r, l, rfl⟩ : ∃ (r : Fin 512) (l : Fin 1024), y = ix2 r l := ⟨y 0, y 1, by blk_ext []⟩
  have e : (win0_14.blk t).view.emb (ix2 r l) = ix2 (row t r) l := by blk_ext [idx t, row_val]
  rw [e]
  exact hG t r l

/-- The normalised stream. -/
theorem arr14 (c : Dev nD) : (dats m 0 c).arrAt 14 cfg0.N = refH2 m c :=
  arr14_of m c _ fun t r l => by
    frame_out
    exact h2_eq m c t r l

theorem arr15_of (c : Dev nD) (G : S16384x1024.Idx → EReal)
    (hG : ∀ (t : Fin cfg0.N) (r : Fin 512) (l : Fin 1024), out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r l) = G (ix2 (row t r) l)) :
    (dats m 0 c).arrAt 15 cfg0.N = G := by
  refine (dats m 0 c).arrAt_eq_of_covers 15 _ (by decide +kernel) fun t hf y => ?_
  blk_simp
  rw [after0_15]
  obtain ⟨r, l, rfl⟩ : ∃ (r : Fin 512) (l : Fin 1024), y = ix2 r l := ⟨y 0, y 1, by blk_ext []⟩
  have e : (win0_15.blk t).view.emb (ix2 r l) = ix2 (row t r) l := by blk_ext [idx t, row_val]
  rw [e]
  exact hG t r l

/-- The stream. -/
theorem arr15 (c : Dev nD) : (dats m 0 c).arrAt 15 cfg0.N = refX1 m c :=
  arr15_of m c _ fun t r l => by
    frame_out
    exact x1_eq m c t r l

/-- The call's five results are the reference's. -/
theorem algebraic : Cert.algebraic_Kernel10Ideal_Reference10Ideal := fun m g m' g' _ e =>
  ⟨fun c => refYa m c, fun c => refYb m c, fun c => refMix m c, fun c => refH2 m c, fun c => refX1 m c,
    (θ_run (Cert.Kernel10Ideal.defs (F := Ideal)) _ _).mono (fun _ h c => ⟨(h c).1.trans (arr11 m c), (h c).2.1.trans (arr12 m c), (h c).2.2.1.trans (arr13 m c), (h c).2.2.2.1.trans (arr14 m c), (h c).2.2.2.2.1.trans (arr15 m c), (h c).2.2.2.2.2⟩) (Cert.Kernel10Ideal.Value.run_blocks m g),
    (θ_run Cert.Reference10Ideal.defs _ _).mono (fun _ h c => by
      obtain ⟨e0, e1, e2, e3, e4, e5, e6, e7⟩ := e c
      refine ⟨(h c).1.trans ((val_main_v23_eq _ _).trans ?_), (h c).2.1.trans ((val_main_v24_eq _ _).trans ?_), (h c).2.2.1.trans ((val_main_v25_eq _ _ _ _ _).trans ?_), (h c).2.2.2.1.trans ((val_main_v39_eq m' c).trans ?_), (h c).2.2.2.2.1.trans ((val_main_v22_eq _ _ _ _ _ _ _).trans ?_), (h c).2.2.2.2.2⟩
      · rw [e0, e4]
      · rw [e1, e5]
      · rw [e0, e1, e2, e4, e5]
      · rw [e0, e1, e2, e3, e4, e5, e6, e7]
      · rw [e0, e1, e2, e3, e4, e5, e6]) (Cert.Reference10Ideal.Value.run m' g')⟩

end Cert.Kernel10Ideal.Val

end
-- ==== Proof.Calls.WoGrad.lean ====
module

public import proofs.«01_k».proof.Defs
public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel11Ideal.Val

open Cert.Kernel11Ideal Cert.Kernel11Ideal.Gen Idealize.ShloMosaic Idealize.ShloMosaic.TcCoe Idealize.SL.Sem
open Cert.Reference11Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The row of the factors that row `r` of grid point `t`'s blocks is. -/
def row (t : Fin cfg0.N) (r : Fin 2048) : Fin 16384 :=
  ⟨2048 * (t.val % 8) + r.val, by omega⟩

/-- The row of the gradient that row `k` of grid point `t`'s output block is: the left factor's column. -/
def col (t : Fin cfg0.N) (k : Fin 512) : Fin 1024 :=
  ⟨512 * (t.val / 8) + k.val, by have h := t.isLt; have h' : cfg0.N = 16 := rfl; omega⟩

theorem row_val (t : Fin cfg0.N) (r : Fin 2048) : (row t r).val = 2048 * (t.val % 8) + r.val := rfl

theorem col_val (t : Fin cfg0.N) (k : Fin 512) : (col t k).val = 512 * (t.val / 8) + k.val := rfl

theorem b0 (c : Dev nD) (t : Fin cfg0.N) (r : Fin 2048) (k : Fin 512) :
    iblk m c 0 t (ix2 r k) = m ((c.tc : Thread nD τ).loc main_arg0) (ix2 (row t r) (col t k)) := by
  blk_ext [iblk, V, idx t, row_val, col_val]

theorem b1 (c : Dev nD) (t : Fin cfg0.N) (r : Fin 2048) (l : Fin 1024) :
    iblk m c 1 t (ix2 r l) = m ((c.tc : Thread nD τ).loc main_arg2) (ix2 (row t r) l) := by
  blk_ext [iblk, V, idx t, row_val]

/-- The factors' entries as reals. -/
def lhs (c : Dev nD) (R : Fin 16384) (k : Fin 1024) : EReal := m ((c.tc : Thread nD τ).loc main_arg0) (ix2 R k)

def rhs (c : Dev nD) (R : Fin 16384) (l : Fin 1024) : EReal := m ((c.tc : Thread nD τ).loc main_arg2) (ix2 R l)

/-- What a grid point adds to entry `(k, l)` of its block. -/
def term (c : Dev nD) (t : Fin cfg0.N) (k : Fin 512) (l : Fin 1024) : EReal :=
  ∑ r : Fin 2048, lhs m c (row t r) (col t k) * rhs m c (row t r) l

theorem part (c : Dev nD) (t : Fin cfg0.N) (k : Fin 512) (l : Fin 1024) :
    k0_pay1 (iblk m c 0 t) (iblk m c 1 t) (ix2 k l) = term m c t k l := by
  unfold term lhs rhs
  unfold_payloads
  pointwise
  simp only [b0, b1]

/-- The first point of a run starts the running sum. -/
theorem pay2 (c : Dev nD) (t : Fin cfg0.N) (k : Fin 512) (l : Fin 1024) :
    k0_pay2 (iblk m c 0 t) (iblk m c 1 t) (ix2 k l) = 0 + term m c t k l := by
  rw [← part m c t k l, zero_add]
  unfold k0_pay2
  pointwise

/-- Every further point adds its term. -/
theorem pay3 (c : Dev nD) (t : Fin cfg0.N) (acc : Vec Ideal S512x1024 .f32) (k : Fin 512) (l : Fin 1024) :
    k0_pay3 (iblk m c 0 t) (iblk m c 1 t) acc (ix2 k l) = acc (ix2 k l) + term m c t k l := by
  rw [← part m c t k l]
  unfold k0_pay3
  pointwise

/-- The running sum at a run's last point. -/
theorem scr (c : Dev nD) (t : Fin cfg0.N) (ht : t.val % 8 = 7) (k : Fin 512) (l : Fin 1024) :
    (outsAt0 m c t.val t.isLt).2 (ix2 k l)
      = ∑ s : Fin 8, term m c ⟨8 * (t.val / 8) + s.val, Pipeline.run_point_lt_of_flush t ht s⟩ k l := by
  rw [Pipeline.eq_sum_fin_of_reset_step_apply_of_flush (fun n h => (outsAt0 m c n h).2) 8 (fun _ => (0 : EReal))
    (fun t i => term m c t (i 0) (i 1))
    (fun t h i => by
      rw [outsAt0_A m c t h (by omega) (by omega)]; frame_out
      idx_vars i
      exact pay2 m c t _ _)
    (fun t h i => by
      by_cases h' : t.val % 8 = 7
      · rw [outsAt0_C m c t h (by omega) h']; frame_out
        idx_vars i
        rw [read_unread_whole]
        exact pay3 m c t _ _ _
      · rw [outsAt0_B m c t h (by omega) h']; frame_out
        idx_vars i
        rw [read_unread_whole]
        exact pay3 m c t _ _ _) t ht (ix2 k l), zero_add]
  rfl

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The run's rows are all rows. -/
theorem run_sum (c : Dev nD) (t : Fin cfg0.N) (ht : t.val % 8 = 7) (k : Fin 512) (l : Fin 1024) :
    ∑ s : Fin 8, term m c ⟨8 * (t.val / 8) + s.val, Pipeline.run_point_lt_of_flush t ht s⟩ k l
      = ∑ R : Fin 16384, rhs m c R l * lhs m c R (col t k) := by
  unfold term
  refine Fin.sum_mul_add_congr fun s r h => ?_
  rw [mul_comm]
  have h8 := s.isLt
  have er : row ⟨8 * (t.val / 8) + s.val, Pipeline.run_point_lt_of_flush t ht s⟩ r = ⟨s.val * 2048 + r.val, h⟩ := Fin.ext (by
    show 2048 * ((8 * (t.val / 8) + s.val) % 8) + r.val = s.val * 2048 + r.val
    omega)
  have ec : col ⟨8 * (t.val / 8) + s.val, Pipeline.run_point_lt_of_flush t ht s⟩ k = col t k := Fin.ext (by
    show 512 * ((8 * (t.val / 8) + s.val) / 8) + k.val = 512 * (t.val / 8) + k.val
    omega)
  rw [er, ec]

/-- The reference's gradient, of the arguments. -/
abbrev ref (c : Dev nD) := val_main_v4 (F := Ideal) (m ((c.tc : Thread nD τ).loc main_arg0)) (m ((c.tc : Thread nD τ).loc main_arg2))

/-- The reference's gradient at an entry. -/
theorem ref_eq (c : Dev nD) (k : Fin 1024) (l : Fin 1024) :
    ref m c (ix2 k l) = ∑ R : Fin 16384, rhs m c R l * lhs m c R k := by
  unfold ref lhs rhs
  pointwise [val_main_v4, val_main_v3, val_main_v2, val_main_v0]

/-- The gradient after the run, from what every run's last point leaves. -/
theorem arr_of (c : Dev nD) (G : S1024x1024.Idx → EReal)
    (hG : ∀ (t : Fin cfg0.N), t.val % 8 = 7 → ∀ (k : Fin 512) (l : Fin 1024), (outsAt0 m c t.val t.isLt).1 (ix2 k l) = G (ix2 (col t k) l)) :
    (dats m 0 c).arrAt 2 cfg0.N = G := by
  refine (dats m 0 c).arrAt_eq_of_covers 2 _ (by decide +kernel) fun t hf y => ?_
  have ht : t.val % 8 = 7 := (flush0_2 t).mp hf
  blk_simp
  rw [after0_2]
  obtain ⟨k, l, rfl⟩ : ∃ (k : Fin 512) (l : Fin 1024), y = ix2 k l := ⟨y 0, y 1, by blk_ext []⟩
  have e : (win0_2.blk t).view.emb (ix2 k l) = ix2 (col t k) l := by blk_ext [idx t, col_val]
  rw [e]
  exact hG t ht k l

theorem arr (c : Dev nD) : (dats m 0 c).arrAt 2 cfg0.N = ref m c :=
  arr_of m c _ fun t ht k l => by rw [out_eq m c t ht, scr m c t ht, run_sum m c t ht, ref_eq]

/-- The call's result is the reference's. -/
theorem algebraic : Cert.algebraic_Kernel11Ideal_Reference11Ideal := fun m g m' g' _ e =>
  ⟨fun c => ref m c,
    (θ_run (Cert.Kernel11Ideal.defs (F := Ideal)) _ _).mono (fun _ h c => ⟨(h c).1.trans (arr m c), (h c).2⟩) (Cert.Kernel11Ideal.Value.run_blocks m g),
    (θ_run Cert.Reference11Ideal.defs _ _).mono (fun _ h c => by
      obtain ⟨e0, e1, e2⟩ := e c
      refine ⟨(h c).1.trans ((val_main_v4_eq _ _).trans ?_), (h c).2⟩
      rw [e0, e2]) (Cert.Reference11Ideal.Value.run m' g')⟩

end Cert.Kernel11Ideal.Val

end
-- ==== Proof.Calls.WpaGrad.lean ====
module

public import proofs.«01_k».proof.Defs
public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel12Ideal.Val

open Cert.Kernel12Ideal Cert.Kernel12Ideal.Gen Idealize.ShloMosaic Idealize.ShloMosaic.TcCoe Idealize.SL.Sem
open Cert.Reference12Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The row of the factors that row `r` of grid point `t`'s blocks is. -/
def row (t : Fin cfg0.N) (r : Fin 2048) : Fin 16384 :=
  ⟨2048 * (t.val % 8) + r.val, by omega⟩

/-- The row of the gradient that row `k` of grid point `t`'s output block is: the left factor's column. -/
def col (t : Fin cfg0.N) (k : Fin 512) : Fin 1024 :=
  ⟨512 * (t.val / 8) + k.val, by have h := t.isLt; have h' : cfg0.N = 16 := rfl; omega⟩

theorem row_val (t : Fin cfg0.N) (r : Fin 2048) : (row t r).val = 2048 * (t.val % 8) + r.val := rfl

theorem col_val (t : Fin cfg0.N) (k : Fin 512) : (col t k).val = 512 * (t.val / 8) + k.val := rfl

theorem b0 (c : Dev nD) (t : Fin cfg0.N) (r : Fin 2048) (k : Fin 512) :
    iblk m c 0 t (ix2 r k) = m ((c.tc : Thread nD τ).loc main_arg0) (ix2 (row t r) (col t k)) := by
  blk_ext [iblk, V, idx t, row_val, col_val]

theorem b1 (c : Dev nD) (t : Fin cfg0.N) (r : Fin 2048) (l : Fin 1024) :
    iblk m c 1 t (ix2 r l) = m ((c.tc : Thread nD τ).loc main_arg2) (ix2 (row t r) l) := by
  blk_ext [iblk, V, idx t, row_val]

/-- The factors' entries as reals. -/
def lhs (c : Dev nD) (R : Fin 16384) (k : Fin 1024) : EReal := m ((c.tc : Thread nD τ).loc main_arg0) (ix2 R k)

def rhs (c : Dev nD) (R : Fin 16384) (l : Fin 1024) : EReal := m ((c.tc : Thread nD τ).loc main_arg2) (ix2 R l)

/-- What a grid point adds to entry `(k, l)` of its block. -/
def term (c : Dev nD) (t : Fin cfg0.N) (k : Fin 512) (l : Fin 1024) : EReal :=
  ∑ r : Fin 2048, lhs m c (row t r) (col t k) * rhs m c (row t r) l

theorem part (c : Dev nD) (t : Fin cfg0.N) (k : Fin 512) (l : Fin 1024) :
    k0_pay1 (iblk m c 0 t) (iblk m c 1 t) (ix2 k l) = term m c t k l := by
  unfold term lhs rhs
  unfold_payloads
  pointwise
  simp only [b0, b1]

/-- The first point of a run starts the running sum. -/
theorem pay2 (c : Dev nD) (t : Fin cfg0.N) (k : Fin 512) (l : Fin 1024) :
    k0_pay2 (iblk m c 0 t) (iblk m c 1 t) (ix2 k l) = 0 + term m c t k l := by
  rw [← part m c t k l, zero_add]
  unfold k0_pay2
  pointwise

/-- Every further point adds its term. -/
theorem pay3 (c : Dev nD) (t : Fin cfg0.N) (acc : Vec Ideal S512x1024 .f32) (k : Fin 512) (l : Fin 1024) :
    k0_pay3 (iblk m c 0 t) (iblk m c 1 t) acc (ix2 k l) = acc (ix2 k l) + term m c t k l := by
  rw [← part m c t k l]
  unfold k0_pay3
  pointwise

/-- The running sum at a run's last point. -/
theorem scr (c : Dev nD) (t : Fin cfg0.N) (ht : t.val % 8 = 7) (k : Fin 512) (l : Fin 1024) :
    (outsAt0 m c t.val t.isLt).2 (ix2 k l)
      = ∑ s : Fin 8, term m c ⟨8 * (t.val / 8) + s.val, Pipeline.run_point_lt_of_flush t ht s⟩ k l := by
  rw [Pipeline.eq_sum_fin_of_reset_step_apply_of_flush (fun n h => (outsAt0 m c n h).2) 8 (fun _ => (0 : EReal))
    (fun t i => term m c t (i 0) (i 1))
    (fun t h i => by
      rw [outsAt0_A m c t h (by omega) (by omega)]; frame_out
      idx_vars i
      exact pay2 m c t _ _)
    (fun t h i => by
      by_cases h' : t.val % 8 = 7
      · rw [outsAt0_C m c t h (by omega) h']; frame_out
        idx_vars i
        rw [read_unread_whole]
        exact pay3 m c t _ _ _
      · rw [outsAt0_B m c t h (by omega) h']; frame_out
        idx_vars i
        rw [read_unread_whole]
        exact pay3 m c t _ _ _) t ht (ix2 k l), zero_add]
  rfl

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The run's rows are all rows. -/
theorem run_sum (c : Dev nD) (t : Fin cfg0.N) (ht : t.val % 8 = 7) (k : Fin 512) (l : Fin 1024) :
    ∑ s : Fin 8, term m c ⟨8 * (t.val / 8) + s.val, Pipeline.run_point_lt_of_flush t ht s⟩ k l
      = ∑ R : Fin 16384, rhs m c R l * lhs m c R (col t k) := by
  unfold term
  refine Fin.sum_mul_add_congr fun s r h => ?_
  rw [mul_comm]
  have h8 := s.isLt
  have er : row ⟨8 * (t.val / 8) + s.val, Pipeline.run_point_lt_of_flush t ht s⟩ r = ⟨s.val * 2048 + r.val, h⟩ := Fin.ext (by
    show 2048 * ((8 * (t.val / 8) + s.val) % 8) + r.val = s.val * 2048 + r.val
    omega)
  have ec : col ⟨8 * (t.val / 8) + s.val, Pipeline.run_point_lt_of_flush t ht s⟩ k = col t k := Fin.ext (by
    show 512 * ((8 * (t.val / 8) + s.val) / 8) + k.val = 512 * (t.val / 8) + k.val
    omega)
  rw [er, ec]

/-- The reference's gradient, of the arguments. -/
abbrev ref (c : Dev nD) := val_main_v5 (F := Ideal) (m ((c.tc : Thread nD τ).loc main_arg0)) (m ((c.tc : Thread nD τ).loc main_arg2))

/-- The reference's gradient at an entry. -/
theorem ref_eq (c : Dev nD) (k : Fin 1024) (l : Fin 1024) :
    ref m c (ix2 k l) = ∑ R : Fin 16384, rhs m c R l * lhs m c R k := by
  unfold ref lhs rhs
  pointwise [val_main_v5, val_main_v4, val_main_v3, val_main_v2, val_main_v0]

/-- The gradient after the run, from what every run's last point leaves. -/
theorem arr_of (c : Dev nD) (G : S1024x1024.Idx → EReal)
    (hG : ∀ (t : Fin cfg0.N), t.val % 8 = 7 → ∀ (k : Fin 512) (l : Fin 1024), (outsAt0 m c t.val t.isLt).1 (ix2 k l) = G (ix2 (col t k) l)) :
    (dats m 0 c).arrAt 2 cfg0.N = G := by
  refine (dats m 0 c).arrAt_eq_of_covers 2 _ (by decide +kernel) fun t hf y => ?_
  have ht : t.val % 8 = 7 := (flush0_2 t).mp hf
  blk_simp
  rw [after0_2]
  obtain ⟨k, l, rfl⟩ : ∃ (k : Fin 512) (l : Fin 1024), y = ix2 k l := ⟨y 0, y 1, by blk_ext []⟩
  have e : (win0_2.blk t).view.emb (ix2 k l) = ix2 (col t k) l := by blk_ext [idx t, col_val]
  rw [e]
  exact hG t ht k l

theorem arr (c : Dev nD) : (dats m 0 c).arrAt 2 cfg0.N = ref m c :=
  arr_of m c _ fun t ht k l => by rw [out_eq m c t ht, scr m c t ht, run_sum m c t ht, ref_eq]

/-- The call's result is the reference's. -/
theorem algebraic : Cert.algebraic_Kernel12Ideal_Reference12Ideal := fun m g m' g' _ e =>
  ⟨fun c => ref m c,
    (θ_run (Cert.Kernel12Ideal.defs (F := Ideal)) _ _).mono (fun _ h c => ⟨(h c).1.trans (arr m c), (h c).2⟩) (Cert.Kernel12Ideal.Value.run_blocks m g),
    (θ_run Cert.Reference12Ideal.defs _ _).mono (fun _ h c => by
      obtain ⟨e0, e1, e2⟩ := e c
      refine ⟨(h c).1.trans ((val_main_v5_eq _ _).trans ?_), (h c).2⟩
      rw [e0, e2]) (Cert.Reference12Ideal.Value.run m' g')⟩

end Cert.Kernel12Ideal.Val

end
-- ==== Proof.Calls.WpbGrad.lean ====
module

public import proofs.«01_k».proof.Defs
public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel13Ideal.Val

open Cert.Kernel13Ideal Cert.Kernel13Ideal.Gen Idealize.ShloMosaic Idealize.ShloMosaic.TcCoe Idealize.SL.Sem
open Cert.Reference13Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The row of the factors that row `r` of grid point `t`'s blocks is. -/
def row (t : Fin cfg0.N) (r : Fin 2048) : Fin 16384 :=
  ⟨2048 * (t.val % 8) + r.val, by omega⟩

/-- The row of the gradient that row `k` of grid point `t`'s output block is: the left factor's column. -/
def col (t : Fin cfg0.N) (k : Fin 512) : Fin 1024 :=
  ⟨512 * (t.val / 8) + k.val, by have h := t.isLt; have h' : cfg0.N = 16 := rfl; omega⟩

theorem row_val (t : Fin cfg0.N) (r : Fin 2048) : (row t r).val = 2048 * (t.val % 8) + r.val := rfl

theorem col_val (t : Fin cfg0.N) (k : Fin 512) : (col t k).val = 512 * (t.val / 8) + k.val := rfl

theorem b0 (c : Dev nD) (t : Fin cfg0.N) (r : Fin 2048) (k : Fin 512) :
    iblk m c 0 t (ix2 r k) = m ((c.tc : Thread nD τ).loc main_arg0) (ix2 (row t r) (col t k)) := by
  blk_ext [iblk, V, idx t, row_val, col_val]

theorem b1 (c : Dev nD) (t : Fin cfg0.N) (r : Fin 2048) (l : Fin 1024) :
    iblk m c 1 t (ix2 r l) = m ((c.tc : Thread nD τ).loc main_arg2) (ix2 (row t r) l) := by
  blk_ext [iblk, V, idx t, row_val]

/-- The factors' entries as reals. -/
def lhs (c : Dev nD) (R : Fin 16384) (k : Fin 1024) : EReal := m ((c.tc : Thread nD τ).loc main_arg0) (ix2 R k)

def rhs (c : Dev nD) (R : Fin 16384) (l : Fin 1024) : EReal := m ((c.tc : Thread nD τ).loc main_arg2) (ix2 R l)

/-- What a grid point adds to entry `(k, l)` of its block. -/
def term (c : Dev nD) (t : Fin cfg0.N) (k : Fin 512) (l : Fin 1024) : EReal :=
  ∑ r : Fin 2048, lhs m c (row t r) (col t k) * rhs m c (row t r) l

theorem part (c : Dev nD) (t : Fin cfg0.N) (k : Fin 512) (l : Fin 1024) :
    k0_pay1 (iblk m c 0 t) (iblk m c 1 t) (ix2 k l) = term m c t k l := by
  unfold term lhs rhs
  unfold_payloads
  pointwise
  simp only [b0, b1]

/-- The first point of a run starts the running sum. -/
theorem pay2 (c : Dev nD) (t : Fin cfg0.N) (k : Fin 512) (l : Fin 1024) :
    k0_pay2 (iblk m c 0 t) (iblk m c 1 t) (ix2 k l) = 0 + term m c t k l := by
  rw [← part m c t k l, zero_add]
  unfold k0_pay2
  pointwise

/-- Every further point adds its term. -/
theorem pay3 (c : Dev nD) (t : Fin cfg0.N) (acc : Vec Ideal S512x1024 .f32) (k : Fin 512) (l : Fin 1024) :
    k0_pay3 (iblk m c 0 t) (iblk m c 1 t) acc (ix2 k l) = acc (ix2 k l) + term m c t k l := by
  rw [← part m c t k l]
  unfold k0_pay3
  pointwise

/-- The running sum at a run's last point. -/
theorem scr (c : Dev nD) (t : Fin cfg0.N) (ht : t.val % 8 = 7) (k : Fin 512) (l : Fin 1024) :
    (outsAt0 m c t.val t.isLt).2 (ix2 k l)
      = ∑ s : Fin 8, term m c ⟨8 * (t.val / 8) + s.val, Pipeline.run_point_lt_of_flush t ht s⟩ k l := by
  rw [Pipeline.eq_sum_fin_of_reset_step_apply_of_flush (fun n h => (outsAt0 m c n h).2) 8 (fun _ => (0 : EReal))
    (fun t i => term m c t (i 0) (i 1))
    (fun t h i => by
      rw [outsAt0_A m c t h (by omega) (by omega)]; frame_out
      idx_vars i
      exact pay2 m c t _ _)
    (fun t h i => by
      by_cases h' : t.val % 8 = 7
      · rw [outsAt0_C m c t h (by omega) h']; frame_out
        idx_vars i
        rw [read_unread_whole]
        exact pay3 m c t _ _ _
      · rw [outsAt0_B m c t h (by omega) h']; frame_out
        idx_vars i
        rw [read_unread_whole]
        exact pay3 m c t _ _ _) t ht (ix2 k l), zero_add]
  rfl

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The run's rows are all rows. -/
theorem run_sum (c : Dev nD) (t : Fin cfg0.N) (ht : t.val % 8 = 7) (k : Fin 512) (l : Fin 1024) :
    ∑ s : Fin 8, term m c ⟨8 * (t.val / 8) + s.val, Pipeline.run_point_lt_of_flush t ht s⟩ k l
      = ∑ R : Fin 16384, rhs m c R l * lhs m c R (col t k) := by
  unfold term
  refine Fin.sum_mul_add_congr fun s r h => ?_
  rw [mul_comm]
  have h8 := s.isLt
  have er : row ⟨8 * (t.val / 8) + s.val, Pipeline.run_point_lt_of_flush t ht s⟩ r = ⟨s.val * 2048 + r.val, h⟩ := Fin.ext (by
    show 2048 * ((8 * (t.val / 8) + s.val) % 8) + r.val = s.val * 2048 + r.val
    omega)
  have ec : col ⟨8 * (t.val / 8) + s.val, Pipeline.run_point_lt_of_flush t ht s⟩ k = col t k := Fin.ext (by
    show 512 * ((8 * (t.val / 8) + s.val) / 8) + k.val = 512 * (t.val / 8) + k.val
    omega)
  rw [er, ec]

/-- The reference's gradient, of the arguments. -/
abbrev ref (c : Dev nD) := val_main_v5 (F := Ideal) (m ((c.tc : Thread nD τ).loc main_arg0)) (m ((c.tc : Thread nD τ).loc main_arg2))

/-- The reference's gradient at an entry. -/
theorem ref_eq (c : Dev nD) (k : Fin 1024) (l : Fin 1024) :
    ref m c (ix2 k l) = ∑ R : Fin 16384, rhs m c R l * lhs m c R k := by
  unfold ref lhs rhs
  pointwise [val_main_v5, val_main_v4, val_main_v3, val_main_v2, val_main_v0]

/-- The gradient after the run, from what every run's last point leaves. -/
theorem arr_of (c : Dev nD) (G : S1024x1024.Idx → EReal)
    (hG : ∀ (t : Fin cfg0.N), t.val % 8 = 7 → ∀ (k : Fin 512) (l : Fin 1024), (outsAt0 m c t.val t.isLt).1 (ix2 k l) = G (ix2 (col t k) l)) :
    (dats m 0 c).arrAt 2 cfg0.N = G := by
  refine (dats m 0 c).arrAt_eq_of_covers 2 _ (by decide +kernel) fun t hf y => ?_
  have ht : t.val % 8 = 7 := (flush0_2 t).mp hf
  blk_simp
  rw [after0_2]
  obtain ⟨k, l, rfl⟩ : ∃ (k : Fin 512) (l : Fin 1024), y = ix2 k l := ⟨y 0, y 1, by blk_ext []⟩
  have e : (win0_2.blk t).view.emb (ix2 k l) = ix2 (col t k) l := by blk_ext [idx t, col_val]
  rw [e]
  exact hG t ht k l

theorem arr (c : Dev nD) : (dats m 0 c).arrAt 2 cfg0.N = ref m c :=
  arr_of m c _ fun t ht k l => by rw [out_eq m c t ht, scr m c t ht, run_sum m c t ht, ref_eq]

/-- The call's result is the reference's. -/
theorem algebraic : Cert.algebraic_Kernel13Ideal_Reference13Ideal := fun m g m' g' _ e =>
  ⟨fun c => ref m c,
    (θ_run (Cert.Kernel13Ideal.defs (F := Ideal)) _ _).mono (fun _ h c => ⟨(h c).1.trans (arr m c), (h c).2⟩) (Cert.Kernel13Ideal.Value.run_blocks m g),
    (θ_run Cert.Reference13Ideal.defs _ _).mono (fun _ h c => by
      obtain ⟨e0, e1, e2⟩ := e c
      refine ⟨(h c).1.trans ((val_main_v5_eq _ _).trans ?_), (h c).2⟩
      rw [e0, e2]) (Cert.Reference13Ideal.Value.run m' g')⟩

end Cert.Kernel13Ideal.Val

end
-- ==== Proof.Calls.Adamw.lean ====
/- The optimiser's call, at each of the seven shapes it is made at: the kernel multiplies the moments by named scales
   where the reference divides them by literals, and the scales are those literals' reciprocals. -/
module

public import proofs.«01_k».proof.Defs
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel16Ideal.Value
public import proofs.«01_k».proof.Proof.Gen.Reference16Ideal.Run
public import proofs.«01_k».proof.Proof.Gen.Kernel17Ideal.Value
public import proofs.«01_k».proof.Proof.Gen.Reference17Ideal.Run
public import proofs.«01_k».proof.Proof.Gen.Kernel18Ideal.Value
public import proofs.«01_k».proof.Proof.Gen.Reference18Ideal.Run
public import proofs.«01_k».proof.Proof.Gen.Kernel19Ideal.Value
public import proofs.«01_k».proof.Proof.Gen.Reference19Ideal.Run
public import proofs.«01_k».proof.Proof.Gen.Kernel20Ideal.Value
public import proofs.«01_k».proof.Proof.Gen.Reference20Ideal.Run

@[expose] public section

noncomputable section

open Idealize.ShloMosaic

namespace Cert.Adamw

/-- The literal by which the reference divides the first moment. -/
theorem m_lit : Ideal.ofBits .f32 0x3F26BD02#32 = ((5463681 / 8388608 : ℝ) : EReal) := by
  simp [Ideal.ofBits, Ideal.ieee, -EReal.coe_mul]; norm_num

/-- The literal by which the reference divides the second moment. -/
theorem v_lit : Ideal.ofBits .f32 0x3C231ACC#32 = ((2672307 / 268435456 : ℝ) : EReal) := by
  simp [Ideal.ofBits, Ideal.ieee, -EReal.coe_mul]; norm_num

variable (κ : String → Option EReal)

/-- Multiplying by the first scale is dividing by the first literal. -/
theorem m_scale (hm : κ "m_scale" = some ((8388608 / 5463681 : ℝ) : EReal)) (x : EReal) :
    x * Named.named (F := Ideal) (φ := .f32) κ "m_scale" 0x3FC48605#32 = Ideal.div x (Ideal.ofBits .f32 0x3F26BD02#32) := by
  rw [m_lit, Ideal.div_coe (by norm_num), IdealRules.named_const.ideal_named_scalar κ _ _ _ hm]
  norm_num

/-- Multiplying by the second scale is dividing by the second literal. -/
theorem v_scale (hv : κ "v_scale" = some ((268435456 / 2672307 : ℝ) : EReal)) (x : EReal) :
    x * Named.named (F := Ideal) (φ := .f32) κ "v_scale" 0x42C8E6D3#32 = Ideal.div x (Ideal.ofBits .f32 0x3C231ACC#32) := by
  rw [v_lit, Ideal.div_coe (by norm_num), IdealRules.named_const.ideal_named_scalar κ _ _ _ hv]
  norm_num

/-- The update of one weight from its moments `p` and `q` and its decay `w`, in the kernel's form and in the reference's. -/
theorem delta (hm : κ "m_scale" = some ((8388608 / 5463681 : ℝ) : EReal)) (hv : κ "v_scale" = some ((268435456 / 2672307 : ℝ) : EReal))
    (r p q s w : EReal) :
    r * (Ideal.div (p * Named.named (F := Ideal) (φ := .f32) κ "m_scale" 0x3FC48605#32)
        (Ideal.sqrt (q * Named.named (F := Ideal) (φ := .f32) κ "v_scale" 0x42C8E6D3#32) + s) + w)
      = r * (Ideal.div (Ideal.div p (Ideal.ofBits .f32 0x3F26BD02#32))
        (Ideal.sqrt (Ideal.div q (Ideal.ofBits .f32 0x3C231ACC#32)) + s) + w) := by
  rw [m_scale κ hm, v_scale κ hv]

end Cert.Adamw

namespace Cert.Kernel14Ideal.Val

open Cert.Kernel14Ideal.Value

/-- The two scales' names, at the `[4, 1024]` blocks, of `norm1`, `lb_logits`, `hg_norm` and `norm2`. -/
theorem preserves : Cert.preserves_Kernel14_Kernel14Ideal :=
  ⟨IdealRules.named_const.statement κ "m_scale" .f32 _ _ rfl, IdealRules.named_const.statement κ "v_scale" .f32 _ _ rfl⟩

/-- The call's three results are the reference's. -/
theorem algebraic : Cert.algebraic_Kernel14Ideal_Reference14Ideal := fun m g m' g' _ e =>
  ⟨_, _, _, run m g, (θ_run Cert.Reference14Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference14Ideal.Value.run m' g')⟩

end Cert.Kernel14Ideal.Val

namespace Cert.Kernel15Ideal.Val

open Cert.Kernel15Ideal.Value

/-- The two scales' names, at the `[4096, 960]` block, of `w_in`. -/
theorem preserves : Cert.preserves_Kernel15_Kernel15Ideal :=
  ⟨IdealRules.named_const.statement κ "m_scale" .f32 _ _ rfl, IdealRules.named_const.statement κ "v_scale" .f32 _ _ rfl⟩

/-- The call's three results are the reference's. -/
theorem algebraic : Cert.algebraic_Kernel15Ideal_Reference15Ideal := fun m g m' g' _ e =>
  ⟨_, _, _, run m g, (θ_run Cert.Reference15Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference15Ideal.Value.run m' g')⟩

end Cert.Kernel15Ideal.Val

namespace Cert.Kernel16Ideal.Val

open Cert.Kernel16Ideal.Value

/-- The two scales' names, at the `[4, 16]` block, of `attn_sinks`. -/
theorem preserves : Cert.preserves_Kernel16_Kernel16Ideal :=
  ⟨IdealRules.named_const.statement κ "m_scale" .f32 _ _ rfl, IdealRules.named_const.statement κ "v_scale" .f32 _ _ rfl⟩

/-- The call's three results are the reference's. -/
theorem algebraic : Cert.algebraic_Kernel16Ideal_Reference16Ideal := fun m g m' g' _ e =>
  ⟨_, _, _, run m g, (θ_run Cert.Reference16Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference16Ideal.Value.run m' g')⟩

end Cert.Kernel16Ideal.Val

namespace Cert.Kernel17Ideal.Val

open Cert.Kernel17Ideal.Value

/-- The two scales' names, at the `[512, 1024]` blocks, of `w_pa`, `w_pb` and `w_o`. -/
theorem preserves : Cert.preserves_Kernel17_Kernel17Ideal :=
  ⟨IdealRules.named_const.statement κ "m_scale" .f32 _ _ rfl, IdealRules.named_const.statement κ "v_scale" .f32 _ _ rfl⟩

/-- The call's three results are the reference's. -/
theorem algebraic : Cert.algebraic_Kernel17Ideal_Reference17Ideal := fun m g m' g' _ e =>
  ⟨_, _, _, run m g, (θ_run Cert.Reference17Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference17Ideal.Value.run m' g')⟩

end Cert.Kernel17Ideal.Val

namespace Cert.Kernel18Ideal.Val

open Cert.Kernel18Ideal.Value

/-- The two scales' names, at the `[4096, 352]` blocks, of `w_gate` and `w_up`. -/
theorem preserves : Cert.preserves_Kernel18_Kernel18Ideal :=
  ⟨IdealRules.named_const.statement κ "m_scale" .f32 _ _ rfl, IdealRules.named_const.statement κ "v_scale" .f32 _ _ rfl⟩

/-- The call's three results are the reference's. -/
theorem algebraic : Cert.algebraic_Kernel18Ideal_Reference18Ideal := fun m g m' g' _ e =>
  ⟨_, _, _, run m g, (θ_run Cert.Reference18Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference18Ideal.Value.run m' g')⟩

end Cert.Kernel18Ideal.Val

namespace Cert.Kernel19Ideal.Val

open Cert.Kernel19Ideal.Value

/-- The two scales' names, at the `[1408, 1024]` block, of `w_down`. -/
theorem preserves : Cert.preserves_Kernel19_Kernel19Ideal :=
  ⟨IdealRules.named_const.statement κ "m_scale" .f32 _ _ rfl, IdealRules.named_const.statement κ "v_scale" .f32 _ _ rfl⟩

/-- The call's three results are the reference's. -/
theorem algebraic : Cert.algebraic_Kernel19Ideal_Reference19Ideal := fun m g m' g' _ e =>
  ⟨_, _, _, run m g, (θ_run Cert.Reference19Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference19Ideal.Value.run m' g')⟩

end Cert.Kernel19Ideal.Val

namespace Cert.Kernel20Ideal.Val

open Cert.Kernel20Ideal.Value

/-- The two scales' names, at the `[1, 1024]` block, of `final_norm`. -/
theorem preserves : Cert.preserves_Kernel20_Kernel20Ideal :=
  ⟨IdealRules.named_const.statement κ "m_scale" .f32 _ _ rfl, IdealRules.named_const.statement κ "v_scale" .f32 _ _ rfl⟩

/-- The call's three results are the reference's. -/
theorem algebraic : Cert.algebraic_Kernel20Ideal_Reference20Ideal := fun m g m' g' _ e =>
  ⟨_, _, _, run m g, (θ_run Cert.Reference20Ideal.defs _ _).mono (fun _ h c => by
    obtain ⟨e0, e1, e2, e3⟩ := e c
    obtain ⟨h0, h1, h2, h3⟩ := h c
    rw [e0, e1, e2, e3] at h0
    rw [e1, e2] at h1
    rw [e1, e3] at h2
    exact ⟨h0.trans (funext fun i => (Cert.Adamw.delta κ rfl rfl _ _ _ _ _).symm), h1, h2, h3⟩) (Cert.Reference20Ideal.Value.run m' g')⟩

end Cert.Kernel20Ideal.Val

end
-- ==== Proof.Calls.SumSlots.lean ====
/- The sum of the eight devices' parts of a gradient, at the two shapes in which they arrive. -/
module

public import proofs.«01_k».proof.Defs
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

open Idealize.ShloMosaic

namespace Cert.SumSlots

/-- Eight parts added one by one are their sum, started at the number zero. -/
theorem eight (f : Fin 8 → EReal) :
    f 0 + f 1 + f 2 + f 3 + f 4 + f 5 + f 6 + f 7 = (FloatOps.ofBits .f32 0#32 : Ideal .f32) + ∑ k : Fin 8, f k := by
  have z : (FloatOps.ofBits .f32 0#32 : Ideal .f32) = (0 : EReal) := by
    show Ideal.ofBits .f32 0#32 = 0
    simp [Ideal.ofBits, Ideal.ieee]
  rw [z, zero_add]
  simp only [Fin.sum_univ_eight]

end Cert.SumSlots

namespace Cert.Kernel21Ideal.Val

open Cert.Kernel21Ideal Cert.Kernel21Ideal.Gen Idealize.ShloMosaic Idealize.ShloMosaic.TcCoe Idealize.SL.Sem
open Cert.Reference21Ideal.Read
open Idealize.ShloMosaic.Pipeline (Dat)

variable (m : (ℓ : Loc nD τ sig) → Buf (Elt Ideal) ℓ)

/-- Which block of each array a grid point stages. -/
theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

/-- The row of the sum that row `r` of grid point `t`'s block is. -/
def row (t : Fin cfg0.N) (r : Fin 480) : Fin 960 :=
  ⟨480 * t.val + r.val, by have h := t.isLt; have h' : cfg0.N = 2 := rfl; omega⟩

theorem row_val (t : Fin cfg0.N) (r : Fin 480) : (row t r).val = 480 * t.val + r.val := rfl

theorem b0 (c : Dev nD) (t : Fin cfg0.N) (k : Fin 8) (r : Fin 480) (l : Fin 1024) :
    iblk m c 0 t (ix3 k r l) = m ((c.tc : Thread nD τ).loc main_arg0) (ix3 k (row t r) l) := by
  blk_ext [iblk, V, idx t, row_val]

/-- The reference's sum, of the argument. -/
abbrev ref (c : Dev nD) := val_main_v1 (F := Ideal) (m ((c.tc : Thread nD τ).loc main_arg0))

theorem out_eq (c : Dev nD) (t : Fin cfg0.N) (r : Fin 480) (l : Fin 1024) :
    out0_1 (iblk m c 0 t) (ix2 r l) = ref m c (ix2 (row t r) l) := by
  frame_out
  unfold ref
  unfold_payloads
  pointwise [val_main_v1, val_main_v0]
  simp only [b0]
  exact Cert.SumSlots.eight fun k => m ((c.tc : Thread nD τ).loc main_arg0) (ix3 k (row t r) l)

/-- The sum after the run. -/
theorem arr (c : Dev nD) : (dats m 0 c).arrAt 1 cfg0.N = ref m c := by
  refine (dats m 0 c).arrAt_eq_of_covers 1 _ (by decide +kernel) fun t hf y => ?_
  blk_simp
  rw [after0_1]
  obtain ⟨r, l, rfl⟩ : ∃ (r : Fin 480) (l : Fin 1024), y = ix2 r l := ⟨y 0, y 1, by blk_ext []⟩
  have e : (win0_1.blk t).view.emb (ix2 r l) = ix2 (row t r) l := by blk_ext [idx t, row_val]
  rw [e]
  exact out_eq m c t r l

/-- The call's result is the reference's. -/
theorem algebraic : Cert.algebraic_Kernel21Ideal_Reference21Ideal := fun m g m' g' _ e =>
  ⟨fun c => ref m c,
    (θ_run (Cert.Kernel21Ideal.defs (F := Ideal)) _ _).mono (fun _ h c => ⟨(h c).1.trans (arr m c), (h c).2⟩) (Cert.Kernel21Ideal.Value.run_blocks m g),
    (θ_run Cert.Reference21Ideal.defs _ _).mono (fun _ h c => by
      refine ⟨(h c).1.trans ((val_main_v1_eq _).trans ?_), (h c).2⟩
      rw [e c]) (Cert.Reference21Ideal.Value.run m' g')⟩

end Cert.Kernel21Ideal.Val

namespace Cert.Kernel22Ideal.Val

open Cert.Kernel22Ideal Cert.Kernel22Ideal.Gen Idealize.ShloMosaic Idealize.ShloMosaic.TcCoe Idealize.SL.Sem
open Cert.Reference22Ideal.Read
open Idealize.ShloMosaic.Pipeline (Dat)

variable (m : (ℓ : Loc nD τ sig) → Buf (Elt Ideal) ℓ)

/-- Which block of each array a grid point stages. -/
theorem idx : ∀ t : Fin cfg0.N, win0_0.index t = ![0, t.val, 0] ∧ win0_1.index t = ![t.val, 0] :=
  (by decide +kernel : ∀ t : Fin grid0.N, win0_0.index t = ![0, t.val, 0] ∧ win0_1.index t = ![t.val, 0])

/-- The row of the sum that row `r` of grid point `t`'s block is. -/
def row (t : Fin cfg0.N) (r : Fin 480) : Fin 1440 :=
  ⟨480 * t.val + r.val, by have h := t.isLt; have h' : cfg0.N = 3 := rfl; omega⟩

theorem row_val (t : Fin cfg0.N) (r : Fin 480) : (row t r).val = 480 * t.val + r.val := rfl

theorem b0 (c : Dev nD) (t : Fin cfg0.N) (k : Fin 8) (r : Fin 480) (l : Fin 1024) :
    iblk m c 0 t (ix3 k r l) = m ((c.tc : Thread nD τ).loc main_arg0) (ix3 k (row t r) l) := by
  blk_ext [iblk, V, idx t, row_val]

/-- The reference's sum, of the argument. -/
abbrev ref (c : Dev nD) := val_main_v1 (F := Ideal) (m ((c.tc : Thread nD τ).loc main_arg0))

theorem out_eq (c : Dev nD) (t : Fin cfg0.N) (r : Fin 480) (l : Fin 1024) :
    out0_1 (iblk m c 0 t) (ix2 r l) = ref m c (ix2 (row t r) l) := by
  frame_out
  unfold ref
  unfold_payloads
  pointwise [val_main_v1, val_main_v0]
  simp only [b0]
  exact Cert.SumSlots.eight fun k => m ((c.tc : Thread nD τ).loc main_arg0) (ix3 k (row t r) l)

/-- The sum after the run. -/
theorem arr (c : Dev nD) : (dats m 0 c).arrAt 1 cfg0.N = ref m c := by
  refine (dats m 0 c).arrAt_eq_of_covers 1 _ (by decide +kernel) fun t hf y => ?_
  blk_simp
  rw [after0_1]
  obtain ⟨r, l, rfl⟩ : ∃ (r : Fin 480) (l : Fin 1024), y = ix2 r l := ⟨y 0, y 1, by blk_ext []⟩
  have e : (win0_1.blk t).view.emb (ix2 r l) = ix2 (row t r) l := by blk_ext [idx t, row_val]
  rw [e]
  exact out_eq m c t r l

/-- The call's result is the reference's. -/
theorem algebraic : Cert.algebraic_Kernel22Ideal_Reference22Ideal := fun m g m' g' _ e =>
  ⟨fun c => ref m c,
    (θ_run (Cert.Kernel22Ideal.defs (F := Ideal)) _ _).mono (fun _ h c => ⟨(h c).1.trans (arr m c), (h c).2⟩) (Cert.Kernel22Ideal.Value.run_blocks m g),
    (θ_run Cert.Reference22Ideal.defs _ _).mono (fun _ h c => by
      refine ⟨(h c).1.trans ((val_main_v1_eq _).trans ?_), (h c).2⟩
      rw [e c]) (Cert.Reference22Ideal.Value.run m' g')⟩

end Cert.Kernel22Ideal.Val

end
-- ==== Proof.Calls.LbBwd.lean ====
/- The gradient of lb_logits through the cumulative sum and the softmax over the four layers. -/
module

public import proofs.«01_k».proof.Defs
public import proofs.«01_k».proof.Proof.Gen.Kernel23Ideal.Value
public import proofs.«01_k».proof.Proof.Gen.Reference23Ideal.Read
public import proofs.«01_k».proof.Proof.Gen.Pre_finite_lb
public import proofs.«01_k».proof.Proof.Calls.Finite
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384
set_option maxHeartbeats 1000000

noncomputable section

open Idealize.ShloMosaic

namespace Cert.Lb

/-- The sum of a column's exponentials, as the kernel adds it. -/
def total (e : Fin 4 → EReal) : EReal := e 0 + e 1 + e 2 + e 3

/-- The gradient of the softmax's rows, from the gradient of the bounds, as the kernel adds it. -/
def soft (d : Fin 4 → EReal) : Fin 4 → EReal :=
  ![0 - d 3 + (0 - d 2) + (0 - d 1) + d 0 + (0 - d 0) + (d 1 + (d 2 + d 3)), d 1 + (d 2 + d 3), d 2 + d 3, d 3]

/-- What reaches every exponential through the sum. -/
def through (e d : Fin 4 → EReal) : EReal :=
  0 - soft d 3 * Ideal.div 1 (total e * total e) * e 3 + (0 - soft d 2 * Ideal.div 1 (total e * total e) * e 2)
    + (0 - soft d 1 * Ideal.div 1 (total e * total e) * e 1) + (0 - soft d 0 * Ideal.div 1 (total e * total e) * e 0)

/-- The gradient of one row's logit, without the part through the maximum. -/
def part (e d : Fin 4 → EReal) (k : Fin 4) : EReal := (Ideal.div (soft d k) (total e) + through e d) * e k

/-- The gradient of the maximum. -/
def top (e d : Fin 4 → EReal) : EReal := 0 - part e d 3 + (0 - part e d 2) + (0 - part e d 1) + (0 - part e d 0)

/-- The same of real numbers: the gradient of the softmax's rows, -/
def softR (d : Fin 4 → ℝ) : Fin 4 → ℝ := ![0, d 1 + (d 2 + d 3), d 2 + d 3, d 3]

/-- and the gradient of one row's logit. -/
def partR (r d : Fin 4 → ℝ) (k : Fin 4) : ℝ :=
  (softR d k * (∑ j, r j)⁻¹ - (∑ j, softR d j * r j) * ((∑ j, r j)⁻¹ * (∑ j, r j)⁻¹)) * r k

theorem soft_coe (d : Fin 4 → ℝ) (k : Fin 4) : soft (fun j => d j) k = softR d k := by
  fin_cases k
  · show (0 - (d 3 : EReal) + (0 - d 2) + (0 - d 1) + d 0 + (0 - d 0) + (d 1 + (d 2 + d 3))) = ((0 : ℝ) : EReal)
    norm_cast
    ring
  · show ((d 1 : EReal) + (d 2 + d 3)) = ((d 1 + (d 2 + d 3) : ℝ) : EReal)
    norm_cast
  · show ((d 2 : EReal) + d 3) = ((d 2 + d 3 : ℝ) : EReal)
    norm_cast
  · rfl

theorem total_coe (r : Fin 4 → ℝ) : total (fun j => r j) = ((∑ j, r j : ℝ) : EReal) := by
  simp only [total, Fin.sum_univ_four, EReal.coe_add]

theorem all_zero {r : Fin 4 → ℝ} (hr : ∀ k, 0 ≤ r k) (h : ∑ j, r j = 0) (k : Fin 4) : r k = 0 :=
  (Finset.sum_eq_zero_iff_of_nonneg fun k _ => hr k).1 h k (Finset.mem_univ k)

theorem div_real {y : ℝ} (h : y ≠ 0) (x : ℝ) : Ideal.div x (y : EReal) = ((x * y⁻¹ : ℝ) : EReal) := by
  rw [Ideal.div_coe h, one_div, EReal.coe_mul]

/-- The kernel's row, of real gradients. -/
theorem part_coe {r : Fin 4 → ℝ} (hr : ∀ k, 0 ≤ r k) (d : Fin 4 → ℝ) (k : Fin 4) :
    part (fun j => r j) (fun j => d j) k = partR r d k := by
  by_cases h : ∑ j, r j = 0
  · simp only [part, partR, all_zero hr h k, EReal.coe_zero, mul_zero]
  · have h2 : (∑ j, r j) * (∑ j, r j) ≠ 0 := mul_ne_zero h h
    simp only [part, through, soft_coe, total_coe]
    rw [← EReal.coe_mul, ← EReal.coe_one, div_real h, div_real h2, ← EReal.coe_zero]
    norm_cast
    simp only [partR]
    rw [Fin.sum_univ_four (fun j => softR d j * r j), mul_inv]
    ring

/-- Nothing goes through the maximum. -/
theorem top_coe {r : Fin 4 → ℝ} (hr : ∀ k, 0 ≤ r k) (d : Fin 4 → ℝ) : top (fun j => r j) (fun j => d j) = 0 := by
  simp only [top, part_coe hr]
  rw [← EReal.coe_zero]
  norm_cast
  by_cases h : ∑ j, r j = 0
  · simp only [partR, all_zero hr h, mul_zero, sub_zero, add_zero]
  · have e : partR r d 0 + partR r d 1 + partR r d 2 + partR r d 3 = 0 := by
      simp only [partR]
      have s := Fin.sum_univ_four r
      generalize ∑ j, r j = S at *
      rw [Fin.sum_univ_four]
      have i : S * S⁻¹ = 1 := mul_inv_cancel₀ h
      linear_combination (-(softR d 0 * r 0 + softR d 1 * r 1 + softR d 2 * r 2 + softR d 3 * r 3) * S⁻¹ * S⁻¹) * (-s) + (softR d 0 * r 0 + softR d 1 * r 1 + softR d 2 * r 2 + softR d 3 * r 3) * S⁻¹ * (-i)
    linarith

/-- A row with what the kernel sends through the maximum. -/
theorem row {r : Fin 4 → ℝ} (hr : ∀ k, 0 ≤ r k) (d : Fin 4 → ℝ) (k : Fin 4) (w w' : EReal) :
    part (fun j => r j) (fun j => d j) k + top (fun j => r j) (fun j => d j) * w * w' = partR r d k := by
  rw [top_coe hr, zero_mul, zero_mul, add_zero, part_coe hr]

/-- The reference's row. -/
theorem ref_row {r : Fin 4 → ℝ} (hr : ∀ k, 0 ≤ r k) (d : Fin 4 → ℝ) (k : Fin 4) :
    (Ideal.div (softR d k) (∑ j, (r j : EReal)) + ∑ _i : Fin 1, -∑ j, (softR d j : EReal)
        * Ideal.div 1 ((∑ j, (r j : EReal)) * ∑ j, (r j : EReal)) * r j) * r k = partR r d k := by
  by_cases h : ∑ j, r j = 0
  · simp only [partR, all_zero hr h k, EReal.coe_zero, mul_zero]
  · have h2 : (∑ j, r j) * (∑ j, r j) ≠ 0 := mul_ne_zero h h
    have s : ∑ j, (r j : EReal) = ((∑ j, r j : ℝ) : EReal) := by simp only [Fin.sum_univ_four, EReal.coe_add]
    simp only [s, Fin.sum_univ_one, Fin.sum_univ_four (fun j => (softR d j : EReal) * _ * _)]
    rw [← EReal.coe_mul, ← EReal.coe_one, div_real h, div_real h2]
    norm_cast
    simp only [partR]
    rw [Fin.sum_univ_four (fun j => softR d j * r j), mul_inv]
    ring

/-- The exponential of a value below another is a real number, at the infinities too. -/
theorem exp_sub {a M : EReal} (h : a ≤ M) : ∃ r : ℝ, 0 ≤ r ∧ Ideal.exp (a - M) = r := by
  induction M using EReal.rec with
  | bot =>
    obtain rfl : a = ⊥ := le_bot_iff.1 h
    exact ⟨0, le_rfl, rfl⟩
  | coe M =>
    induction a using EReal.rec with
    | bot => exact ⟨0, le_rfl, rfl⟩
    | coe a => exact ⟨Real.exp (a - M), (Real.exp_pos _).le, by rw [← EReal.coe_sub, Ideal.exp_coe]⟩
    | top => exact absurd (top_le_iff.1 h) (EReal.coe_ne_top M)
  | top => exact ⟨0, le_rfl, by rw [EReal.sub_top]; rfl⟩

/-- The literal minus infinity. -/
theorem lit_bot : Ideal.ofBits .f32 0xFF800000#32 = ⊥ := by simp [Ideal.ofBits, Ideal.ieee]

/-- The reference's maximum is the kernel's. -/
theorem max_eq (a : Fin 4 → EReal) : max ⊥ (Finset.fold max ⊥ a Finset.univ) = max (max (a 0) (a 1)) (max (a 2) (a 3)) := by
  rw [max_eq_right bot_le]
  refine le_antisymm ((Finset.fold_max_le _).2 ⟨bot_le, fun k _ => ?_⟩) ?_
  · fin_cases k <;> simp
  · have l : ∀ k, a k ≤ Finset.fold max ⊥ a Finset.univ := fun k => (Finset.le_fold_max _).2 (.inr ⟨k, Finset.mem_univ k, le_rfl⟩)
    exact max_le (max_le (l 0) (l 1)) (max_le (l 2) (l 3))

theorem le_max4 (a : Fin 4 → EReal) (k : Fin 4) : a k ≤ max (max (a 0) (a 1)) (max (a 2) (a 3)) := by
  fin_cases k <;> simp

end Cert.Lb

namespace Cert.Kernel23Ideal.Val

open Cert.Kernel23Ideal Cert.Kernel23Ideal.Gen Idealize.ShloMosaic Idealize.ShloMosaic.TcCoe Idealize.SL.Sem
open Cert.Reference23Ideal.Read
open Cert.Lb Cert.Finite

/-- A column's logits less their maximum, as exponentials. -/
abbrev ex (a : Vec Ideal S4x1024 .f32) (l : Fin 1024) (k : Fin 4) : EReal :=
  Ideal.exp (a (ix2 k l) - max (max (a (ix2 0 l)) (a (ix2 1 l))) (max (a (ix2 2 l)) (a (ix2 3 l))))

/-- A column of an array. -/
abbrev col (a : Vec Ideal S4x1024 .f32) (l : Fin 1024) (k : Fin 4) : EReal := a (ix2 k l)

theorem ex_real (a : Vec Ideal S4x1024 .f32) (l : Fin 1024) : ∃ r : Fin 4 → ℝ, (∀ k, 0 ≤ r k) ∧ ex a l = fun k => (r k : EReal) := by
  choose r h e using fun k => exp_sub (le_max4 (col a l) k)
  exact ⟨r, h, funext e⟩

/-- A row of the kernel. -/
theorem kernel_row (a b : Vec Ideal S4x1024 .f32) (r d : Fin 4 → ℝ) (l : Fin 1024) (hr : ∀ k, 0 ≤ r k) (he : ex a l = fun k => (r k : EReal))
    (hd : col b l = fun k => (d k : EReal)) (k : Fin 4) : Value.G2 (F := Ideal) a b (ix2 k l) = partR r d k := by
  have h := row hr d
  rw [← he, ← hd] at h
  have at0 : ∀ x : S1x1024.Idx, (ix2 k l 1).val = (x 1).val → x = ix2 0 l := fun x hx => by
    obtain ⟨r', l', rfl⟩ : ∃ (r' : Fin 1) (l' : Fin 1024), x = ix2 r' l' := ⟨x 0, x 1, by blk_ext []⟩
    obtain rfl : l = l' := Fin.ext hx
    rw [Subsingleton.elim r' 0]
  canon_tiles x hx
  all_goals
    obtain rfl := at0 x hx1
    unfold_payloads
    pointwise []
  · obtain rfl : k = 3 := Fin.ext (by simpa using hx0)
    exact h 3 _ _
  · obtain rfl : k = 2 := Fin.ext (by simpa using hx0)
    exact h 2 _ _
  · obtain rfl : k = 1 := Fin.ext (by simpa using hx0)
    exact h 1 _ _
  · obtain rfl : k = 0 := Fin.ext (by simpa using hx0)
    exact h 0 _ _

/-- A window of the running sum from the last row up. -/
theorem window (b : Vec Ideal S4x1024 .f32) (h : S4x1024.ReduceWindows ![4, 1] ![1, 1] ![0, 0] ![3, 0] S4x1024) (k : Fin 4) (l : Fin 1024) :
    Ideal.hostReduceWindowAdd ![4, 1] ![1, 1] ![0, 0] ![3, 0] h b 0 (ix2 k l)
      = ∑ n : Fin 4, if g : k.val + n.val < 4 then b (ix2 ⟨k.val + n.val, g⟩ l) else 0 := by
  have rm : ∀ n : Fin (Shape.numel ⟨2, ![4, 1]⟩), ((Shape.rowMajor ⟨2, ![4, 1]⟩).symm n 0).val = n.val
      ∧ ((Shape.rowMajor ⟨2, ![4, 1]⟩).symm n 1).val = 0 := by decide
  have n4 : List.finRange (Shape.numel ⟨2, ![4, 1]⟩) = [⟨0, by decide⟩, ⟨1, by decide⟩, ⟨2, by decide⟩, ⟨3, by decide⟩] := by decide
  have w : ∀ n : Fin (Shape.numel ⟨2, ![4, 1]⟩), ∀ p : Fin 2 → Nat,
      ∀ i : Decidable (∀ a : Fin 2, (![0, 0] : Fin 2 → Nat) a ≤ p a ∧ p a - (![0, 0] : Fin 2 → Nat) a < S4x1024.size a),
      p 0 = k.val + n.val → p 1 = l.val →
      @dite EReal _ i (fun hin => b (fun a => ⟨p a - (![0, 0] : Fin 2 → Nat) a, (hin a).2⟩)) (fun _ => 0)
      = if g : k.val + n.val < 4 then b (ix2 ⟨k.val + n.val, g⟩ l) else 0 := by
    intro n p i h0 h1
    by_cases g : k.val + n.val < 4
    · have hin : ∀ a : Fin 2, (![0, 0] : Fin 2 → Nat) a ≤ p a ∧ p a - (![0, 0] : Fin 2 → Nat) a < S4x1024.size a := by
        intro a
        fin_cases a
        · exact ⟨Nat.zero_le _, by show p 0 - 0 < 4; omega⟩
        · exact ⟨Nat.zero_le _, by show p 1 - 0 < 1024; omega⟩
      rw [dif_pos g, dif_pos hin]
      congr 1
      funext a
      fin_cases a
      · exact Fin.ext (by show p 0 - 0 = _; simpa using h0)
      · exact Fin.ext (by show p 1 - 0 = _; simpa using h1)
    · rw [dif_neg g, dif_neg]
      intro hin
      have := (hin 0).2
      change p 0 - 0 < 4 at this
      omega
  unfold Ideal.hostReduceWindowAdd Host.reduceWindow
  dsimp only
  rw [n4]
  simp only [List.foldl_cons, List.foldl_nil, Fin.sum_univ_four, zero_add]
  refine congrArg₂ (· + ·) (congrArg₂ (· + ·) (congrArg₂ (· + ·) (w ⟨0, by decide⟩ _ _ ?_ ?_) (w ⟨1, by decide⟩ _ _ ?_ ?_))
    (w ⟨2, by decide⟩ _ _ ?_ ?_)) (w ⟨3, by decide⟩ _ _ ?_ ?_)
  all_goals first
    | (show k.val * 1 + _ = _; rw [(rm _).1, Nat.mul_one])
    | (show l.val * 1 + _ = _; rw [(rm _).2, Nat.mul_one]; rfl)

/-- The gradient of the softmax's rows, as the reference adds it. -/
theorem ref_soft (b : Vec Ideal S4x1024 .f32) (d : Fin 4 → ℝ) (l : Fin 1024) (hd : col b l = fun k => (d k : EReal)) (k : Fin 4) :
    val_main_v38 (F := Ideal) b (ix2 k l) = softR d k := by
  pointwise [val_main_v38, val_main_v37, val_main_v36, val_main_v35, val_main_v34, val_main_v33, val_main_v32, val_main_cst_9, val_main_cst_10]
  have z : val_main_call1_call0_v0 (F := Ideal) (Shape.Idx.first Reference23Ideal.Gen.h_S_) = (0 : EReal) := by
    pointwise [val_main_call1_call0_v0, val_main_call1_call0_cst]
  have hb : ∀ j, b (ix2 j l) = (d j : EReal) := congrFun hd
  unfold Host.reduceWindowAdd
  rw [z, Ideal.hostReduceWindowAdd_def, window]
  simp only [hb, softR]
  fin_cases k
  all_goals simp [Fin.sum_univ_four]
  · have e : ((-d 0 + -d 1 + -d 2 + -d 3 + (d 0 + d 1 + d 2 + d 3) : ℝ) : EReal) = 0 := by
      rw [show -d 0 + -d 1 + -d 2 + -d 3 + (d 0 + d 1 + d 2 + d 3) = 0 by ring, EReal.coe_zero]
    rw [← e]
    simp only [EReal.coe_add, EReal.coe_neg]
  · exact add_assoc _ _ _

/-- A row of the reference. -/
theorem reference_row (a b : Vec Ideal S4x1024 .f32) (r d : Fin 4 → ℝ) (l : Fin 1024) (hr : ∀ k, 0 ≤ r k) (he : ex a l = fun k => (r k : EReal))
    (hd : col b l = fun k => (d k : EReal)) (k : Fin 4) : val_main_v50 (F := Ideal) a b (ix2 k l) = partR r d k := by
  have e20 : ∀ k, val_main_v20 (F := Ideal) a (ix2 k l) = r k := fun k => by
    refine Eq.trans ?_ (congrFun he k)
    pointwise [val_main_v20, val_main_v19, val_main_v18, val_main_v17, val_main_v7, val_main_v0, val_main_v6, val_main_cst_1, val_main_cst]
    rw [lit_bot, max_eq (col a l)]
  pointwise [val_main_v50, val_main_v49, val_main_v48, val_main_v47, val_main_v46, val_main_v45, val_main_v44, val_main_v43, val_main_v42, val_main_v41, val_main_v40, val_main_v39, val_main_v22, val_main_v21, val_main_v27, val_main_v26, val_main_v25, val_main_cst_12, val_main_cst_11, val_main_cst_7, val_main_cst_8]
  simp only [e20, ref_soft b d l hd]
  exact ref_row hr d k

/-- The precondition. -/
abbrev Real (m : (ℓ : Loc nD τ sig) → Buf (Elt Ideal) ℓ) := Cert.Pre_Kernel23Ideal_finite_lb (hPre_finite_lb := Cert.Pre_finite_lb.Gen.facts) m

/-- Under it the given gradient is real. -/
theorem real {m : (ℓ : Loc nD τ sig) → Buf (Elt Ideal) ℓ} (h : Real m) (c : Dev nD) : ∀ i, IsReal (m ((c.tc : Thread nD τ).loc main_arg1) i) := by
  have e := congrFun (h c) ix0
  unfold Cert.Pre_finite_lb.fn at e
  exact isReal_of_all _ _ _ _ _ _ _ e

/-- The two results agree. -/
theorem eq_of_real (a b : Vec Ideal S4x1024 .f32) (hb : ∀ i, IsReal (b i)) : Value.G2 (F := Ideal) a b = val_main_v50 (F := Ideal) a b := by
  funext j
  obtain ⟨k, l, rfl⟩ : ∃ (k : Fin 4) (l : Fin 1024), j = ix2 k l := ⟨j 0, j 1, by blk_ext []⟩
  obtain ⟨r, hr, he⟩ := ex_real a l
  choose d hd using fun k : Fin 4 => hb (ix2 k l)
  exact (kernel_row a b r d l hr he (funext hd) k).trans (reference_row a b r d l hr he (funext hd) k).symm

theorem algebraic : Cert.algebraic_Kernel23Ideal_Reference23Ideal_pre_finite_lb (hPre_finite_lb := Cert.Pre_finite_lb.Gen.facts) := fun m g m' g' hp e =>
  ⟨fun c => val_main_v50 (m ((c.tc : Thread nD τ).loc main_arg0)) (m ((c.tc : Thread nD τ).loc main_arg1)),
    (θ_run (Cert.Kernel23Ideal.defs (F := Ideal)) _ _).mono (fun _ h c => ⟨(h c).1.trans (eq_of_real _ _ (real hp c)), (h c).2⟩) (Cert.Kernel23Ideal.Value.run m g),
    (θ_run Cert.Reference23Ideal.defs _ _).mono (fun _ h c => by
      obtain ⟨e0, e1⟩ := e c
      refine ⟨(h c).1.trans ((val_main_v50_eq _ _).trans ?_), (h c).2⟩
      rw [e0, e1]) (Cert.Reference23Ideal.Value.run m' g')⟩

end Cert.Kernel23Ideal.Val

end
-- ==== Proof.Calls.LbFwd.lean ====
/- The lower bounds: the softmax over the four layers, its cumulative sum, and the first layer's row subtracted. -/
module

public import proofs.«01_k».proof.Defs
public import proofs.«01_k».proof.Proof.Gen.Kernel24Ideal.Value
public import proofs.«01_k».proof.Proof.Gen.Reference24Ideal.Read
public import proofs.«01_k».proof.Proof.Calls.LbBwd
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384
set_option maxHeartbeats 1000000

noncomputable section

namespace Cert.Kernel24Ideal.Val

open Cert.Kernel24Ideal Cert.Kernel24Ideal.Gen Idealize.ShloMosaic Idealize.ShloMosaic.TcCoe Idealize.SL.Sem
open Cert.Reference24Ideal.Read
open Cert.Lb
open Cert.Kernel23Ideal.Val (ex col)

/-- A row of the softmax, from a column's exponentials. -/
def prob (e : Fin 4 → EReal) (k : Fin 4) : EReal := Ideal.div (e k) (total e)

/-- The sums of the first rows of the softmax. -/
def cum (e : Fin 4 → EReal) : Fin 4 → EReal :=
  ![prob e 0, prob e 0 + prob e 1, prob e 0 + prob e 1 + prob e 2, prob e 0 + prob e 1 + prob e 2 + prob e 3]

/-- A row of the kernel. -/
theorem kernel_row (a : Vec Ideal S4x1024 .f32) (k : Fin 4) (l : Fin 1024) :
    Value.G1 (F := Ideal) a (ix2 k l) = cum (ex a l) k - prob (ex a l) 0 := by
  have at0 : ∀ x : S1x1024.Idx, (ix2 k l 1).val = (x 1).val → x = ix2 0 l := fun x hx => by
    obtain ⟨r', l', rfl⟩ : ∃ (r' : Fin 1) (l' : Fin 1024), x = ix2 r' l' := ⟨x 0, x 1, by blk_ext []⟩
    obtain rfl : l = l' := Fin.ext hx
    rw [Subsingleton.elim r' 0]
  canon_tiles x hx
  all_goals
    obtain rfl := at0 x hx1
    unfold_payloads
    pointwise []
  · obtain rfl : k = 3 := Fin.ext (by simpa using hx0)
    rfl
  · obtain rfl : k = 2 := Fin.ext (by simpa using hx0)
    rfl
  · obtain rfl : k = 1 := Fin.ext (by simpa using hx0)
    rfl
  · obtain rfl : k = 0 := Fin.ext (by simpa using hx0)
    rfl

/-- A window of the running sum from the first row down. -/
theorem window (b : Vec Ideal S4x1024 .f32) (h : S4x1024.ReduceWindows ![4, 1] ![1, 1] ![3, 0] ![0, 0] S4x1024) (k : Fin 4) (l : Fin 1024) :
    Ideal.hostReduceWindowAdd ![4, 1] ![1, 1] ![3, 0] ![0, 0] h b 0 (ix2 k l)
      = ∑ n : Fin 4, if g : 3 ≤ k.val + n.val then b (ix2 ⟨k.val + n.val - 3, by omega⟩ l) else 0 := by
  have rm : ∀ n : Fin (Shape.numel ⟨2, ![4, 1]⟩), ((Shape.rowMajor ⟨2, ![4, 1]⟩).symm n 0).val = n.val
      ∧ ((Shape.rowMajor ⟨2, ![4, 1]⟩).symm n 1).val = 0 := by decide
  have n4 : List.finRange (Shape.numel ⟨2, ![4, 1]⟩) = [⟨0, by decide⟩, ⟨1, by decide⟩, ⟨2, by decide⟩, ⟨3, by decide⟩] := by decide
  have w : ∀ n : Fin 4, ∀ p : Fin 2 → Nat,
      ∀ i : Decidable (∀ a : Fin 2, (![3, 0] : Fin 2 → Nat) a ≤ p a ∧ p a - (![3, 0] : Fin 2 → Nat) a < S4x1024.size a),
      p 0 = k.val + n.val → p 1 = l.val →
      @dite EReal _ i (fun hin => b (fun a => ⟨p a - (![3, 0] : Fin 2 → Nat) a, (hin a).2⟩)) (fun _ => 0)
      = if g : 3 ≤ k.val + n.val then b (ix2 ⟨k.val + n.val - 3, by omega⟩ l) else 0 := by
    intro n p i h0 h1
    by_cases g : 3 ≤ k.val + n.val
    · have hin : ∀ a : Fin 2, (![3, 0] : Fin 2 → Nat) a ≤ p a ∧ p a - (![3, 0] : Fin 2 → Nat) a < S4x1024.size a := by
        intro a
        fin_cases a
        · exact ⟨by show 3 ≤ p 0; omega, by show p 0 - 3 < 4; omega⟩
        · exact ⟨Nat.zero_le _, by show p 1 - 0 < 1024; omega⟩
      rw [dif_pos g, dif_pos hin]
      congr 1
      funext a
      fin_cases a
      · exact Fin.ext (by show p 0 - 3 = k.val + n.val - 3; omega)
      · exact Fin.ext (by show p 1 - 0 = _; simpa using h1)
    · rw [dif_neg g, dif_neg]
      intro hin
      have := (hin 0).1
      change 3 ≤ p 0 at this
      omega
  unfold Ideal.hostReduceWindowAdd Host.reduceWindow
  dsimp only
  rw [n4]
  simp only [List.foldl_cons, List.foldl_nil, Fin.sum_univ_four, zero_add]
  refine congrArg₂ (· + ·) (congrArg₂ (· + ·) (congrArg₂ (· + ·) (w 0 _ _ ?_ ?_) (w 1 _ _ ?_ ?_))
    (w 2 _ _ ?_ ?_)) (w 3 _ _ ?_ ?_)
  all_goals first
    | (show k.val * 1 + _ = _; rw [(rm _).1, Nat.mul_one]; rfl)
    | (show l.val * 1 + _ = _; rw [(rm _).2, Nat.mul_one]; rfl)

/-- A row of the reference's softmax. -/
theorem ref_prob (a : Vec Ideal S4x1024 .f32) (k : Fin 4) (l : Fin 1024) : val_main_v10 (F := Ideal) a (ix2 k l) = prob (ex a l) k := by
  have e6 : ∀ k, val_main_v6 (F := Ideal) a (ix2 k l) = ex a l k := fun k => by
    pointwise [val_main_v6, val_main_v5, val_main_v4, val_main_v3, val_main_v2, val_main_v1, val_main_v0, val_main_cst_0, val_main_cst]
    rw [lit_bot, max_eq (col a l)]
  pointwise [val_main_v10, val_main_v9, val_main_v8, val_main_v7, val_main_cst_1]
  simp only [e6, Fin.sum_univ_four]
  rfl

/-- The cumulative sum. -/
theorem ref_cum (a : Vec Ideal S4x1024 .f32) (k : Fin 4) (l : Fin 1024) : val_main_v11 (F := Ideal) a (ix2 k l) = cum (ex a l) k := by
  have z : val_main_call0_call0_v0 (F := Ideal) (Shape.Idx.first Reference24Ideal.Gen.h_S_) = (0 : EReal) := by
    pointwise [val_main_call0_call0_v0, val_main_call0_call0_cst]
  have hp := fun k => ref_prob a k l
  unfold val_main_v11
  generalize val_main_v10 (F := Ideal) a = b at *
  unfold Host.reduceWindowAdd
  rw [z, Ideal.hostReduceWindowAdd_def, window]
  simp only [hp, cum]
  fin_cases k
  all_goals simp [Fin.sum_univ_four]
  all_goals rfl

/-- A row of the reference. -/
theorem reference_row (a : Vec Ideal S4x1024 .f32) (k : Fin 4) (l : Fin 1024) :
    val_main_v14 (F := Ideal) a (ix2 k l) = cum (ex a l) k - prob (ex a l) 0 := by
  pointwise [val_main_v14, val_main_v13, val_main_v12]
  rw [ref_cum, ref_prob]

/-- The two results agree. -/
theorem eq (a : Vec Ideal S4x1024 .f32) : Value.G1 (F := Ideal) a = val_main_v14 (F := Ideal) a := by
  funext j
  obtain ⟨k, l, rfl⟩ : ∃ (k : Fin 4) (l : Fin 1024), j = ix2 k l := ⟨j 0, j 1, by blk_ext []⟩
  exact (kernel_row a k l).trans (reference_row a k l).symm

theorem algebraic : Cert.algebraic_Kernel24Ideal_Reference24Ideal := fun m g m' g' _ e =>
  ⟨fun c => val_main_v14 (m ((c.tc : Thread nD τ).loc main_arg0)),
    (θ_run (Cert.Kernel24Ideal.defs (F := Ideal)) _ _).mono (fun _ h c => ⟨(h c).1.trans (eq _), (h c).2⟩) (Cert.Kernel24Ideal.Value.run m g),
    (θ_run Cert.Reference24Ideal.defs _ _).mono (fun _ h c => by
      refine ⟨(h c).1.trans ((val_main_v14_eq _).trans ?_), (h c).2⟩
      rw [e c]) (Cert.Reference24Ideal.Value.run m' g')⟩

end Cert.Kernel24Ideal.Val

end
-- ==== Proof.Calls.LossHead.lean ====
/- The loss head: the loss, and the gradients of the last layer's output and of the final norm's scale. -/
module

public import proofs.«01_k».proof.Defs
public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel25Ideal.Val

open Cert.Kernel25Ideal Cert.Kernel25Ideal.Gen Idealize.ShloMosaic Idealize.ShloMosaic.TcCoe Idealize.SL.Sem
open Cert.Reference25Ideal.Read
open Idealize.ShloMosaic.Pipeline (Dat)

variable (m : (ℓ : Loc nD τ sig) → Buf (Elt Ideal) ℓ) (ρ : Dev nD → PrngReg)

/-- The literal two is two, -/
theorem lit_two : Ideal.ofBits .f32 0x40000000#32 = ((2 : ℝ) : EReal) := by
  simp only [Ideal.ofBits, Ideal.ieee]
  simp
  rw [← EReal.coe_mul]
  exact congrArg _ (by norm_num)

/-- and the literal one half is a half. -/
theorem lit_half : Ideal.ofBits .f32 0x3F000000#32 = ((1 / 2 : ℝ) : EReal) := by
  simp only [Ideal.ofBits, Ideal.ieee]
  simp
  rw [← EReal.coe_mul]
  exact congrArg _ (by norm_num)

/-- Twice a value is the value added to itself, at the infinities too. -/
theorem two_mul' (e : EReal) : ((2 : ℝ) : EReal) * e = e + e := by
  have h := EReal.right_distrib_of_nonneg (a := 1) (b := 1) (c := e) zero_le_one zero_le_one
  rw [← EReal.coe_one, ← EReal.coe_add] at h
  norm_num at h
  exact h

/-- A nonnegative factor of two equal terms. -/
theorem twice {c : EReal} (h0 : 0 ≤ c) (ht : c ≠ ⊤) (e : EReal) : e * c + c * e = c * (((2 : ℝ) : EReal) * e) := by
  rw [two_mul', EReal.left_distrib_of_nonneg_of_ne_top h0 ht, mul_comm e c]

/-- A nonnegative factor of every term of a sum. -/
theorem sum_factor {c : EReal} (h0 : 0 ≤ c) (ht : c ≠ ⊤) {ι : Type} (s : Finset ι) (f : ι → EReal) :
    ∑ i ∈ s, c * f i = c * ∑ i ∈ s, f i := by
  classical
  induction s using Finset.induction_on with
  | empty => simp
  | insert a s ha ih => rw [Finset.sum_insert ha, Finset.sum_insert ha, ih, EReal.left_distrib_of_nonneg_of_ne_top h0 ht]

theorem half_nonneg : 0 ≤ Ideal.ofBits .f32 0x3F000000#32 := by
  rw [lit_half]
  exact EReal.coe_nonneg.2 (by norm_num)

theorem half_ne_top : Ideal.ofBits .f32 0x3F000000#32 ≠ ⊤ := by
  rw [lit_half]
  exact EReal.coe_ne_top _

/-- The factor of the loss's gradient is a positive real number. -/
theorem factor : ∃ q : ℝ, 0 ≤ q ∧ Ideal.div (Ideal.ofBits .f32 0x3F000000#32) (Ideal.ofBits .f32 0x44800000#32) = q := by
  have h : Ideal.ofBits .f32 0x44800000#32 = ((1024 : ℝ) : EReal) := by
    simp only [Ideal.ofBits, Ideal.ieee]
    simp
    rw [← EReal.coe_mul]
    exact congrArg _ (by norm_num)
  refine ⟨1 / 2 * (1 / 1024), by norm_num, ?_⟩
  rw [h, lit_half, Ideal.div_coe (by norm_num), EReal.coe_mul]

/-- Which block of each array a grid point stages. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![0, 0] ∧ win0_5.index t = ![0, 0])

/-- The row of the arrays that row `r` of grid point `t`'s blocks is. -/
def row (t : Fin cfg0.N) (r : Fin 512) : Fin 16384 :=
  ⟨512 * t.val + r.val, by have h := t.isLt; have h' : cfg0.N = 32 := rfl; omega⟩

theorem row_val (t : Fin cfg0.N) (r : Fin 512) : (row t r).val = 512 * t.val + r.val := rfl

theorem b0 (c : Dev nD) (t : Fin cfg0.N) (r : Fin 512) (k : Fin 1024) :
    iblk m c 0 t (ix2 r k) = m ((c.tc : Thread nD τ).loc main_arg0) (ix2 (row t r) k) := by
  blk_ext [iblk, V, idx t, row_val]

theorem b2 (c : Dev nD) (t : Fin cfg0.N) (r : Fin 512) (k : Fin 1024) :
    iblk m c 2 t (ix2 r k) = m ((c.tc : Thread nD τ).loc main_arg2) (ix2 (row t r) k) := by
  blk_ext [iblk, V, idx t, row_val]

/-- The norm's scale stands in window 1. -/
theorem b1 (c : Dev nD) (t : Fin cfg0.N) (r : Fin 1) (k : Fin 1024) :
    iblk m c 1 t (ix2 r k) = m ((c.tc : Thread nD τ).loc main_arg1) (ix1 k) := by
  have e : (win0_1.blk t).view.emb (ix2 r k) = ix2 r k := by blk_ext [idx t]
  show V m c main_v0 ((win0_1.blk t).view.emb (ix2 r k)) = _
  rw [e]
  unfold V
  after_reads_at

/-- The gradient of the normed rows, as the reference computes it from the arguments. -/
abbrev dh (c : Dev nD) := val_main_v30 (F := Ideal) (m ((c.tc : Thread nD τ).loc main_arg0)) (m ((c.tc : Thread nD τ).loc main_arg1)) (m ((c.tc : Thread nD τ).loc main_arg2))

/-- The normed rows minus the target. -/
abbrev err (c : Dev nD) := val_main_v16 (F := Ideal) (m ((c.tc : Thread nD τ).loc main_arg0)) (m ((c.tc : Thread nD τ).loc main_arg1)) (m ((c.tc : Thread nD τ).loc main_arg2))

abbrev refDx (c : Dev nD) := val_main_v50 (F := Ideal) (m ((c.tc : Thread nD τ).loc main_arg0)) (m ((c.tc : Thread nD τ).loc main_arg1)) (m ((c.tc : Thread nD τ).loc main_arg2))

abbrev refDg (c : Dev nD) := val_main_v51 (F := Ideal) (m ((c.tc : Thread nD τ).loc main_arg0)) (m ((c.tc : Thread nD τ).loc main_arg1)) (m ((c.tc : Thread nD τ).loc main_arg2))

abbrev refLoss (c : Dev nD) := val_main_v52 (F := Ideal) (m ((c.tc : Thread nD τ).loc main_arg0)) (m ((c.tc : Thread nD τ).loc main_arg1)) (m ((c.tc : Thread nD τ).loc main_arg2))

theorem dhBlk_eq (c : Dev nD) (t : Fin cfg0.N) (r : Fin 512) (l : Fin 1024) :
    k0_pay13 (iblk m c 2 t) (iblk m c 0 t) (iblk m c 1 t) (ix2 r l) = dh m c (ix2 (row t r) l) := by
  unfold dh
  unfold_payloads
  pointwise [val_main_v30, val_main_v29, val_main_v28, val_main_v27, val_main_v26, val_main_v25, val_main_v19, val_main_v18, val_main_v16, val_main_v15, val_main_v14, val_main_v13,
    val_main_v12, val_main_v11, val_main_v7, val_main_v6, val_main_v5, val_main_v4, val_main_v3, val_main_v2, val_main_v1, val_main_v0, val_main_cst, val_main_cst_0, val_main_cst_1, val_main_cst_3,
    val_main_cst_8, val_main_cst_9, val_main_cst_10]
  simp only [b0, b1, b2]
  obtain ⟨q, h0, hq⟩ := factor
  rw [hq, lit_two]
  simp only [Fin.sum_univ_one]
  exact twice (EReal.coe_nonneg.2 h0) (EReal.coe_ne_top q) _

/-- A row's mean square of the error, before the factor a half. -/
def lossTerm (c : Dev nD) (R : Fin 16384) : EReal :=
  Ideal.div (∑ k : Fin 1024, err m c (ix2 R k) * err m c (ix2 R k)) (Ideal.ofBits FTy.f32 0x44800000#32)

theorem errBlk_eq (c : Dev nD) (t : Fin cfg0.N) (r : Fin 512) (l : Fin 1024) :
    k0_pay11 (iblk m c 2 t) (iblk m c 0 t) (iblk m c 1 t) (ix2 r l) = err m c (ix2 (row t r) l) := by
  unfold err
  unfold_payloads
  pointwise [val_main_v16, val_main_v15, val_main_v14, val_main_v13,
    val_main_v12, val_main_v11, val_main_v7, val_main_v6, val_main_v5, val_main_v4, val_main_v3, val_main_v2, val_main_v1, val_main_v0, val_main_cst, val_main_cst_0, val_main_cst_1]
  simp only [b0, b1, b2]

/-- A grid point adds its rows' losses to what the point before left. -/
theorem lossPay (c : Dev nD) (t : Fin cfg0.N) (acc : Vec Ideal S1x128 .f32) (r : Fin 1) (l : Fin 128) :
    k0_pay5 (k0_pay12 (iblk m c 2 t) (iblk m c 0 t) (iblk m c 1 t)) acc (ix2 r l)
      = acc (ix2 r l) + Ideal.ofBits FTy.f32 0x3F000000#32 * ∑ r : Fin 512, lossTerm m c (row t r) := by
  have he := fun r k => errBlk_eq m c t r k
  unfold lossTerm
  unfold k0_pay5 k0_pay12
  generalize k0_pay11 (iblk m c 2 t) (iblk m c 0 t) (iblk m c 1 t) = eb at *
  unfold_payloads
  pointwise
  simp only [he, Fin.sum_univ_one]

theorem refLoss_eq (c : Dev nD) (r : Fin 1) (l : Fin 128) :
    refLoss m c (ix2 r l) = Ideal.ofBits FTy.f32 0x3F000000#32 * ∑ R : Fin 16384, lossTerm m c R := by
  unfold refLoss lossTerm err
  pointwise [val_main_v52, val_main_v24, val_main_v23, val_main_v22, val_main_v21, val_main_v20, val_main_v17, val_main_cst_4, val_main_cst_5, val_main_cst_6, val_main_cst_7]

/-- The input gradient's rows of grid point `t`. -/
theorem dxBlk_eq (c : Dev nD) (t : Fin cfg0.N) (r : Fin 512) (l : Fin 1024) :
    k0_pay1 (iblk m c 0 t) (k0_pay6 (iblk m c 1 t)) (k0_pay8 (iblk m c 0 t)) (k0_pay9 (iblk m c 0 t))
        (k0_pay13 (iblk m c 2 t) (iblk m c 0 t) (iblk m c 1 t)) (ix2 r l)
      = refDx m c (ix2 (row t r) l) := by
  have hd := fun k => dhBlk_eq m c t r k
  unfold refDx val_main_v50 val_main_v49 val_main_v48 val_main_v47 val_main_v46 val_main_v45 val_main_v44 val_main_v42 val_main_v41
    val_main_v39 val_main_v38 val_main_v37 val_main_v35
  unfold dh at hd
  generalize val_main_v30 (F := Ideal) (m ((c.tc : Thread nD τ).loc main_arg0)) (m ((c.tc : Thread nD τ).loc main_arg1)) (m ((c.tc : Thread nD τ).loc main_arg2)) = dh at *
  generalize k0_pay13 (iblk m c 2 t) (iblk m c 0 t) (iblk m c 1 t) = dhb at *
  unfold_payloads
  pointwise [val_main_v43, val_main_v40, val_main_v34, val_main_v13, val_main_v10, val_main_v9, val_main_v8, val_main_v7, val_main_v6, val_main_v5,
    val_main_v4, val_main_v3, val_main_v2, val_main_v1, val_main_v0, val_main_cst, val_main_cst_0, val_main_cst_1, val_main_cst_2,
    val_main_cst_13, val_main_cst_14, val_main_cst_15]
  simp only [b0, b1, hd]

/-- The rows before the norm. -/
def xr (c : Dev nD) (R : Fin 16384) (k : Fin 1024) : EReal := m ((c.tc : Thread nD τ).loc main_arg0) (ix2 R k)

/-- What row `R` adds to the scale's gradient at column `l`. -/
def dgTerm (c : Dev nD) (l : Fin 1024) (R : Fin 16384) : EReal :=
  xr m c R l * Ideal.rsqrt (Ideal.div (∑ k : Fin 1024, xr m c R k * xr m c R k)
    (Ideal.ofBits FTy.f32 0x44800000#32) + Ideal.ofBits FTy.f32 0x358637BD#32) * dh m c (ix2 R l)

/-- A grid point adds its rows' terms to what the point before left. -/
theorem dgPay (c : Dev nD) (t : Fin cfg0.N) (acc : Vec Ideal S1x1024 .f32) (r : Fin 1) (l : Fin 1024) :
    k0_pay4 (k0_pay14 (iblk m c 2 t) (iblk m c 0 t) (iblk m c 1 t)) acc (ix2 r l)
      = acc (ix2 r l) + ∑ r : Fin 512, dgTerm m c l (row t r) := by
  have hd := fun r k => dhBlk_eq m c t r k
  unfold dgTerm xr
  unfold k0_pay4 k0_pay14
  generalize k0_pay13 (iblk m c 2 t) (iblk m c 0 t) (iblk m c 1 t) = dhb at *
  unfold_payloads
  pointwise
  simp only [b0, hd]

theorem zeroPay (r : Fin 1) (l : Fin 1024) : k0_pay2 (F := Ideal) (ix2 r l) = 0 := by
  unfold_payloads
  pointwise

theorem zeroLoss (r : Fin 1) (l : Fin 128) : k0_pay3 (F := Ideal) (ix2 r l) = 0 := by
  unfold_payloads
  pointwise

theorem refDg_eq (c : Dev nD) (r : Fin 1) (l : Fin 1024) : refDg m c (ix2 r l) = ∑ R : Fin 16384, dgTerm m c l R := by
  unfold refDg dgTerm xr dh val_main_v51 val_main_v36 val_main_v33 val_main_v32 val_main_v31
  generalize val_main_v30 (F := Ideal) (m ((c.tc : Thread nD τ).loc main_arg0)) (m ((c.tc : Thread nD τ).loc main_arg1)) (m ((c.tc : Thread nD τ).loc main_arg2)) = dh
  pointwise [val_main_v12, val_main_v11, val_main_v7, val_main_v6, val_main_v5, val_main_v4, val_main_v3, val_main_v2, val_main_v1, val_main_v0,
    val_main_cst, val_main_cst_0, val_main_cst_1, val_main_cst_11, val_main_cst_12]
  simp only [Finset.univ_unique, Finset.sum_singleton]

theorem outs3 (c : Dev nD) (t : Fin cfg0.N) :
    (outsAt0 m c t.val t.isLt).1 = k0_pay1 (iblk m c 0 t) (k0_pay6 (iblk m c 1 t)) (k0_pay8 (iblk m c 0 t)) (k0_pay9 (iblk m c 0 t))
        (k0_pay13 (iblk m c 2 t) (iblk m c 0 t) (iblk m c 1 t)) := by
  by_cases h : t.val % 32 = 0
  · rw [outsAt0_A m c t h]; frame_out
  · rw [outsAt0_B m c t h]; frame_out

/-- The first output array after the run, from what every grid point leaves of it. -/
theorem arr3_of (c : Dev nD) (G : S16384x1024.Idx → EReal)
    (hG : ∀ (t : Fin cfg0.N) (r : Fin 512) (l : Fin 1024), (outsAt0 m c t.val t.isLt).1 (ix2 r l) = G (ix2 (row t r) l)) :
    (dats m 0 c).arrAt 3 cfg0.N = G := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, by blk_ext []⟩
  have e : (win0_3.blk t).view.emb (ix2 r l) = ix2 (row t r) l := by blk_ext [idx t, row_val]
  rw [e]
  exact hG t r l

/-- The input gradient after the run. -/
theorem arr3 (c : Dev nD) : (dats m 0 c).arrAt 3 cfg0.N = refDx m c :=
  arr3_of m c _ fun t r l => by rw [outs3]; exact dxBlk_eq m c t r l

theorem last_lt : 31 < cfg0.N := by decide

/-- The last grid point. -/
def last : Fin cfg0.N := ⟨31, last_lt⟩

theorem whole4 : (cfg0.win 4).WholeAt last :=
  ⟨(flush0_4 last).mpr rfl, fun t h => Fin.ext (by
    have h1 := (flush0_4 t).mp h
    have h2 : t.val < 32 := t.isLt
    show t.val = 31
    omega), by decide +kernel⟩

theorem whole5 : (cfg0.win 5).WholeAt last :=
  ⟨(flush0_5 last).mpr rfl, fun t h => Fin.ext (by
    have h1 := (flush0_5 t).mp h
    have h2 : t.val < 32 := t.isLt
    show t.val = 31
    omega), by decide +kernel⟩

/-- The running sum at the last point: every point's rows. -/
theorem outs4 (c : Dev nD) (r : Fin 1) (l : Fin 1024) :
    (outsAt0 m c last.val last.isLt).2.1 (ix2 r l) = ∑ t : Fin cfg0.N, ∑ r : Fin 512, dgTerm m c l (row t r) := by
  rw [Pipeline.eq_sum_fin_of_reset_step_apply_last (fun n h => (outsAt0 m c n h).2.1) 32 (fun _ => (0 : EReal))
    (fun t i => ∑ r : Fin 512, dgTerm m c (i 1) (row t r))
    (fun t h i => by
      rw [outsAt0_A m c t h]; frame_out
      idx_vars i
      exact (dgPay m c t _ _ _).trans (by rw [zeroPay]))
    (fun t h i => by
      rw [outsAt0_B m c t h]; frame_out
      idx_vars i
      exact dgPay m c t _ _ _) (le_of_eq rfl) last rfl (ix2 r l), zero_add]
  rfl

theorem arr4_of (c : Dev nD) (G : S1x1024.Idx → EReal) (hG : ∀ i, (outsAt0 m c last.val last.isLt).2.1 i = G i) :
    (dats m 0 c).arrAt 4 cfg0.N = G := by
  refine (dats m 0 c).arrAt_eq_of_after_last 4 last whole4 _ fun j => ?_
  rw [after0_4]
  exact hG _

/-- The points' rows are the arrays' rows. -/
theorem sum_rows (f : Fin 16384 → EReal) : ∑ t : Fin cfg0.N, ∑ r : Fin 512, f (row t r) = ∑ R : Fin 16384, f R :=
  Fin.sum_mul_add_congr (F := fun (t : Fin 32) r => f (row t r)) fun t r h => congrArg f (Fin.ext (by
    show 512 * t.val + r.val = t.val * 512 + r.val
    omega))

/-- The scale's gradient after the run: the last point's running sum. -/
theorem arr4 (c : Dev nD) : (dats m 0 c).arrAt 4 cfg0.N = refDg m c :=
  arr4_of m c _ fun i => by
    idx_vars i
    rw [outs4, refDg_eq, sum_rows (dgTerm m c _)]

/-- The running loss at the last point: every point's rows. -/
theorem outs5 (c : Dev nD) (r : Fin 1) (l : Fin 128) :
    (outsAt0 m c last.val last.isLt).2.2 (ix2 r l)
      = Ideal.ofBits FTy.f32 0x3F000000#32 * ∑ t : Fin cfg0.N, ∑ r : Fin 512, lossTerm m c (row t r) := by
  rw [Pipeline.eq_sum_fin_of_reset_step_apply_last (fun n h => (outsAt0 m c n h).2.2) 32 (fun _ => (0 : EReal))
    (fun t _ => Ideal.ofBits FTy.f32 0x3F000000#32 * ∑ r : Fin 512, lossTerm m c (row t r))
    (fun t h i => by
      rw [outsAt0_A m c t h]; frame_out
      idx_vars i
      exact (lossPay m c t _ _ _).trans (by rw [zeroLoss]))
    (fun t h i => by
      rw [outsAt0_B m c t h]; frame_out
      idx_vars i
      exact lossPay m c t _ _ _) (le_of_eq rfl) last rfl (ix2 r l), zero_add]
  exact sum_factor half_nonneg half_ne_top Finset.univ _

/-- The loss after the run: the last point's running sum. -/
theorem arr5 (c : Dev nD) : (dats m 0 c).arrAt 5 cfg0.N = refLoss m c := by
  refine (dats m 0 c).arrAt_eq_of_after_last 5 last whole5 _ fun j => ?_
  rw [after0_5]
  idx_vars j
  exact (outs5 m c _ _).trans ((refLoss_eq m c _ _).trans (by rw [← sum_rows (lossTerm m c)])).symm

theorem algebraic : Cert.algebraic_Kernel25Ideal_Reference25Ideal := fun m g m' g' _ e =>
  ⟨fun c => refDx m c, fun c => refDg m c, fun c => refLoss m c,
    (θ_run (Cert.Kernel25Ideal.defs (F := Ideal)) _ _).mono (fun _ h c => ⟨(h c).1.trans (arr3 m c), (h c).2.1.trans (arr4 m c), (h c).2.2.1.trans (arr5 m c), (h c).2.2.2⟩) (Cert.Kernel25Ideal.Value.run_blocks m g),
    (θ_run Cert.Reference25Ideal.defs _ _).mono (fun _ h c => by
      obtain ⟨e0, e1, e2⟩ := e c
      refine ⟨(h c).1.trans ((val_main_v50_eq m' c).trans ?_), (h c).2.1.trans ((val_main_v51_eq _ _ _).trans ?_), (h c).2.2.1.trans ((val_main_v52_eq _ _ _).trans ?_), (h c).2.2.2⟩
      all_goals rw [e0, e1, e2]) (Cert.Reference25Ideal.Value.run m' g')⟩

end Cert.Kernel25Ideal.Val

end
-- ==== Proof.Calls.WdFwdLast.lean ====
module

public import proofs.«01_k».proof.Defs
public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel26Ideal.Val

open Cert.Kernel26Ideal Cert.Kernel26Ideal.Gen Idealize.ShloMosaic Idealize.ShloMosaic.TcCoe Idealize.SL.Sem
open Cert.Reference26Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, win0_0.index t = ![t.val, 0] ∧ win0_1.index t = ![0, 0] ∧ win0_2.index t = ![t.val, 0]
    ∧ win0_3.index t = ![t.val, 0])

/-- The row of the arrays that row `r` of grid point `t`'s blocks is. -/
def row (t : Fin cfg0.N) (r : Fin 512) : Fin 16384 :=
  ⟨512 * t.val + r.val, by have h := t.isLt; have h' : cfg0.N = 32 := rfl; omega⟩

theorem row_val (t : Fin cfg0.N) (r : Fin 512) : (row t r).val = 512 * t.val + r.val := rfl

theorem b0 (c : Dev nD) (t : Fin cfg0.N) (r : Fin 512) (k : Fin 2816) :
    iblk m c 0 t (ix2 r k) = m ((c.tc : Thread nD τ).loc main_arg0) (ix2 (row t r) k) := by
  blk_ext [iblk, V, idx t, row_val]

theorem b2 (c : Dev nD) (t : Fin cfg0.N) (r : Fin 512) (k : Fin 1024) :
    iblk m c 2 t (ix2 r k) = m ((c.tc : Thread nD τ).loc main_arg2) (ix2 (row t r) k) := by
  blk_ext [iblk, V, idx t, row_val]

/-- The whole weight stands in window 1. -/
theorem b1 (c : Dev nD) (t : Fin cfg0.N) (k : Fin 2816) (l : Fin 1024) :
    iblk m c 1 t (ix2 k l) = m ((c.tc : Thread nD τ).loc main_arg1) (ix2 k l) := by
  have e : (win0_1.blk t).view.emb (ix2 k l) = ix2 k l := by blk_ext [idx t]
  show V m c main_v0 ((win0_1.blk t).view.emb (ix2 k l)) = _
  rw [e]
  unfold V
  after_reads_at

/-- The reference's rows after the branch, of the arguments. -/
abbrev refX (c : Dev nD) := val_main_v2 (F := Ideal) (m ((c.tc : Thread nD τ).loc main_arg0)) (m ((c.tc : Thread nD τ).loc main_arg1)) (m ((c.tc : Thread nD τ).loc main_arg2))

/-- What grid point `t` computes of the rows after the branch. -/
def xBlk (c : Dev nD) (t : Fin cfg0.N) : FVec Ideal S512x1024 .f32 := k0_pay4 (k0_pay2 (iblk m c 0 t) (iblk m c 1 t)) (iblk m c 2 t)

theorem xBlk_eq (c : Dev nD) (t : Fin cfg0.N) (r : Fin 512) (l : Fin 1024) :
    xBlk m c t (ix2 r l) = refX m c (ix2 (row t r) l) := by
  unfold xBlk refX
  unfold_payloads
  pointwise [val_main_v2, val_main_v1, val_main_v0]
  simp only [b0, b1, b2]
  exact add_comm _ _

theorem outs3 (c : Dev nD) (t : Fin cfg0.N) : outsAt0 m c t = xBlk m c t := by
  unfold outsAt0 xBlk
  frame_out

theorem arr3_of (c : Dev nD) (G : S16384x1024.Idx → EReal)
    (hG : ∀ (t : Fin cfg0.N) (r : Fin 512) (l : Fin 1024), outsAt0 m c t (ix2 r l) = G (ix2 (row t r) l)) :
    (dats m 0 c).arrAt 3 cfg0.N = G := by
  refine (dats m 0 c).arrAt_eq_of_covers 3 _ (by decide +kernel) fun t hf y => ?_
  blk_simp
  rw [after0_3]
  obtain ⟨r, l, rfl⟩ : ∃ (r : Fin 512) (l : Fin 1024), y = ix2 r l := ⟨y 0, y 1, by blk_ext []⟩
  have e : (win0_3.blk t).view.emb (ix2 r l) = ix2 (row t r) l := by blk_ext [idx t, row_val]
  rw [e]
  exact hG t r l

/-- The rows after the branch, after the run. -/
theorem arr3 (c : Dev nD) : (dats m 0 c).arrAt 3 cfg0.N = refX m c :=
  arr3_of m c _ fun t r l => by rw [outs3]; exact xBlk_eq m c t r l

/-- The call's result is the reference's. -/
theorem algebraic : Cert.algebraic_Kernel26Ideal_Reference26Ideal := fun m g m' g' _ e =>
  ⟨fun c => refX m c,
    (θ_run (Cert.Kernel26Ideal.defs (F := Ideal)) _ _).mono (fun _ h c => ⟨(h c).1.trans (arr3 m c), (h c).2⟩) (Cert.Kernel26Ideal.Value.run_blocks m g),
    (θ_run Cert.Reference26Ideal.defs _ _).mono (fun _ h c => by
      obtain ⟨e0, e1, e2⟩ := e c
      refine ⟨(h c).1.trans ((val_main_v2_eq _ _ _).trans ?_), (h c).2⟩
      rw [e0, e1, e2]) (Cert.Reference26Ideal.Value.run m' g')⟩

end Cert.Kernel26Ideal.Val

end
-- ==== Proof.Calls.Tn.lean ====
/- A product summed tile by tile over the rows of its two factors: what the running sum holds when a run of tiles ends. -/
module

public import proofs.«01_k».proof.Defs
public import Idealize.ShloMosaic.Lib.Pipeline.ValueKit
public import Idealize.ShloMosaic.Lib.Pipeline.ReadBack

@[expose] public section

noncomputable section

namespace Cert.Tn

open Idealize.ShloMosaic

/-- The row of the factors that row `r` of grid point `n`'s tiles is. -/
def row (n : Nat) (r : Fin 2048) : Fin 16384 := ⟨2048 * (n % 8) + r.val, by omega⟩

theorem row_val (n : Nat) (r : Fin 2048) : (row n r).val = 2048 * (n % 8) + r.val := rfl

/-- Column `k` of the left factor's `q`-th block of `tm` columns. -/
def lhs {M : Nat} (x : Fin 16384 → Fin M → EReal) (tm k q : Nat) (R : Fin 16384) : EReal :=
  if h : tm * q + k < M then x R ⟨tm * q + k, h⟩ else 0

theorem lhs_eq {M : Nat} (x : Fin 16384 → Fin M → EReal) {tm k q : Nat} (j : Fin M) (h : j.val = tm * q + k)
    (R : Fin 16384) : lhs x tm k q R = x R j := by
  unfold lhs
  rw [dif_pos (h ▸ j.isLt)]
  exact congrArg (x R) (Fin.ext h.symm)

/-- What grid point `n` adds to an entry, from the left factor's column (which depends on the run) and the right factor's. -/
def term (lhs : Nat → Fin 16384 → EReal) (rhs : Fin 16384 → EReal) (n : Nat) : EReal :=
  ∑ r : Fin 2048, lhs (n / 8) (row n r) * rhs (row n r)

/-- An entry of the running sum at a run's last point is the sum over all rows. -/
theorem entry {N : Nat} (f : (n : Nat) → n < N → EReal) (lhs : Nat → Fin 16384 → EReal) (rhs : Fin 16384 → EReal)
    (h0 : ∀ t : Fin N, t.val % 8 = 0 → f t.val t.isLt = 0 + term lhs rhs t.val)
    (hs : ∀ t : Fin N, ¬t.val % 8 = 0 → f t.val t.isLt = f (t.val - 1) (Nat.lt_of_le_of_lt (Nat.sub_le _ _) t.isLt) + term lhs rhs t.val)
    (t : Fin N) (ht : t.val % 8 = 7) : f t.val t.isLt = ∑ R : Fin 16384, lhs (t.val / 8) R * rhs R := by
  refine (Pipeline.eq_sum_fin_of_reset_step_apply_of_flush (fun n h (_ : Unit) => f n h) 8 (fun _ => (0 : EReal))
    (fun t _ => term lhs rhs t.val) (fun t h _ => h0 t h) (fun t h _ => hs t h) t ht ()).trans ?_
  rw [zero_add]
  unfold term
  refine Fin.sum_mul_add_congr fun s r h => ?_
  have h8 := s.isLt
  have er : row (8 * (t.val / 8) + s.val) r = ⟨s.val * 2048 + r.val, h⟩ := Fin.ext (by
    show 2048 * ((8 * (t.val / 8) + s.val) % 8) + r.val = s.val * 2048 + r.val
    omega)
  have ec : (8 * (t.val / 8) + s.val) / 8 = t.val / 8 := by omega
  show lhs ((8 * (t.val / 8) + s.val) / 8) (row (8 * (t.val / 8) + s.val) r) * rhs (row (8 * (t.val / 8) + s.val) r) = _
  rw [er, ec]

end Cert.Tn

end
-- ==== Proof.Calls.WinGradHg.lean ====
module

public import proofs.«01_k».proof.Defs
public import proofs.«01_k».proof.Proof.Gen.Kernel27Ideal.Frame
public import proofs.«01_k».proof.Proof.Gen.Reference27Ideal.Read
public import proofs.«01_k».proof.Proof.Calls.Tn
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel27Ideal.Val

open Cert.Kernel27Ideal Cert.Kernel27Ideal.Gen Idealize.ShloMosaic Idealize.ShloMosaic.TcCoe Idealize.SL.Sem
open Cert.Reference27Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, win0_0.index t = ![t.val % 8, t.val / 8] ∧ win0_1.index t = ![t.val % 8, 0] ∧ win0_2.index t = ![t.val / 8, 0])

/-- The column of the left factor that column `k` of grid point `t`'s block is. -/
def col (t : Fin cfg0.N) (k : Fin 512) : Fin 4096 :=
  ⟨512 * (t.val / 8) + k.val, by have h := t.isLt; have h' : cfg0.N = 64 := rfl; omega⟩

theorem col_val (t : Fin cfg0.N) (k : Fin 512) : (col t k).val = 512 * (t.val / 8) + k.val := rfl

theorem b0 (c : Dev nD) (t : Fin cfg0.N) (r : Fin 2048) (k : Fin 512) :
    iblk m c 0 t (ix2 r k) = m ((c.tc : Thread nD τ).loc main_arg0) (ix2 (Tn.row t.val r) (col t k)) := by
  blk_ext [iblk, V, idx t, Tn.row_val, col_val]

theorem b1 (c : Dev nD) (t : Fin cfg0.N) (r : Fin 2048) (l : Fin 1024) :
    iblk m c 1 t (ix2 r l) = m ((c.tc : Thread nD τ).loc main_arg1) (ix2 (Tn.row t.val r) l) := by
  blk_ext [iblk, V, idx t, Tn.row_val]

/-- The factors' columns, as a run of grid points reads them for row `k` and column `l` of its block. -/
abbrev lhs (c : Dev nD) (k : Fin 512) : Nat → Fin 16384 → EReal :=
  Tn.lhs (fun R j => m ((c.tc : Thread nD τ).loc main_arg0) (ix2 R j)) 512 k.val

def rhs (c : Dev nD) (l : Fin 1024) (R : Fin 16384) : EReal := m ((c.tc : Thread nD τ).loc main_arg1) (ix2 R l)

theorem lhs_eq (c : Dev nD) (t : Fin cfg0.N) (k : Fin 512) (R : Fin 16384) :
    lhs m c k (t.val / 8) R = m ((c.tc : Thread nD τ).loc main_arg0) (ix2 R (col t k)) :=
  Tn.lhs_eq _ (col t k) (col_val t k) R

theorem part (c : Dev nD) (t : Fin cfg0.N) (k : Fin 512) (l : Fin 1024) :
    k0_pay1 (iblk m c 0 t) (iblk m c 1 t) (ix2 k l) = Tn.term (lhs m c k) (rhs m c l) t.val := by
  unfold Tn.term
  simp only [lhs_eq]
  unfold rhs
  unfold_payloads
  pointwise
  simp only [b0, b1]

/-- The running sum at a run's last point. -/
theorem scr (c : Dev nD) (t : Fin cfg0.N) (ht : t.val % 8 = 7) (k : Fin 512) (l : Fin 1024) :
    (outsAt0 m c t.val t.isLt).2 (ix2 k l) = ∑ R : Fin 16384, lhs m c k (t.val / 8) R * rhs m c l R :=
  Tn.entry (fun n h => (outsAt0 m c n h).2 (ix2 k l)) (lhs m c k) (rhs m c l)
    (fun t h => by
      rw [outsAt0_A m c t h (by omega) (by omega), ← part m c t k l, zero_add]; frame_out
      unfold k0_pay2
      pointwise)
    (fun t h => by
      rw [← part m c t k l]
      by_cases h' : t.val % 8 = 7
      · rw [outsAt0_C m c t h (by omega) h']; frame_out
        rw [read_unread_whole]
        unfold k0_pay3
        pointwise
      · rw [outsAt0_B m c t h (by omega) h']; frame_out
        rw [read_unread_whole]
        unfold k0_pay3
        pointwise) t ht

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The reference's gradient, of the arguments. -/
abbrev ref (c : Dev nD) := val_main_v6 (F := Ideal) (m ((c.tc : Thread nD τ).loc main_arg0)) (m ((c.tc : Thread nD τ).loc main_arg1))

/-- The reference's gradient at an entry. -/
theorem ref_eq (c : Dev nD) (t : Fin cfg0.N) (k : Fin 512) (l : Fin 1024) :
    ref m c (ix2 (col t k) l) = ∑ R : Fin 16384, lhs m c k (t.val / 8) R * rhs m c l R := by
  simp only [lhs_eq]
  unfold ref rhs
  pointwise [val_main_v6, val_main_v5, val_main_v4, val_main_v3, val_main_v2, val_main_v0]

/-- The call's array after the run: the gradient in the rows it writes, what it held in the others. -/
def whole (c : Dev nD) : S7680x1024.Idx → EReal := fun i =>
  if h : (i 0).val < 4096 then ref m c (ix2 ⟨(i 0).val, h⟩ (i 1)) else (dats m 0 c).A 2 i

theorem whole_in (c : Dev nD) (k : Fin 4096) (l : Fin 1024) :
    whole m c (ix2 ⟨k.val, Nat.lt_trans k.isLt (by decide)⟩ l) = ref m c (ix2 k l) := dif_pos k.isLt

/-- The array after the run, from what every run's last point leaves. -/
theorem arr (c : Dev nD) : (dats m 0 c).arrAt 2 cfg0.N = whole m c := by
  refine (dats m 0 c).arrAt_eq_of_coversWhere_of_agree 2 _ (fun β => β (0 : Fin 2) < 8) (by decide +kernel)
    (fun t hf y => ?_) (fun j hj => ?_)
  · have ht : t.val % 8 = 7 := (flush0_2 t).mp hf
    blk_simp
    rw [after0_2]
    obtain ⟨k, l, rfl⟩ : ∃ (k : Fin 512) (l : Fin 1024), y = ix2 k l := ⟨y 0, y 1, by blk_ext []⟩
    have e : (win0_2.blk t).view.emb (ix2 k l) = ix2 ⟨(col t k).val, Nat.lt_trans (col t k).isLt (by decide)⟩ l := by
      blk_ext [idx t, col_val]
    rw [e]
    exact (out_eq m c t ht k l).trans ((scr m c t ht k l).trans ((ref_eq m c t k l).symm.trans (whole_in m c (col t k) l).symm))
  · unfold whole
    rw [dif_neg]
    blk_simp [Pipeline.Window.cell_apply] at hj ⊢
    omega

/-- The rows that are kept of the array are the reference's gradient. -/
theorem kept (c : Dev nD) : Pipeline.afterTail₀ cfgs (dats m) 0 (V0 m) [hostOps1] c main_v1 = ref m c := by
  have e : Pipeline.withArrays spec0 c (V0 m c) (fun w => (dats m 0 c).arrAt w cfg0.N) (Proc.devRef .tc main_v0) = whole m c :=
    (Pipeline.withArrays_arr spec0 (by decide) c (V0 m c) _ 2).trans (arr m c)
  unfold Pipeline.afterTail₀
  simp only [hostOps1, List.flatten_cons, List.flatten_nil, List.append_nil]
  after_results
  refine (congrArg (fun x => extractStridedSlice S4096x1024 ![0, 0] x slices_S7680x1024_S4096x1024_0_0) e).trans (funext fun i => ?_)
  idx_vars i
  pointwise
  exact whole_in m c i0 i1

/-- The call, with its result named. -/
theorem run (g : Dev nD → PrngReg) : θ_run (defs (F := Ideal)) (onTc (τ := τ) (main (F := Ideal))) ⟨m, fun _ => 0, g⟩ fun r => ∀ c : Dev nD,
    r.2.mem ((c.tc : Thread nD τ).loc main_v1) = ref m c :=
  (θ_run defs _ _).mono (fun _ h c => ((h c).2 main_v1 (Pipeline.mem_restRefs_of main_v1 (by decide) (by decide))).trans (kept m c)) (run_main m g)

/-- The call's result is the reference's. -/
theorem algebraic : Cert.algebraic_Kernel27Ideal_Reference27Ideal := fun m g m' g' _ e =>
  ⟨fun c => ref m c,
    (θ_run (Cert.Kernel27Ideal.defs (F := Ideal)) _ _).mono (fun _ h c => ⟨h.1 c, h.2 c⟩)
      (θ_run_and (run m g) (unchanged m g)),
    (θ_run Cert.Reference27Ideal.defs _ _).mono (fun _ h c => by
      obtain ⟨e0, e1, e2⟩ := e c
      refine ⟨(h c).1.trans ((val_main_v6_eq _ _).trans ?_), (h c).2⟩
      rw [e0, e1]) (Cert.Reference27Ideal.Value.run m' g')⟩

end Cert.Kernel27Ideal.Val

end
-- ==== Proof.Calls.WinGradAq.lean ====
module

public import proofs.«01_k».proof.Defs
public import proofs.«01_k».proof.Proof.Gen.Kernel28Ideal.Value
public import proofs.«01_k».proof.Proof.Gen.Reference28Ideal.Read
public import proofs.«01_k».proof.Proof.Calls.Tn
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel28Ideal.Val

open Cert.Kernel28Ideal Cert.Kernel28Ideal.Gen Idealize.ShloMosaic Idealize.ShloMosaic.TcCoe Idealize.SL.Sem
open Cert.Reference28Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![8 + t.val / 8, 0] :=
  (by decide +kernel : ∀ t : Fin grid0.N, win0_0.index t = ![t.val % 8, t.val / 8] ∧ win0_1.index t = ![t.val % 8, 0] ∧ win0_2.index t = ![8 + t.val / 8, 0])

/-- The column of the left factor that column `k` of grid point `t`'s block is. -/
def col (t : Fin cfg0.N) (k : Fin 512) : Fin 1024 :=
  ⟨512 * (t.val / 8) + k.val, by have h := t.isLt; have h' : cfg0.N = 16 := rfl; omega⟩

theorem col_val (t : Fin cfg0.N) (k : Fin 512) : (col t k).val = 512 * (t.val / 8) + k.val := rfl

/-- The row of the gradient that column `k` of the left factor makes. -/
def put (k : Fin 1024) : Fin 7680 := ⟨4096 + k.val, by omega⟩

theorem put_val (k : Fin 1024) : (put k).val = 4096 + k.val := rfl

theorem b0 (c : Dev nD) (t : Fin cfg0.N) (r : Fin 2048) (k : Fin 512) :
    iblk m c 0 t (ix2 r k) = m ((c.tc : Thread nD τ).loc main_arg0) (ix2 (Tn.row t.val r) (col t k)) := by
  blk_ext [iblk, V, idx t, Tn.row_val, col_val]

theorem b1 (c : Dev nD) (t : Fin cfg0.N) (r : Fin 2048) (l : Fin 1024) :
    iblk m c 1 t (ix2 r l) = m ((c.tc : Thread nD τ).loc main_arg1) (ix2 (Tn.row t.val r) l) := by
  blk_ext [iblk, V, idx t, Tn.row_val]

/-- The factors' columns, as a run of grid points reads them for row `k` and column `l` of its block. -/
abbrev lhs (c : Dev nD) (k : Fin 512) : Nat → Fin 16384 → EReal :=
  Tn.lhs (fun R j => m ((c.tc : Thread nD τ).loc main_arg0) (ix2 R j)) 512 k.val

def rhs (c : Dev nD) (l : Fin 1024) (R : Fin 16384) : EReal := m ((c.tc : Thread nD τ).loc main_arg1) (ix2 R l)

theorem lhs_eq (c : Dev nD) (t : Fin cfg0.N) (k : Fin 512) (R : Fin 16384) :
    lhs m c k (t.val / 8) R = m ((c.tc : Thread nD τ).loc main_arg0) (ix2 R (col t k)) :=
  Tn.lhs_eq _ (col t k) (col_val t k) R

theorem part (c : Dev nD) (t : Fin cfg0.N) (k : Fin 512) (l : Fin 1024) :
    k0_pay1 (iblk m c 0 t) (iblk m c 1 t) (ix2 k l) = Tn.term (lhs m c k) (rhs m c l) t.val := by
  unfold Tn.term
  simp only [lhs_eq]
  unfold rhs
  unfold_payloads
  pointwise
  simp only [b0, b1]

/-- The running sum at a run's last point. -/
theorem scr (c : Dev nD) (t : Fin cfg0.N) (ht : t.val % 8 = 7) (k : Fin 512) (l : Fin 1024) :
    (outsAt0 m c t.val t.isLt).2 (ix2 k l) = ∑ R : Fin 16384, lhs m c k (t.val / 8) R * rhs m c l R :=
  Tn.entry (fun n h => (outsAt0 m c n h).2 (ix2 k l)) (lhs m c k) (rhs m c l)
    (fun t h => by
      rw [outsAt0_A m c t h (by omega) (by omega), ← part m c t k l, zero_add]; frame_out
      unfold k0_pay2
      pointwise)
    (fun t h => by
      rw [← part m c t k l]
      by_cases h' : t.val % 8 = 7
      · rw [outsAt0_C m c t h (by omega) h']; frame_out
        rw [read_unread_whole]
        unfold k0_pay3
        pointwise
      · rw [outsAt0_B m c t h (by omega) h']; frame_out
        rw [read_unread_whole]
        unfold k0_pay3
        pointwise) t ht

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The reference's gradient, of the arguments. -/
abbrev ref (c : Dev nD) := val_main_v9 (F := Ideal) (m ((c.tc : Thread nD τ).loc main_arg0)) (m ((c.tc : Thread nD τ).loc main_arg1)) (m ((c.tc : Thread nD τ).loc main_arg3))

/-- The reference's gradient at an entry of the rows the call makes. -/
theorem ref_in (c : Dev nD) (t : Fin cfg0.N) (k : Fin 512) (l : Fin 1024) :
    ref m c (ix2 (put (col t k)) l) = ∑ R : Fin 16384, lhs m c k (t.val / 8) R * rhs m c l R := by
  simp only [lhs_eq]
  unfold ref rhs
  have h := (col t k).isLt
  pointwise [val_main_v9, val_main_v8, val_main_v7, val_main_v6, val_main_v5, val_main_v4, val_main_v3, val_main_v1, val_main_v0, put_val]

/-- The reference's gradient elsewhere is the one given. -/
theorem ref_out (c : Dev nD) (i : S7680x1024.Idx) (h : ¬(4096 ≤ (i 0).val ∧ (i 0).val < 4096 + 1024)) :
    ref m c i = m ((c.tc : Thread nD τ).loc main_arg3) i := by
  idx_vars i
  have h' : ¬(4096 ≤ i0.val ∧ i0.val < 4096 + 1024) := h
  unfold ref
  pointwise [val_main_v9, val_main_v8, val_main_v7, val_main_v6, val_main_v5, val_main_v4, val_main_v3, val_main_v1, val_main_v0]
  by_cases h0 : i0.val < 4096
  · rw [dif_pos h0]
  · rw [dif_neg h0, dif_neg (by omega)]
    refine congrArg (fun r => m ((c.tc : Thread nD τ).loc main_arg3) (ix2 r i1)) (Fin.ext ?_)
    show 5120 + (i0.val - 4096 - 1024) = i0.val
    omega

/-- The gradient the call is given, where it does not write. -/
theorem given (c : Dev nD) (i : S7680x1024.Idx) : V m c main_v0 i = m ((c.tc : Thread nD τ).loc main_arg3) i := by
  unfold V
  after_reads_at
  rfl

/-- The gradient after the run, from what every run's last point leaves. -/
theorem arr_of (c : Dev nD) (G : S7680x1024.Idx → EReal)
    (hG : ∀ (t : Fin cfg0.N), t.val % 8 = 7 → ∀ (k : Fin 512) (l : Fin 1024), (outsAt0 m c t.val t.isLt).1 (ix2 k l) = G (ix2 (put (col t k)) l))
    (hA : ∀ i : S7680x1024.Idx, ¬(4096 ≤ (i 0).val ∧ (i 0).val < 4096 + 1024) → m ((c.tc : Thread nD τ).loc main_arg3) i = G i) :
    (dats m 0 c).arrAt 2 cfg0.N = G := by
  refine (dats m 0 c).arrAt_eq_of_coversWhere_of_agree 2 _ (fun β => 8 ≤ β (0 : Fin 2) ∧ β (0 : Fin 2) < 10) (by decide +kernel)
    (fun t hf y => ?_) (fun j hj => ?_)
  · have ht : t.val % 8 = 7 := (flush0_2 t).mp hf
    blk_simp
    rw [after0_2]
    obtain ⟨k, l, rfl⟩ : ∃ (k : Fin 512) (l : Fin 1024), y = ix2 k l := ⟨y 0, y 1, by blk_ext []⟩
    have e : (win0_2.blk t).view.emb (ix2 k l) = ix2 (put (col t k)) l := by blk_ext [idx t, col_val, put_val]
    rw [e]
    exact hG t ht k l
  · rw [A_eq]
    refine (given m c _).trans (hA _ ?_)
    blk_simp [Pipeline.Window.cell_apply] at hj ⊢
    omega

theorem arr (c : Dev nD) : (dats m 0 c).arrAt 2 cfg0.N = ref m c :=
  arr_of m c _ (fun t ht k l => by rw [out_eq m c t ht, scr m c t ht, ref_in]) (fun i h => (ref_out m c i h).symm)

/-- The call's result is the reference's. -/
theorem algebraic : Cert.algebraic_Kernel28Ideal_Reference28Ideal := fun m g m' g' _ e =>
  ⟨fun c => ref m c,
    (θ_run (Cert.Kernel28Ideal.defs (F := Ideal)) _ _).mono (fun _ h c => ⟨(h c).1.trans (arr m c), (h c).2⟩) (Cert.Kernel28Ideal.Value.run_blocks m g),
    (θ_run Cert.Reference28Ideal.defs _ _).mono (fun _ h c => by
      obtain ⟨e0, e1, e2, e3⟩ := e c
      refine ⟨(h c).1.trans ((val_main_v9_eq _ _ _).trans ?_), (h c).2⟩
      rw [e0, e1, e3]) (Cert.Reference28Ideal.Value.run m' g')⟩

end Cert.Kernel28Ideal.Val

end
-- ==== Proof.Calls.WinGradAk.lean ====
module

public import proofs.«01_k».proof.Defs
public import proofs.«01_k».proof.Proof.Gen.Kernel29Ideal.Value
public import proofs.«01_k».proof.Proof.Gen.Reference29Ideal.Read
public import proofs.«01_k».proof.Proof.Calls.Tn
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel29Ideal.Val

open Cert.Kernel29Ideal Cert.Kernel29Ideal.Gen Idealize.ShloMosaic Idealize.ShloMosaic.TcCoe Idealize.SL.Sem
open Cert.Reference29Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![20 + t.val / 8, 0] :=
  (by decide +kernel : ∀ t : Fin grid0.N, win0_0.index t = ![t.val % 8, t.val / 8] ∧ win0_1.index t = ![t.val % 8, 0] ∧ win0_2.index t = ![20 + t.val / 8, 0])

/-- The column of the left factor that column `k` of grid point `t`'s block is. -/
def col (t : Fin cfg0.N) (k : Fin 256) : Fin 256 :=
  ⟨256 * (t.val / 8) + k.val, by have h := t.isLt; have h' : cfg0.N = 8 := rfl; omega⟩

theorem col_val (t : Fin cfg0.N) (k : Fin 256) : (col t k).val = 256 * (t.val / 8) + k.val := rfl

/-- The row of the gradient that column `k` of the left factor makes. -/
def put (k : Fin 256) : Fin 7680 := ⟨5120 + k.val, by omega⟩

theorem put_val (k : Fin 256) : (put k).val = 5120 + k.val := rfl

theorem b0 (c : Dev nD) (t : Fin cfg0.N) (r : Fin 2048) (k : Fin 256) :
    iblk m c 0 t (ix2 r k) = m ((c.tc : Thread nD τ).loc main_arg0) (ix2 (Tn.row t.val r) (col t k)) := by
  blk_ext [iblk, V, idx t, Tn.row_val, col_val]

theorem b1 (c : Dev nD) (t : Fin cfg0.N) (r : Fin 2048) (l : Fin 1024) :
    iblk m c 1 t (ix2 r l) = m ((c.tc : Thread nD τ).loc main_arg1) (ix2 (Tn.row t.val r) l) := by
  blk_ext [iblk, V, idx t, Tn.row_val]

/-- The factors' columns, as a run of grid points reads them for row `k` and column `l` of its block. -/
abbrev lhs (c : Dev nD) (k : Fin 256) : Nat → Fin 16384 → EReal :=
  Tn.lhs (fun R j => m ((c.tc : Thread nD τ).loc main_arg0) (ix2 R j)) 256 k.val

def rhs (c : Dev nD) (l : Fin 1024) (R : Fin 16384) : EReal := m ((c.tc : Thread nD τ).loc main_arg1) (ix2 R l)

theorem lhs_eq (c : Dev nD) (t : Fin cfg0.N) (k : Fin 256) (R : Fin 16384) :
    lhs m c k (t.val / 8) R = m ((c.tc : Thread nD τ).loc main_arg0) (ix2 R (col t k)) :=
  Tn.lhs_eq _ (col t k) (col_val t k) R

theorem part (c : Dev nD) (t : Fin cfg0.N) (k : Fin 256) (l : Fin 1024) :
    k0_pay1 (iblk m c 0 t) (iblk m c 1 t) (ix2 k l) = Tn.term (lhs m c k) (rhs m c l) t.val := by
  unfold Tn.term
  simp only [lhs_eq]
  unfold rhs
  unfold_payloads
  pointwise
  simp only [b0, b1]

/-- The running sum at a run's last point. -/
theorem scr (c : Dev nD) (t : Fin cfg0.N) (ht : t.val % 8 = 7) (k : Fin 256) (l : Fin 1024) :
    (outsAt0 m c t.val t.isLt).2 (ix2 k l) = ∑ R : Fin 16384, lhs m c k (t.val / 8) R * rhs m c l R :=
  Tn.entry (fun n h => (outsAt0 m c n h).2 (ix2 k l)) (lhs m c k) (rhs m c l)
    (fun t h => by
      have hN : t.val < 8 := t.isLt
      rw [outsAt0_A m c t h (by omega) (by omega), ← part m c t k l, zero_add]; frame_out
      unfold k0_pay2
      pointwise)
    (fun t h => by
      rw [← part m c t k l]
      by_cases h' : t.val % 8 = 7
      · rw [outsAt0_C m c t h (by omega) h']; frame_out
        rw [read_unread_whole]
        unfold k0_pay3
        pointwise
      · rw [outsAt0_B m c t h (by omega) h']; frame_out
        rw [read_unread_whole]
        unfold k0_pay3
        pointwise) t ht

/-- At a run's last point the output block is the running sum. -/
theorem out_eq (c : Dev nD) (t : Fin cfg0.N) (ht : t.val % 8 = 7) (k : Fin 256) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The reference's gradient, of the arguments. -/
abbrev ref (c : Dev nD) := val_main_v9 (F := Ideal) (m ((c.tc : Thread nD τ).loc main_arg0)) (m ((c.tc : Thread nD τ).loc main_arg1)) (m ((c.tc : Thread nD τ).loc main_arg3))

/-- The reference's gradient at an entry of the rows the call makes. -/
theorem ref_in (c : Dev nD) (t : Fin cfg0.N) (k : Fin 256) (l : Fin 1024) :
    ref m c (ix2 (put (col t k)) l) = ∑ R : Fin 16384, lhs m c k (t.val / 8) R * rhs m c l R := by
  simp only [lhs_eq]
  unfold ref rhs
  have h := (col t k).isLt
  pointwise [val_main_v9, val_main_v8, val_main_v7, val_main_v6, val_main_v5, val_main_v4, val_main_v3, val_main_v1, val_main_v0, put_val]

/-- The reference's gradient elsewhere is the one given. -/
theorem ref_out (c : Dev nD) (i : S7680x1024.Idx) (h : ¬(5120 ≤ (i 0).val ∧ (i 0).val < 5120 + 256)) :
    ref m c i = m ((c.tc : Thread nD τ).loc main_arg3) i := by
  idx_vars i
  have h' : ¬(5120 ≤ i0.val ∧ i0.val < 5120 + 256) := h
  unfold ref
  pointwise [val_main_v9, val_main_v8, val_main_v7, val_main_v6, val_main_v5, val_main_v4, val_main_v3, val_main_v1, val_main_v0]
  by_cases h0 : i0.val < 5120
  · rw [dif_pos h0]
  · rw [dif_neg h0, dif_neg (by omega)]
    refine congrArg (fun r => m ((c.tc : Thread nD τ).loc main_arg3) (ix2 r i1)) (Fin.ext ?_)
    show 5376 + (i0.val - 5120 - 256) = i0.val
    omega

/-- The gradient the call is given, where it does not write. -/
theorem given (c : Dev nD) (i : S7680x1024.Idx) : V m c main_v0 i = m ((c.tc : Thread nD τ).loc main_arg3) i := by
  unfold V
  after_reads_at
  rfl

/-- The gradient after the run, from what every run's last point leaves. -/
theorem arr_of (c : Dev nD) (G : S7680x1024.Idx → EReal)
    (hG : ∀ (t : Fin cfg0.N), t.val % 8 = 7 → ∀ (k : Fin 256) (l : Fin 1024), (outsAt0 m c t.val t.isLt).1 (ix2 k l) = G (ix2 (put (col t k)) l))
    (hA : ∀ i : S7680x1024.Idx, ¬(5120 ≤ (i 0).val ∧ (i 0).val < 5120 + 256) → m ((c.tc : Thread nD τ).loc main_arg3) i = G i) :
    (dats m 0 c).arrAt 2 cfg0.N = G := by
  refine (dats m 0 c).arrAt_eq_of_coversWhere_of_agree 2 _ (fun β => 20 ≤ β (0 : Fin 2) ∧ β (0 : Fin 2) < 21) (by decide +kernel)
    (fun t hf y => ?_) (fun j hj => ?_)
  · have ht : t.val % 8 = 7 := (flush0_2 t).mp hf
    blk_simp
    rw [after0_2]
    obtain ⟨k, l, rfl⟩ : ∃ (k : Fin 256) (l : Fin 1024), y = ix2 k l := ⟨y 0, y 1, by blk_ext []⟩
    have e : (win0_2.blk t).view.emb (ix2 k l) = ix2 (put (col t k)) l := by blk_ext [idx t, col_val, put_val]
    rw [e]
    exact hG t ht k l
  · rw [A_eq]
    refine (given m c _).trans (hA _ ?_)
    blk_simp [Pipeline.Window.cell_apply] at hj ⊢
    omega

theorem arr (c : Dev nD) : (dats m 0 c).arrAt 2 cfg0.N = ref m c :=
  arr_of m c _ (fun t ht k l => by rw [out_eq m c t ht, scr m c t ht, ref_in]) (fun i h => (ref_out m c i h).symm)

/-- The call's result is the reference's. -/
theorem algebraic : Cert.algebraic_Kernel29Ideal_Reference29Ideal := fun m g m' g' _ e =>
  ⟨fun c => ref m c,
    (θ_run (Cert.Kernel29Ideal.defs (F := Ideal)) _ _).mono (fun _ h c => ⟨(h c).1.trans (arr m c), (h c).2⟩) (Cert.Kernel29Ideal.Value.run_blocks m g),
    (θ_run Cert.Reference29Ideal.defs _ _).mono (fun _ h c => by
      obtain ⟨e0, e1, e2, e3⟩ := e c
      refine ⟨(h c).1.trans ((val_main_v9_eq _ _ _).trans ?_), (h c).2⟩
      rw [e0, e1, e3]) (Cert.Reference29Ideal.Value.run m' g')⟩

end Cert.Kernel29Ideal.Val

end
-- ==== Proof.Calls.WinGradAv.lean ====
module

public import proofs.«01_k».proof.Defs
public import proofs.«01_k».proof.Proof.Gen.Kernel30Ideal.Value
public import proofs.«01_k».proof.Proof.Gen.Reference30Ideal.Read
public import proofs.«01_k».proof.Proof.Calls.Tn
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel30Ideal.Val

open Cert.Kernel30Ideal Cert.Kernel30Ideal.Gen Idealize.ShloMosaic Idealize.ShloMosaic.TcCoe Idealize.SL.Sem
open Cert.Reference30Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![21 + t.val / 8, 0] :=
  (by decide +kernel : ∀ t : Fin grid0.N, win0_0.index t = ![t.val % 8, t.val / 8] ∧ win0_1.index t = ![t.val % 8, 0] ∧ win0_2.index t = ![21 + t.val / 8, 0])

/-- The column of the left factor that column `k` of grid point `t`'s block is. -/
def col (t : Fin cfg0.N) (k : Fin 256) : Fin 256 :=
  ⟨256 * (t.val / 8) + k.val, by have h := t.isLt; have h' : cfg0.N = 8 := rfl; omega⟩

theorem col_val (t : Fin cfg0.N) (k : Fin 256) : (col t k).val = 256 * (t.val / 8) + k.val := rfl

/-- The row of the gradient that column `k` of the left factor makes. -/
def put (k : Fin 256) : Fin 7680 := ⟨5376 + k.val, by omega⟩

theorem put_val (k : Fin 256) : (put k).val = 5376 + k.val := rfl

theorem b0 (c : Dev nD) (t : Fin cfg0.N) (r : Fin 2048) (k : Fin 256) :
    iblk m c 0 t (ix2 r k) = m ((c.tc : Thread nD τ).loc main_arg0) (ix2 (Tn.row t.val r) (col t k)) := by
  blk_ext [iblk, V, idx t, Tn.row_val, col_val]

theorem b1 (c : Dev nD) (t : Fin cfg0.N) (r : Fin 2048) (l : Fin 1024) :
    iblk m c 1 t (ix2 r l) = m ((c.tc : Thread nD τ).loc main_arg1) (ix2 (Tn.row t.val r) l) := by
  blk_ext [iblk, V, idx t, Tn.row_val]

/-- The factors' columns, as a run of grid points reads them for row `k` and column `l` of its block. -/
abbrev lhs (c : Dev nD) (k : Fin 256) : Nat → Fin 16384 → EReal :=
  Tn.lhs (fun R j => m ((c.tc : Thread nD τ).loc main_arg0) (ix2 R j)) 256 k.val

def rhs (c : Dev nD) (l : Fin 1024) (R : Fin 16384) : EReal := m ((c.tc : Thread nD τ).loc main_arg1) (ix2 R l)

theorem lhs_eq (c : Dev nD) (t : Fin cfg0.N) (k : Fin 256) (R : Fin 16384) :
    lhs m c k (t.val / 8) R = m ((c.tc : Thread nD τ).loc main_arg0) (ix2 R (col t k)) :=
  Tn.lhs_eq _ (col t k) (col_val t k) R

theorem part (c : Dev nD) (t : Fin cfg0.N) (k : Fin 256) (l : Fin 1024) :
    k0_pay1 (iblk m c 0 t) (iblk m c 1 t) (ix2 k l) = Tn.term (lhs m c k) (rhs m c l) t.val := by
  unfold Tn.term
  simp only [lhs_eq]
  unfold rhs
  unfold_payloads
  pointwise
  simp only [b0, b1]

/-- The running sum at a run's last point. -/
theorem scr (c : Dev nD) (t : Fin cfg0.N) (ht : t.val % 8 = 7) (k : Fin 256) (l : Fin 1024) :
    (outsAt0 m c t.val t.isLt).2 (ix2 k l) = ∑ R : Fin 16384, lhs m c k (t.val / 8) R * rhs m c l R :=
  Tn.entry (fun n h => (outsAt0 m c n h).2 (ix2 k l)) (lhs m c k) (rhs m c l)
    (fun t h => by
      have hN : t.val < 8 := t.isLt
      rw [outsAt0_A m c t h (by omega) (by omega), ← part m c t k l, zero_add]; frame_out
      unfold k0_pay2
      pointwise)
    (fun t h => by
      rw [← part m c t k l]
      by_cases h' : t.val % 8 = 7
      · rw [outsAt0_C m c t h (by omega) h']; frame_out
        rw [read_unread_whole]
        unfold k0_pay3
        pointwise
      · rw [outsAt0_B m c t h (by omega) h']; frame_out
        rw [read_unread_whole]
        unfold k0_pay3
        pointwise) t ht

/-- At a run's last point the output block is the running sum. -/
theorem out_eq (c : Dev nD) (t : Fin cfg0.N) (ht : t.val % 8 = 7) (k : Fin 256) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The reference's gradient, of the arguments. -/
abbrev ref (c : Dev nD) := val_main_v9 (F := Ideal) (m ((c.tc : Thread nD τ).loc main_arg0)) (m ((c.tc : Thread nD τ).loc main_arg1)) (m ((c.tc : Thread nD τ).loc main_arg3))

/-- The reference's gradient at an entry of the rows the call makes. -/
theorem ref_in (c : Dev nD) (t : Fin cfg0.N) (k : Fin 256) (l : Fin 1024) :
    ref m c (ix2 (put (col t k)) l) = ∑ R : Fin 16384, lhs m c k (t.val / 8) R * rhs m c l R := by
  simp only [lhs_eq]
  unfold ref rhs
  have h := (col t k).isLt
  pointwise [val_main_v9, val_main_v8, val_main_v7, val_main_v6, val_main_v5, val_main_v4, val_main_v3, val_main_v1, val_main_v0, put_val]

/-- The reference's gradient elsewhere is the one given. -/
theorem ref_out (c : Dev nD) (i : S7680x1024.Idx) (h : ¬(5376 ≤ (i 0).val ∧ (i 0).val < 5376 + 256)) :
    ref m c i = m ((c.tc : Thread nD τ).loc main_arg3) i := by
  idx_vars i
  have h' : ¬(5376 ≤ i0.val ∧ i0.val < 5376 + 256) := h
  unfold ref
  pointwise [val_main_v9, val_main_v8, val_main_v7, val_main_v6, val_main_v5, val_main_v4, val_main_v3, val_main_v1, val_main_v0]
  by_cases h0 : i0.val < 5376
  · rw [dif_pos h0]
  · rw [dif_neg h0, dif_neg (by omega)]
    refine congrArg (fun r => m ((c.tc : Thread nD τ).loc main_arg3) (ix2 r i1)) (Fin.ext ?_)
    show 5632 + (i0.val - 5376 - 256) = i0.val
    omega

/-- The gradient the call is given, where it does not write. -/
theorem given (c : Dev nD) (i : S7680x1024.Idx) : V m c main_v0 i = m ((c.tc : Thread nD τ).loc main_arg3) i := by
  unfold V
  after_reads_at
  rfl

/-- The gradient after the run, from what every run's last point leaves. -/
theorem arr_of (c : Dev nD) (G : S7680x1024.Idx → EReal)
    (hG : ∀ (t : Fin cfg0.N), t.val % 8 = 7 → ∀ (k : Fin 256) (l : Fin 1024), (outsAt0 m c t.val t.isLt).1 (ix2 k l) = G (ix2 (put (col t k)) l))
    (hA : ∀ i : S7680x1024.Idx, ¬(5376 ≤ (i 0).val ∧ (i 0).val < 5376 + 256) → m ((c.tc : Thread nD τ).loc main_arg3) i = G i) :
    (dats m 0 c).arrAt 2 cfg0.N = G := by
  refine (dats m 0 c).arrAt_eq_of_coversWhere_of_agree 2 _ (fun β => 21 ≤ β (0 : Fin 2) ∧ β (0 : Fin 2) < 22) (by decide +kernel)
    (fun t hf y => ?_) (fun j hj => ?_)
  · have ht : t.val % 8 = 7 := (flush0_2 t).mp hf
    blk_simp
    rw [after0_2]
    obtain ⟨k, l, rfl⟩ : ∃ (k : Fin 256) (l : Fin 1024), y = ix2 k l := ⟨y 0, y 1, by blk_ext []⟩
    have e : (win0_2.blk t).view.emb (ix2 k l) = ix2 (put (col t k)) l := by blk_ext [idx t, col_val, put_val]
    rw [e]
    exact hG t ht k l
  · rw [A_eq]
    refine (given m c _).trans (hA _ ?_)
    blk_simp [Pipeline.Window.cell_apply] at hj ⊢
    omega

theorem arr (c : Dev nD) : (dats m 0 c).arrAt 2 cfg0.N = ref m c :=
  arr_of m c _ (fun t ht k l => by rw [out_eq m c t ht, scr m c t ht, ref_in]) (fun i h => (ref_out m c i h).symm)

/-- The call's result is the reference's. -/
theorem algebraic : Cert.algebraic_Kernel30Ideal_Reference30Ideal := fun m g m' g' _ e =>
  ⟨fun c => ref m c,
    (θ_run (Cert.Kernel30Ideal.defs (F := Ideal)) _ _).mono (fun _ h c => ⟨(h c).1.trans (arr m c), (h c).2⟩) (Cert.Kernel30Ideal.Value.run_blocks m g),
    (θ_run Cert.Reference30Ideal.defs _ _).mono (fun _ h c => by
      obtain ⟨e0, e1, e2, e3⟩ := e c
      refine ⟨(h c).1.trans ((val_main_v9_eq _ _ _).trans ?_), (h c).2⟩
      rw [e0, e1, e3]) (Cert.Reference30Ideal.Value.run m' g')⟩

end Cert.Kernel30Ideal.Val

end
-- ==== Proof.Calls.WinGradGates.lean ====
module

public import proofs.«01_k».proof.Defs
public import proofs.«01_k».proof.Proof.Gen.Kernel31Ideal.Value
public import proofs.«01_k».proof.Proof.Gen.Reference31Ideal.Read
public import proofs.«01_k».proof.Proof.Calls.Tn
public import Idealize.ShloMosaic.Lib.Pipeline.ValueKit
public import Idealize.ShloMosaic.Lib.Pipeline.ReadBack
public import Idealize.ShloMosaic.Lib.Pointwise
public import Idealize.ShloMosaic.Lib.StableHlo.ReadAt

@[expose] public section

set_option maxRecDepth 16384

noncomputable section

namespace Cert.Kernel31Ideal.Val

open Cert.Kernel31Ideal Cert.Kernel31Ideal.Gen Idealize.ShloMosaic Idealize.ShloMosaic.TcCoe Idealize.SL.Sem
open Cert.Reference31Ideal.Read
open Idealize.ShloMosaic.Pipeline (Dat)

variable (m : (ℓ : Loc nD τ sig) → Buf (Elt Ideal) ℓ) (ρ : Dev nD → PrngReg)

/-- Which block of each array a grid point stages. -/
theorem idx : ∀ t : Fin cfg0.N, win0_0.index t = ![t.val % 8, t.val / 8] ∧ win0_1.index t = ![t.val % 8, 0] ∧ win0_2.index t = ![11 + t.val / 8, 0] :=
  (by decide +kernel : ∀ t : Fin grid0.N, win0_0.index t = ![t.val % 8, t.val / 8] ∧ win0_1.index t = ![t.val % 8, 0] ∧ win0_2.index t = ![11 + t.val / 8, 0])

/-- The column of the left factor that column `k` of grid point `t`'s block is. -/
def col (t : Fin cfg0.N) (k : Fin 512) : Fin 2048 :=
  ⟨512 * (t.val / 8) + k.val, by have h := t.isLt; have h' : cfg0.N = 32 := rfl; omega⟩

theorem col_val (t : Fin cfg0.N) (k : Fin 512) : (col t k).val = 512 * (t.val / 8) + k.val := rfl

/-- The row of the gradient that column `k` of the left factor makes. -/
def put (k : Fin 2048) : Fin 7680 := ⟨5632 + k.val, by omega⟩

theorem put_val (k : Fin 2048) : (put k).val = 5632 + k.val := rfl

theorem b0 (c : Dev nD) (t : Fin cfg0.N) (r : Fin 2048) (k : Fin 512) :
    iblk m c 0 t (ix2 r k) = m ((c.tc : Thread nD τ).loc main_arg0) (ix2 (Tn.row t.val r) (col t k)) := by
  blk_ext [iblk, V, idx t, Tn.row_val, col_val]

theorem b1 (c : Dev nD) (t : Fin cfg0.N) (r : Fin 2048) (l : Fin 1024) :
    iblk m c 1 t (ix2 r l) = m ((c.tc : Thread nD τ).loc main_arg1) (ix2 (Tn.row t.val r) l) := by
  blk_ext [iblk, V, idx t, Tn.row_val]

/-- The factors' columns, as a run of grid points reads them for row `k` and column `l` of its block. -/
abbrev lhs (c : Dev nD) (k : Fin 512) : Nat → Fin 16384 → EReal :=
  Tn.lhs (fun R j => m ((c.tc : Thread nD τ).loc main_arg0) (ix2 R j)) 512 k.val

def rhs (c : Dev nD) (l : Fin 1024) (R : Fin 16384) : EReal := m ((c.tc : Thread nD τ).loc main_arg1) (ix2 R l)

theorem lhs_eq (c : Dev nD) (t : Fin cfg0.N) (k : Fin 512) (R : Fin 16384) :
    lhs m c k (t.val / 8) R = m ((c.tc : Thread nD τ).loc main_arg0) (ix2 R (col t k)) :=
  Tn.lhs_eq _ (col t k) (col_val t k) R

theorem part (c : Dev nD) (t : Fin cfg0.N) (k : Fin 512) (l : Fin 1024) :
    k0_pay1 (iblk m c 0 t) (iblk m c 1 t) (ix2 k l) = Tn.term (lhs m c k) (rhs m c l) t.val := by
  unfold Tn.term
  simp only [lhs_eq]
  unfold rhs
  unfold_payloads
  pointwise
  simp only [b0, b1]

/-- The running sum at a run's last point. -/
theorem scr (c : Dev nD) (t : Fin cfg0.N) (ht : t.val % 8 = 7) (k : Fin 512) (l : Fin 1024) :
    (outsAt0 m c t.val t.isLt).2 (ix2 k l) = ∑ R : Fin 16384, lhs m c k (t.val / 8) R * rhs m c l R :=
  Tn.entry (fun n h => (outsAt0 m c n h).2 (ix2 k l)) (lhs m c k) (rhs m c l)
    (fun t h => by
      rw [outsAt0_A m c t h (by omega) (by omega), ← part m c t k l, zero_add]; frame_out
      unfold k0_pay2
      pointwise)
    (fun t h => by
      rw [← part m c t k l]
      by_cases h' : t.val % 8 = 7
      · rw [outsAt0_C m c t h (by omega) h']; frame_out
        rw [read_unread_whole]
        unfold k0_pay3
        pointwise
      · rw [outsAt0_B m c t h (by omega) h']; frame_out
        rw [read_unread_whole]
        unfold k0_pay3
        pointwise) t ht

/-- At a run's last point the output block is the running sum. -/
theorem out_eq (c : Dev nD) (t : Fin cfg0.N) (ht : t.val % 8 = 7) (k : Fin 512) (l : Fin 1024) :
    (outsAt0 m c t.val t.isLt).1 (ix2 k l) = (outsAt0 m c t.val t.isLt).2 (ix2 k l) := by
  rw [outsAt0_C m c t (by omega) (by omega) ht]
  frame_out
  unfold k0_pay4
  pointwise

/-- The reference's gradient, of the arguments. -/
abbrev ref (c : Dev nD) := val_main_v8 (F := Ideal) (m ((c.tc : Thread nD τ).loc main_arg0)) (m ((c.tc : Thread nD τ).loc main_arg1)) (m ((c.tc : Thread nD τ).loc main_arg3))

/-- The reference's gradient at an entry of the rows the call makes. -/
theorem ref_in (c : Dev nD) (t : Fin cfg0.N) (k : Fin 512) (l : Fin 1024) :
    ref m c (ix2 (put (col t k)) l) = ∑ R : Fin 16384, lhs m c k (t.val / 8) R * rhs m c l R := by
  simp only [lhs_eq]
  unfold ref rhs
  have h := (col t k).isLt
  pointwise [val_main_v8, val_main_v7, val_main_v6, val_main_v5, val_main_v4, val_main_v3, val_main_v1, val_main_v0, put_val]

/-- The reference's gradient elsewhere is the one given. -/
theorem ref_out (c : Dev nD) (i : S7680x1024.Idx) (h : ¬(5632 ≤ (i 0).val ∧ (i 0).val < 5632 + 2048)) :
    ref m c i = m ((c.tc : Thread nD τ).loc main_arg3) i := by
  idx_vars i
  have h' : ¬(5632 ≤ i0.val ∧ i0.val < 5632 + 2048) := h
  unfold ref
  pointwise [val_main_v8, val_main_v7, val_main_v6, val_main_v5, val_main_v4, val_main_v3, val_main_v1, val_main_v0]
  rw [dif_pos (by omega)]

/-- The gradient the call is given, where it does not write. -/
theorem given (c : Dev nD) (i : S7680x1024.Idx) : V m c main_v0 i = m ((c.tc : Thread nD τ).loc main_arg3) i := by
  unfold V
  after_reads_at
  rfl

/-- The gradient after the run, from what every run's last point leaves. -/
theorem arr_of (c : Dev nD) (G : S7680x1024.Idx → EReal)
    (hG : ∀ (t : Fin cfg0.N), t.val % 8 = 7 → ∀ (k : Fin 512) (l : Fin 1024), (outsAt0 m c t.val t.isLt).1 (ix2 k l) = G (ix2 (put (col t k)) l))
    (hA : ∀ i : S7680x1024.Idx, ¬(5632 ≤ (i 0).val ∧ (i 0).val < 5632 + 2048) → m ((c.tc : Thread nD τ).loc main_arg3) i = G i) :
    (dats m 0 c).arrAt 2 cfg0.N = G := by
  refine (dats m 0 c).arrAt_eq_of_coversWhere_of_agree 2 _ (fun β => 11 ≤ β (0 : Fin 2) ∧ β (0 : Fin 2) < 15) (by decide +kernel)
    (fun t hf y => ?_) (fun j hj => ?_)
  · have ht : t.val % 8 = 7 := (flush0_2 t).mp hf
    blk_simp
    rw [after0_2]
    obtain ⟨k, l, rfl⟩ : ∃ (k : Fin 512) (l : Fin 1024), y = ix2 k l := ⟨y 0, y 1, by blk_ext []⟩
    have e : (win0_2.blk t).view.emb (ix2 k l) = ix2 (put (col t k)) l := by blk_ext [idx t, col_val, put_val]
    rw [e]
    exact hG t ht k l
  · rw [A_eq]
    refine (given m c _).trans (hA _ ?_)
    blk_simp [Pipeline.Window.cell_apply] at hj ⊢
    omega

theorem arr (c : Dev nD) : (dats m 0 c).arrAt 2 cfg0.N = ref m c :=
  arr_of m c _ (fun t ht k l => by rw [out_eq m c t ht, scr m c t ht, ref_in]) (fun i h => (ref_out m c i h).symm)

/-- The call's result is the reference's. -/
theorem algebraic : Cert.algebraic_Kernel31Ideal_Reference31Ideal := fun m g m' g' _ e =>
  ⟨fun c => ref m c,
    (θ_run (Cert.Kernel31Ideal.defs (F := Ideal)) _ _).mono (fun _ h c => ⟨(h c).1.trans (arr m c), (h c).2⟩) (Cert.Kernel31Ideal.Value.run_blocks m g),
    (θ_run Cert.Reference31Ideal.defs _ _).mono (fun _ h c => by
      obtain ⟨e0, e1, e2, e3⟩ := e c
      refine ⟨(h c).1.trans ((val_main_v8_eq _ _ _).trans ?_), (h c).2⟩
      rw [e0, e1, e3]) (Cert.Reference31Ideal.Value.run m' g')⟩

end Cert.Kernel31Ideal.Val

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Calls.In
public import proofs.«01_k».proof.Proof.Gen.Pre_finite_down
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Calls.Down
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Calls.Up
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Calls.Merge
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Calls.WdGrad
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Calls.WguGrad
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Calls.Proj
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Calls.UpFwd
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Calls.WdFwd
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Calls.MergeFwd
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Calls.WoGrad
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Calls.WpaGrad
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Calls.WpbGrad
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Pre_finite_lb
public import proofs.«01_k».proof.Proof.Calls.Adamw
public import proofs.«01_k».proof.Proof.Calls.SumSlots
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Calls.LbBwd
public import proofs.«01_k».proof.Proof.Calls.LbFwd
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Calls.LossHead
public import proofs.«01_k».proof.Proof.Calls.WdFwdLast
public import proofs.«01_k».proof.Proof.Calls.WinGradHg
public import proofs.«01_k».proof.Proof.Calls.WinGradAq
public import proofs.«01_k».proof.Proof.Calls.WinGradAk
public import proofs.«01_k».proof.Proof.Calls.WinGradAv
public import proofs.«01_k».proof.Proof.Calls.WinGradGates
public import Idealize.ShloMosaic.Adequacy
public import Idealize.ShloMosaic.Init

@[expose] public section

noncomputable section

namespace Cert.Proof

open Idealize.ShloMosaic Idealize.SL.Sem

/-- The reference of `Kernel` runs, keeps its arguments and leaves every counter at zero. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- The reference of `Kernel2` runs, keeps its arguments and leaves every counter at zero. -/
theorem frame_reference2 : Cert.quiescent_Reference2Ideal := fun m ρ _ =>
  (θ_run Cert.Reference2Ideal.defs _ _).mono
    (fun r h => ⟨fun c => (h c).2, sem_eq_zero_of_no_sems (by decide) r.2⟩) (Cert.Reference2Ideal.Value.run m ρ)

/-- The reference of `Kernel3` runs, keeps its arguments and leaves every counter at zero. -/
theorem frame_reference3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run m ρ)

/-- The reference of `Kernel4` runs, keeps its arguments and leaves every counter at zero. -/
theorem frame_reference4 : Cert.quiescent_Reference4Ideal := fun m ρ _ =>
  (θ_run Cert.Reference4Ideal.defs _ _).mono
    (fun r h => ⟨fun c => (h c).2.2.2.2.2, sem_eq_zero_of_no_sems (by decide) r.2⟩) (Cert.Reference4Ideal.Value.run m ρ)

/-- The reference of `Kernel5` runs, keeps its arguments and leaves every counter at zero. -/
theorem frame_reference5 : Cert.quiescent_Reference5Ideal := fun m ρ _ =>
  (θ_run Cert.Reference5Ideal.defs _ _).mono
    (fun r h => ⟨fun c => (h c).2, sem_eq_zero_of_no_sems (by decide) r.2⟩) (Cert.Reference5Ideal.Value.run m ρ)

/-- The reference of `Kernel6` runs, keeps its arguments and leaves every counter at zero. -/
theorem frame_reference6 : Cert.quiescent_Reference6Ideal := fun m ρ _ =>
  (θ_run Cert.Reference6Ideal.defs _ _).mono
    (fun r h => ⟨fun c => (h c).2, sem_eq_zero_of_no_sems (by decide) r.2⟩) (Cert.Reference6Ideal.Value.run m ρ)

/-- The reference of `Kernel7` runs, keeps its arguments and leaves every counter at zero. -/
theorem frame_reference7 : Cert.quiescent_Reference7Ideal := fun m ρ _ =>
  (θ_run Cert.Reference7Ideal.defs _ _).mono
    (fun r h => ⟨fun c => (h c).2, sem_eq_zero_of_no_sems (by decide) r.2⟩) (Cert.Reference7Ideal.Value.run m ρ)

/-- The reference of `Kernel8` runs, keeps its arguments and leaves every counter at zero. -/
theorem frame_reference8 : Cert.quiescent_Reference8Ideal := fun m ρ _ =>
  (θ_run Cert.Reference8Ideal.defs _ _).mono
    (fun r h => ⟨fun c => (h c).2.2, sem_eq_zero_of_no_sems (by decide) r.2⟩) (Cert.Reference8Ideal.Value.run m ρ)

/-- The reference of `Kernel9` runs, keeps its arguments and leaves every counter at zero. -/
theorem frame_reference9 : Cert.quiescent_Reference9Ideal := fun m ρ _ =>
  (θ_run Cert.Reference9Ideal.defs _ _).mono
    (fun r h => ⟨fun c => (h c).2.2, sem_eq_zero_of_no_sems (by decide) r.2⟩) (Cert.Reference9Ideal.Value.run m ρ)

/-- The reference of `Kernel10` runs, keeps its arguments and leaves every counter at zero. -/
theorem frame_reference10 : Cert.quiescent_Reference10Ideal := fun m ρ _ =>
  (θ_run Cert.Reference10Ideal.defs _ _).mono
    (fun r h => ⟨fun c => (h c).2.2.2.2.2, sem_eq_zero_of_no_sems (by decide) r.2⟩) (Cert.Reference10Ideal.Value.run m ρ)

/-- The reference of `Kernel11` runs, keeps its arguments and leaves every counter at zero. -/
theorem frame_reference11 : Cert.quiescent_Reference11Ideal := fun m ρ _ =>
  (θ_run Cert.Reference11Ideal.defs _ _).mono
    (fun r h => ⟨fun c => (h c).2, sem_eq_zero_of_no_sems (by decide) r.2⟩) (Cert.Reference11Ideal.Value.run m ρ)

/-- The reference of `Kernel12` runs, keeps its arguments and leaves every counter at zero. -/
theorem frame_reference12 : Cert.quiescent_Reference12Ideal := fun m ρ _ =>
  (θ_run Cert.Reference12Ideal.defs _ _).mono
    (fun r h => ⟨fun c => (h c).2, sem_eq_zero_of_no_sems (by decide) r.2⟩) (Cert.Reference12Ideal.Value.run m ρ)

/-- The reference of `Kernel13` runs, keeps its arguments and leaves every counter at zero. -/
theorem frame_reference13 : Cert.quiescent_Reference13Ideal := fun m ρ _ =>
  (θ_run Cert.Reference13Ideal.defs _ _).mono
    (fun r h => ⟨fun c => (h c).2, sem_eq_zero_of_no_sems (by decide) r.2⟩) (Cert.Reference13Ideal.Value.run m ρ)

/-- The reference of `Kernel14` runs, keeps its arguments and leaves every counter at zero. -/
theorem frame_reference14 : Cert.quiescent_Reference14Ideal := fun m ρ _ =>
  (θ_run Cert.Reference14Ideal.defs _ _).mono
    (fun r h => ⟨fun c => (h c).2.2.2, sem_eq_zero_of_no_sems (by decide) r.2⟩) (Cert.Reference14Ideal.Value.run m ρ)

/-- The reference of `Kernel15` runs, keeps its arguments and leaves every counter at zero. -/
theorem frame_reference15 : Cert.quiescent_Reference15Ideal := fun m ρ _ =>
  (θ_run Cert.Reference15Ideal.defs _ _).mono
    (fun r h => ⟨fun c => (h c).2.2.2, sem_eq_zero_of_no_sems (by decide) r.2⟩) (Cert.Reference15Ideal.Value.run m ρ)

/-- The reference of `Kernel16` runs, keeps its arguments and leaves every counter at zero. -/
theorem frame_reference16 : Cert.quiescent_Reference16Ideal := fun m ρ _ =>
  (θ_run Cert.Reference16Ideal.defs _ _).mono
    (fun r h => ⟨fun c => (h c).2.2.2, sem_eq_zero_of_no_sems (by decide) r.2⟩) (Cert.Reference16Ideal.Value.run m ρ)

/-- The reference of `Kernel17` runs, keeps its arguments and leaves every counter at zero. -/
theorem frame_reference17 : Cert.quiescent_Reference17Ideal := fun m ρ _ =>
  (θ_run Cert.Reference17Ideal.defs _ _).mono
    (fun r h => ⟨fun c => (h c).2.2.2, sem_eq_zero_of_no_sems (by decide) r.2⟩) (Cert.Reference17Ideal.Value.run m ρ)

/-- The reference of `Kernel18` runs, keeps its arguments and leaves every counter at zero. -/
theorem frame_reference18 : Cert.quiescent_Reference18Ideal := fun m ρ _ =>
  (θ_run Cert.Reference18Ideal.defs _ _).mono
    (fun r h => ⟨fun c => (h c).2.2.2, sem_eq_zero_of_no_sems (by decide) r.2⟩) (Cert.Reference18Ideal.Value.run m ρ)

/-- The reference of `Kernel19` runs, keeps its arguments and leaves every counter at zero. -/
theorem frame_reference19 : Cert.quiescent_Reference19Ideal := fun m ρ _ =>
  (θ_run Cert.Reference19Ideal.defs _ _).mono
    (fun r h => ⟨fun c => (h c).2.2.2, sem_eq_zero_of_no_sems (by decide) r.2⟩) (Cert.Reference19Ideal.Value.run m ρ)

/-- The reference of `Kernel20` runs, keeps its arguments and leaves every counter at zero. -/
theorem frame_reference20 : Cert.quiescent_Reference20Ideal := fun m ρ _ =>
  (θ_run Cert.Reference20Ideal.defs _ _).mono
    (fun r h => ⟨fun c => (h c).2.2.2, sem_eq_zero_of_no_sems (by decide) r.2⟩) (Cert.Reference20Ideal.Value.run m ρ)

/-- The reference of `Kernel21` runs, keeps its arguments and leaves every counter at zero. -/
theorem frame_reference21 : Cert.quiescent_Reference21Ideal := fun m ρ _ =>
  (θ_run Cert.Reference21Ideal.defs _ _).mono
    (fun r h => ⟨fun c => (h c).2, sem_eq_zero_of_no_sems (by decide) r.2⟩) (Cert.Reference21Ideal.Value.run m ρ)

/-- The reference of `Kernel22` runs, keeps its arguments and leaves every counter at zero. -/
theorem frame_reference22 : Cert.quiescent_Reference22Ideal := fun m ρ _ =>
  (θ_run Cert.Reference22Ideal.defs _ _).mono
    (fun r h => ⟨fun c => (h c).2, sem_eq_zero_of_no_sems (by decide) r.2⟩) (Cert.Reference22Ideal.Value.run m ρ)

/-- The reference of `Kernel23` runs, keeps its arguments and leaves every counter at zero. -/
theorem frame_reference23 : Cert.quiescent_Reference23Ideal := fun m ρ _ =>
  (θ_run Cert.Reference23Ideal.defs _ _).mono
    (fun r h => ⟨fun c => (h c).2, sem_eq_zero_of_no_sems (by decide) r.2⟩) (Cert.Reference23Ideal.Value.run m ρ)

/-- The reference of `Kernel24` runs, keeps its arguments and leaves every counter at zero. -/
theorem frame_reference24 : Cert.quiescent_Reference24Ideal := fun m ρ _ =>
  (θ_run Cert.Reference24Ideal.defs _ _).mono
    (fun r h => ⟨fun c => (h c).2, sem_eq_zero_of_no_sems (by decide) r.2⟩) (Cert.Reference24Ideal.Value.run m ρ)

/-- The reference of `Kernel25` runs, keeps its arguments and leaves every counter at zero. -/
theorem frame_reference25 : Cert.quiescent_Reference25Ideal := fun m ρ _ =>
  (θ_run Cert.Reference25Ideal.defs _ _).mono
    (fun r h => ⟨fun c => (h c).2.2.2, sem_eq_zero_of_no_sems (by decide) r.2⟩) (Cert.Reference25Ideal.Value.run m ρ)

/-- The reference of `Kernel26` runs, keeps its arguments and leaves every counter at zero. -/
theorem frame_reference26 : Cert.quiescent_Reference26Ideal := fun m ρ _ =>
  (θ_run Cert.Reference26Ideal.defs _ _).mono
    (fun r h => ⟨fun c => (h c).2, sem_eq_zero_of_no_sems (by decide) r.2⟩) (Cert.Reference26Ideal.Value.run m ρ)

/-- The reference of `Kernel27` runs, keeps its arguments and leaves every counter at zero. -/
theorem frame_reference27 : Cert.quiescent_Reference27Ideal := fun m ρ _ =>
  (θ_run Cert.Reference27Ideal.defs _ _).mono
    (fun r h => ⟨fun c => (h c).2, sem_eq_zero_of_no_sems (by decide) r.2⟩) (Cert.Reference27Ideal.Value.run m ρ)

/-- The reference of `Kernel28` runs, keeps its arguments and leaves every counter at zero. -/
theorem frame_reference28 : Cert.quiescent_Reference28Ideal := fun m ρ _ =>
  (θ_run Cert.Reference28Ideal.defs _ _).mono
    (fun r h => ⟨fun c => (h c).2, sem_eq_zero_of_no_sems (by decide) r.2⟩) (Cert.Reference28Ideal.Value.run m ρ)

/-- The reference of `Kernel29` runs, keeps its arguments and leaves every counter at zero. -/
theorem frame_reference29 : Cert.quiescent_Reference29Ideal := fun m ρ _ =>
  (θ_run Cert.Reference29Ideal.defs _ _).mono
    (fun r h => ⟨fun c => (h c).2, sem_eq_zero_of_no_sems (by decide) r.2⟩) (Cert.Reference29Ideal.Value.run m ρ)

/-- The reference of `Kernel30` runs, keeps its arguments and leaves every counter at zero. -/
theorem frame_reference30 : Cert.quiescent_Reference30Ideal := fun m ρ _ =>
  (θ_run Cert.Reference30Ideal.defs _ _).mono
    (fun r h => ⟨fun c => (h c).2, sem_eq_zero_of_no_sems (by decide) r.2⟩) (Cert.Reference30Ideal.Value.run m ρ)

/-- The reference of `Kernel31` runs, keeps its arguments and leaves every counter at zero. -/
theorem frame_reference31 : Cert.quiescent_Reference31Ideal := fun m ρ _ =>
  (θ_run Cert.Reference31Ideal.defs _ _).mono
    (fun r h => ⟨fun c => (h c).2, sem_eq_zero_of_no_sems (by decide) r.2⟩) (Cert.Reference31Ideal.Value.run m ρ)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Pre_finite_down.Gen.facts, Cert.Pre_finite_lb.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, fun m ρ _ => Cert.Kernel2Ideal.Gen.frame m ρ, frame_reference2, fun m ρ _ => frame_reference2 m ρ trivial,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, fun m ρ _ => Cert.Kernel23Ideal.Gen.frame m ρ, frame_reference23, fun m ρ _ => frame_reference23 m ρ trivial,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  fun m ρ _ => Cert.Kernel29.Gen.frame m ρ, fun m ρ _ => Cert.Kernel29Ideal.Gen.frame m ρ, frame_reference29,
  fun m ρ _ => Cert.Kernel30.Gen.frame m ρ, fun m ρ _ => Cert.Kernel30Ideal.Gen.frame m ρ, frame_reference30,
  fun m ρ _ => Cert.Kernel31.Gen.frame m ρ, fun m ρ _ => Cert.Kernel31Ideal.Gen.frame m ρ, frame_reference31,
  trivial, Cert.KernelIdeal.Val.algebraic,
  trivial, Cert.Kernel2Ideal.Val.algebraic,
  trivial, Cert.Kernel3Ideal.Val.algebraic,
  trivial, Cert.Kernel4Ideal.Val.algebraic,
  trivial, Cert.Kernel5Ideal.Val.algebraic,
  trivial, Cert.Kernel6Ideal.Val.algebraic,
  trivial, Cert.Kernel7Ideal.Val.algebraic,
  trivial, Cert.Kernel8Ideal.Val.algebraic,
  trivial, Cert.Kernel9Ideal.Val.algebraic,
  trivial, Cert.Kernel10Ideal.Val.algebraic,
  trivial, Cert.Kernel11Ideal.Val.algebraic,
  trivial, Cert.Kernel12Ideal.Val.algebraic,
  trivial, Cert.Kernel13Ideal.Val.algebraic,
  Cert.Kernel14Ideal.Val.preserves, Cert.Kernel14Ideal.Val.algebraic,
  Cert.Kernel15Ideal.Val.preserves, Cert.Kernel15Ideal.Val.algebraic,
  Cert.Kernel16Ideal.Val.preserves, Cert.Kernel16Ideal.Val.algebraic,
  Cert.Kernel17Ideal.Val.preserves, Cert.Kernel17Ideal.Val.algebraic,
  Cert.Kernel18Ideal.Val.preserves, Cert.Kernel18Ideal.Val.algebraic,
  Cert.Kernel19Ideal.Val.preserves, Cert.Kernel19Ideal.Val.algebraic,
  Cert.Kernel20Ideal.Val.preserves, Cert.Kernel20Ideal.Val.algebraic,
  trivial, Cert.Kernel21Ideal.Val.algebraic,
  trivial, Cert.Kernel22Ideal.Val.algebraic,
  trivial, Cert.Kernel23Ideal.Val.algebraic,
  trivial, Cert.Kernel24Ideal.Val.algebraic,
  trivial, Cert.Kernel25Ideal.Val.algebraic,
  trivial, Cert.Kernel26Ideal.Val.algebraic,
  trivial, Cert.Kernel27Ideal.Val.algebraic,
  trivial, Cert.Kernel28Ideal.Val.algebraic,
  trivial, Cert.Kernel29Ideal.Val.algebraic,
  trivial, Cert.Kernel30Ideal.Val.algebraic,
  trivial, Cert.Kernel31Ideal.Val.algebraic⟩

end Cert.Proof

end
